-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gates [hPre_finite_gates : Cert.Pre_finite_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gates [hPre_finite_gates : Cert.Pre_finite_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_rows [hPre_finite_rows : Cert.Pre_finite_rows.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_rows.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_rows [hPre_finite_rows : Cert.Pre_finite_rows.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_rows.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_router [hPre_finite_router : Cert.Pre_finite_router.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_router [hPre_finite_router : Cert.Pre_finite_router.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_cond [hPre_finite_cond : Cert.Pre_finite_cond.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_cond.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_cond [hPre_finite_cond : Cert.Pre_finite_cond.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_cond.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_gates [hKernel2Ideal : Cert.Kernel2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_gates [hReference2Ideal : Cert.Reference2Ideal.Facts] [hPre_finite_gates : Cert.Pre_finite_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_rows [hKernel4Ideal : Cert.Kernel4Ideal.Facts] [hPre_finite_rows : Cert.Pre_finite_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_rows m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_rows [hReference4Ideal : Cert.Reference4Ideal.Facts] [hPre_finite_rows : Cert.Pre_finite_rows.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_rows m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_router [hKernel5Ideal : Cert.Kernel5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_router m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_router [hReference5Ideal : Cert.Reference5Ideal.Facts] [hPre_finite_router : Cert.Pre_finite_router.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_router m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_cond [hKernel6Ideal : Cert.Kernel6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_cond m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_cond [hReference6Ideal : Cert.Reference6Ideal.Facts] [hPre_finite_cond : Cert.Pre_finite_cond.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_cond m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_gates [hKernel2Ideal : Cert.Kernel2Ideal.Facts] [hReference2Ideal : Cert.Reference2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v42)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_rows [hKernel4Ideal : Cert.Kernel4Ideal.Facts] [hReference4Ideal : Cert.Reference4Ideal.Facts] [hPre_finite_rows : Cert.Pre_finite_rows.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_rows m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v341) = v0 c
          ∧ r.2.mem ((c.tc : Thread Cert.Reference4Ideal.nD Cert.Reference4Ideal.τ).loc Cert.Reference4Ideal.main_v342) = v1 c
          ∧ r.2.mem ((c.tc : Thread Cert.Reference4Ideal.nD Cert.Reference4Ideal.τ).loc Cert.Reference4Ideal.main_v343) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_router [hKernel5Ideal : Cert.Kernel5Ideal.Facts] [hReference5Ideal : Cert.Reference5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_router m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v99) = v1 c
          ∧ r.2.mem ((c.tc : Thread Cert.Reference5Ideal.nD Cert.Reference5Ideal.τ).loc Cert.Reference5Ideal.main_v100) = v2 c
          ∧ r.2.mem ((c.tc : Thread Cert.Reference5Ideal.nD Cert.Reference5Ideal.τ).loc Cert.Reference5Ideal.main_v101) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_finite_cond [hKernel6Ideal : Cert.Kernel6Ideal.Facts] [hReference6Ideal : Cert.Reference6Ideal.Facts] [hPre_finite_cond : Cert.Pre_finite_cond.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_cond m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gains : Cert.Pre_finite_gains.Facts) (hPre_finite_gates : Cert.Pre_finite_gates.Facts) (hPre_finite_rows : Cert.Pre_finite_rows.Facts) (hPre_finite_router : Cert.Pre_finite_router.Facts) (hPre_finite_cond : Cert.Pre_finite_cond.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Kernel2Ideal_pre_finite_gates (hKernel2Ideal := hKernel2Ideal) (hPre_finite_gates := hPre_finite_gates)
    ∧ quiescent_Reference2Ideal (hReference2Ideal := hReference2Ideal)
    ∧ quiescent_Reference2Ideal_pre_finite_gates (hReference2Ideal := hReference2Ideal) (hPre_finite_gates := hPre_finite_gates)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_rows (hKernel4Ideal := hKernel4Ideal) (hPre_finite_rows := hPre_finite_rows)
    ∧ quiescent_Reference4Ideal (hReference4Ideal := hReference4Ideal)
    ∧ quiescent_Reference4Ideal_pre_finite_rows (hReference4Ideal := hReference4Ideal) (hPre_finite_rows := hPre_finite_rows)
    ∧ quiescent_Kernel5 (hKernel5 := hKernel5)
    ∧ quiescent_Kernel5Ideal (hKernel5Ideal := hKernel5Ideal)
    ∧ quiescent_Kernel5Ideal_pre_finite_router (hKernel5Ideal := hKernel5Ideal) (hPre_finite_router := hPre_finite_router)
    ∧ quiescent_Reference5Ideal (hReference5Ideal := hReference5Ideal)
    ∧ quiescent_Reference5Ideal_pre_finite_router (hReference5Ideal := hReference5Ideal) (hPre_finite_router := hPre_finite_router)
    ∧ quiescent_Kernel6 (hKernel6 := hKernel6)
    ∧ quiescent_Kernel6Ideal (hKernel6Ideal := hKernel6Ideal)
    ∧ quiescent_Kernel6Ideal_pre_finite_cond (hKernel6Ideal := hKernel6Ideal) (hPre_finite_cond := hPre_finite_cond)
    ∧ quiescent_Reference6Ideal (hReference6Ideal := hReference6Ideal)
    ∧ quiescent_Reference6Ideal_pre_finite_cond (hReference6Ideal := hReference6Ideal) (hPre_finite_cond := hPre_finite_cond)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal_pre_finite_gates (hKernel2Ideal := hKernel2Ideal) (hReference2Ideal := hReference2Ideal) (hPre_finite_gates := hPre_finite_gates)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_rows (hKernel4Ideal := hKernel4Ideal) (hReference4Ideal := hReference4Ideal) (hPre_finite_rows := hPre_finite_rows)
    ∧ preserves_Kernel5_Kernel5Ideal
    ∧ algebraic_Kernel5Ideal_Reference5Ideal_pre_finite_router (hKernel5Ideal := hKernel5Ideal) (hReference5Ideal := hReference5Ideal) (hPre_finite_router := hPre_finite_router)
    ∧ preserves_Kernel6_Kernel6Ideal
    ∧ algebraic_Kernel6Ideal_Reference6Ideal_pre_finite_cond (hKernel6Ideal := hKernel6Ideal) (hReference6Ideal := hReference6Ideal) (hPre_finite_cond := hPre_finite_cond)
-- ==== Pre_finite_cond.lean ====
abbrev S1024 : Shape := ⟨1, ![1024]⟩
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S1024 .f32) (main_arg1 : FVec F S8x1024 .f32) (main_arg2 : FVec F S2x1024x6144 .f32) (main_arg3 : FVec F S2x6144 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_finite_gains.lean ====
abbrev S12288x3072 : Shape := ⟨2, ![12288, 3072]⟩
abbrev S1x64 : Shape := ⟨2, ![1, 64]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel

variable [Facts]

def fn {F : FTy → Type} [FloatOps F] (main_arg0 : FVec F S12288x3072 .bf16) (main_arg1 : FVec F S1x64 .f32) (main_arg2 : FVec F S1x64 .f32) : IVec S_ 1 :=
  let main_v0 : FVec F S1x64 .f32 := Host.absf main_arg1
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  main_v8
-- ==== Pre_finite_gates.lean ====
abbrev S16x1024x1024 : Shape := ⟨3, ![16, 1024, 1024]⟩
abbrev S16x512x1024 : Shape := ⟨3, ![16, 512, 1024]⟩
abbrev S16x1024x1 : Shape := ⟨3, ![16, 1024, 1]⟩
abbrev S16x512x1 : Shape := ⟨3, ![16, 512, 1]⟩
abbrev S2x16x1024x2688 : Shape := ⟨4, ![2, 16, 1024, 2688]⟩
abbrev S2x16x2688x1024 : Shape := ⟨4, ![2, 16, 2688, 1024]⟩
abbrev S_ : Shape := ⟨0, ![]⟩

class Facts : Prop where
  bcast_S_S16x1024x1 : S_.BroadcastsInDim S16x1024x1 (![] : Fin 0 → Fin S16x1024x1.rank)
  reducesTo_S16x1024x1_S_d0_1_2 : S16x1024x1.ReducesTo [0, 1, 2] S_
  h_S_ : 0 < S_.numel
  bcast_S_S16x512x1 : S_.BroadcastsInDim S16x512x1 (![] : Fin 0 → Fin S16x512x1.rank)
  reducesTo_S16x512x1_S_d0_1_2 : S16x512x1.ReducesTo [0, 1, 2] S_

variable [Facts]

def fn {F : FTy → Type} [FloatOps F] (main_arg0 : FVec F S16x1024x1024 .bf16) (main_arg1 : FVec F S16x512x1024 .bf16) (main_arg2 : FVec F S16x1024x1 .f32) (main_arg3 : FVec F S16x512x1 .f32) (main_arg4 : FVec F S2x16x1024x2688 .f32) (main_arg5 : FVec F S2x16x1024x2688 .f32) (main_arg6 : FVec F S2x16x2688x1024 .f32) : IVec S_ 1 :=
  let main_v0 : FVec F S16x1024x1 .f32 := Host.absf main_arg2
  let main_cst : FVec F S_ .f32 := constant S_ .f32 0x7F800000#32
  let main_v1 : FVec F S16x1024x1 .f32 := broadcastInDim S16x1024x1 ![] bcast_S_S16x1024x1 main_cst
  let main_v2 : IVec S16x1024x1 1 := cmpf .olt main_v0 main_v1
  let main_c : IVec S_ 1 := constantI S_ 1 1#1
  let main_v3 : IVec S_ 1 := (fun x v => Host.reduce IntOp.andi x v reducesTo_S16x1024x1_S_d0_1_2 h_S_) main_v2 main_c
  let main_v4 : FVec F S16x512x1 .f32 := Host.absf main_arg3
  let main_cst_0 : FVec F S_ .f32 := constant S_ .f32 0x7F800000#32
  let main_v5 : FVec F S16x512x1 .f32 := broadcastInDim S16x512x1 ![] bcast_S_S16x512x1 main_cst_0
  let main_v6 : IVec S16x512x1 1 := cmpf .olt main_v4 main_v5
  let main_c_1 : IVec S_ 1 := constantI S_ 1 1#1
  let main_v7 : IVec S_ 1 := (fun x v => Host.reduce IntOp.andi x v reducesTo_S16x512x1_S_d0_1_2 h_S_) main_v6 main_c_1
  let main_v8 : IVec S_ 1 := andi main_v3 main_v7
  main_v8
-- ==== Pre_finite_router.lean ====
abbrev S8192x1024 : Shape := ⟨2, ![8192, 1024]⟩
abbrev S4096x1024 : Shape := ⟨2, ![4096, 1024]⟩
abbrev S12288x1024 : Shape := ⟨2, ![12288, 1024]⟩
abbrev S1x1024x1024 : Shape := ⟨3, ![1, 1024, 1024]⟩
abbrev S2x1024 : Shape := ⟨2, ![2, 1024]⟩
abbrev S2x16x6144 : Shape := ⟨3, ![2, 16, 6144]⟩
abbrev S2x1024x16 : Shape := ⟨3, ![2, 1024, 16]⟩
abbrev S1x1024 : Shape := ⟨2, ![1, 1024]⟩
abbrev S1024 : Shape := ⟨1, ![1024]⟩
abbrev S_ : Shape := ⟨0, ![]⟩
abbrev S1x9x2048 : Shape := ⟨3, ![1, 9, 2048]⟩
abbrev S9x2048 : Shape := ⟨2, ![9, 2048]⟩
abbrev S1x1024x16 : Shape := ⟨3, ![1, 1024, 16]⟩
abbrev S1024x16 : Shape := ⟨2, ![1024, 16]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x16x6144_S1x9x2048_1_0_3072 : S2x16x6144.Slices ![1, 0, 3072] S1x9x2048
  shapeCasts_S1x9x2048_S9x2048 : S1x9x2048.ShapeCasts S9x2048
  bcast_S_S9x2048 : S_.BroadcastsInDim S9x2048 (![] : Fin 0 → Fin S9x2048.rank)
  reducesTo_S9x2048_S_d0_1 : S9x2048.ReducesTo [0, 1] S_
  slices_S2x1024x16_S1x1024x16_1_0_0 : S2x1024x16.Slices ![1, 0, 0] S1x1024x16
  shapeCasts_S1x1024x16_S1024x16 : S1x1024x16.ShapeCasts S1024x16
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_v12 : IVec S_ 1) (main_v17 : IVec S1024x16 1) (main_c_3 : IVec S_ 1) : IVec S_ 1 :=
  let main_v18 : IVec S_ 1 := (fun x v => Host.reduce IntOp.andi x v reducesTo_S1024x16_S_d0_1 h_S_) main_v17 main_c_3
  let main_v19 : IVec S_ 1 := andi main_v12 main_v18
  main_v19

def fn {F : FTy → Type} [FloatOps F] (main_arg0 : FVec F S8192x1024 .bf16) (main_arg1 : FVec F S4096x1024 .bf16) (main_arg2 : FVec F S12288x1024 .f32) (main_arg3 : FVec F S1x1024x1024 .f32) (main_arg4 : FVec F S2x1024 .f32) (main_arg5 : FVec F S2x16x6144 .f32) (main_arg6 : FVec F S2x1024x16 .f32) : IVec S_ 1 :=
  let main_v0 : FVec F S1x1024 .f32 := (extractStridedSlice S1x1024 ![1, 0] · slices_S2x1024_S1x1024_1_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x9x2048 .f32 := (extractStridedSlice S1x9x2048 ![1, 0, 3072] · slices_S2x16x6144_S1x9x2048_1_0_3072) main_arg5
  let main_v7 : FVec F S9x2048 .f32 := shapeCast S9x2048 main_v6 shapeCasts_S1x9x2048_S9x2048
  let main_v8 : FVec F S9x2048 .f32 := Host.absf main_v7
  let main_cst_0 : FVec F S_ .f32 := constant S_ .f32 0x7F800000#32
  let main_v9 : FVec F S9x2048 .f32 := broadcastInDim S9x2048 ![] bcast_S_S9x2048 main_cst_0
  let main_v10 : IVec S9x2048 1 := cmpf .olt main_v8 main_v9
  let main_c_1 : IVec S_ 1 := constantI S_ 1 1#1
  let main_v11 : IVec S_ 1 := (fun x v => Host.reduce IntOp.andi x v reducesTo_S9x2048_S_d0_1 h_S_) main_v10 main_c_1
  let main_v12 : IVec S_ 1 := andi main_v5 main_v11
  let main_v13 : FVec F S1x1024x16 .f32 := (extractStridedSlice S1x1024x16 ![1, 0, 0] · slices_S2x1024x16_S1x1024x16_1_0_0) main_arg6
  let main_v14 : FVec F S1024x16 .f32 := shapeCast S1024x16 main_v13 shapeCasts_S1x1024x16_S1024x16
  let main_v15 : FVec F S1024x16 .f32 := Host.absf main_v14
  let main_cst_2 : FVec F S_ .f32 := constant S_ .f32 0x7F800000#32
  let main_v16 : FVec F S1024x16 .f32 := broadcastInDim S1024x16 ![] bcast_S_S1024x16 main_cst_2
  let main_v17 : IVec S1024x16 1 := cmpf .olt main_v15 main_v16
  let main_c_3 : IVec S_ 1 := constantI S_ 1 1#1
  fn_part1 (F := F) main_v12 main_v17 main_c_3
-- ==== Pre_finite_rows.lean ====
abbrev S12288x3584 : Shape := ⟨2, ![12288, 3584]⟩
abbrev S1x2x4 : Shape := ⟨3, ![1, 2, 4]⟩
abbrev S1x512 : Shape := ⟨2, ![1, 512]⟩
abbrev S1x3x512 : Shape := ⟨3, ![1, 3, 512]⟩
abbrev S4096x1536 : Shape := ⟨2, ![4096, 1536]⟩
abbrev S_ : Shape := ⟨0, ![]⟩

class Facts : Prop where
  slices_S12288x3584_S4096x1536_8192_0 : S12288x3584.Slices ![8192, 0] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel

variable [Facts]

def fn {F : FTy → Type} [FloatOps F] (main_arg0 : FVec F S12288x3584 .bf16) (main_arg1 : FVec F S1x2x4 .f32) (main_arg2 : FVec F S1x512 .f32) (main_arg3 : FVec F S1x3x512 .f32) : IVec S_ 1 :=
  let main_v0 : FVec F S4096x1536 .bf16 := (extractStridedSlice S4096x1536 ![8192, 0] · slices_S12288x3584_S4096x1536_8192_0) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  main_v5
-- ==== Kernel.lean ====
abbrev S12288x3072 : Shape := ⟨2, ![12288, 3072]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S4096x1024 : Shape := ⟨2, ![4096, 1024]⟩
abbrev S16x1x256x16x64 : Shape := ⟨5, ![16, 1, 256, 16, 64]⟩
abbrev S256x1024 : Shape := ⟨2, ![256, 1024]⟩
abbrev S1x1x256x16x64 : Shape := ⟨5, ![1, 1, 256, 16, 64]⟩
abbrev S256x16x64 : Shape := ⟨3, ![256, 16, 64]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 16
  | .vmem => 15
  | .smem => 0
  | _ => 0

abbrev bufTy : (tb : Table) → Fin (tcTables nBuf tb) → BufTy
  | .hbm, ⟨0, _⟩ => ⟨S12288x3072, .bf16⟩
  | .hbm, ⟨1, _⟩ => ⟨S1x64, .f32⟩
  | .hbm, ⟨2, _⟩ => ⟨S1x64, .f32⟩
  | .hbm, ⟨3, _⟩ => ⟨S64, .f32⟩
  | .hbm, ⟨4, _⟩ => ⟨S1x64, .f32⟩
  | .hbm, ⟨5, _⟩ => ⟨S2x64, .f32⟩
  | .hbm, ⟨6, _⟩ => ⟨S128, .f32⟩
  | .hbm, ⟨7, _⟩ => ⟨S1x128, .f32⟩
  | .hbm, ⟨8, _⟩ => ⟨S64, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S4096x1024, .bf16⟩
  | .hbm, ⟨14, _⟩ => ⟨S16x1x256x16x64, .f32⟩
  | .hbm, ⟨15, _⟩ => ⟨S16x1x256x16x64, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S1x1x256x16x64, .f32⟩
  | .local _ .vmem, ⟨11, _⟩ => ⟨S1x1x256x16x64, .f32⟩
  | .local _ .vmem, ⟨12, _⟩ => ⟨S1x1x256x16x64, .f32⟩
  | .local _ .vmem, ⟨13, _⟩ => ⟨S1x1x256x16x64, .f32⟩
  | .local _ .vmem, ⟨14, _⟩ => ⟨S256x1024, .f32⟩
  | _, _ => ⟨S12288x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S12288x3072 : Shape := ⟨2, ![12288, 3072]⟩
abbrev S1x64 : Shape := ⟨2, ![1, 64]⟩
abbrev S4096x3072 : Shape := ⟨2, ![4096, 3072]⟩
abbrev S4096x1024 : Shape := ⟨2, ![4096, 1024]⟩
abbrev S16x256x16x64 : Shape := ⟨4, ![16, 256, 16, 64]⟩
abbrev S64 : Shape := ⟨1, ![64]⟩
abbrev S_ : Shape := ⟨0, ![]⟩
abbrev S16x256x16 : Shape := ⟨3, ![16, 256, 16]⟩
abbrev S16x256x16x1 : Shape := ⟨4, ![16, 256, 16, 1]⟩
abbrev S1x1x1x64 : Shape := ⟨4, ![1, 1, 1, 64]⟩
abbrev S16x16x256x256 : Shape := ⟨4, ![16, 16, 256, 256]⟩
abbrev S16x16x256 : Shape := ⟨3, ![16, 16, 256]⟩
abbrev S16x16x256x1 : Shape := ⟨4, ![16, 16, 256, 1]⟩
abbrev S16x16x64x256 : Shape := ⟨4, ![16, 16, 64, 256]⟩
abbrev S16x1x256x16x64 : Shape := ⟨5, ![16, 1, 256, 16, 64]⟩

abbrev nBuf : Space → Nat
  | .hbm => 69
  | .vmem => 0
  | .smem => 0
  | _ => 0

abbrev bufTy : (tb : Table) → Fin (tcTables nBuf tb) → BufTy
  | .hbm, ⟨0, _⟩ => ⟨S12288x3072, .bf16⟩
  | .hbm, ⟨1, _⟩ => ⟨S1x64, .f32⟩
  | .hbm, ⟨2, _⟩ => ⟨S1x64, .f32⟩
  | .hbm, ⟨3, _⟩ => ⟨S4096x3072, .bf16⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S16x256x16x64, .f32⟩
  | .hbm, ⟨9, _⟩ => ⟨S64, .f32⟩
  | .hbm, ⟨10, _⟩ => ⟨S16x256x16x64, .f32⟩
  | .hbm, ⟨11, _⟩ => ⟨S_, .f32⟩
  | .hbm, ⟨12, _⟩ => ⟨S16x256x16, .f32⟩
  | .hbm, ⟨13, _⟩ => ⟨S16x256x16x1, .f32⟩
  | .hbm, ⟨14, _⟩ => ⟨S_, .f32⟩
  | .hbm, ⟨15, _⟩ => ⟨S16x256x16x1, .f32⟩
  | .hbm, ⟨16, _⟩ => ⟨S16x256x16x1, .f32⟩
  | .hbm, ⟨17, _⟩ => ⟨S_, .f32⟩
  | .hbm, ⟨18, _⟩ => ⟨S16x256x16x1, .f32⟩
  | .hbm, ⟨19, _⟩ => ⟨S16x256x16x1, .f32⟩
  | .hbm, ⟨20, _⟩ => ⟨S16x256x16x1, .f32⟩
  | .hbm, ⟨21, _⟩ => ⟨S16x256x16x64, .f32⟩
  | .hbm, ⟨22, _⟩ => ⟨S16x256x16x64, .f32⟩
  | .hbm, ⟨23, _⟩ => ⟨S1x1x1x64, .f32⟩
  | .hbm, ⟨24, _⟩ => ⟨S16x256x16x64, .f32⟩
  | .hbm, ⟨25, _⟩ => ⟨S16x256x16x64, .f32⟩
  | .hbm, ⟨26, _⟩ => ⟨S16x256x16x64, .f32⟩
  | .hbm, ⟨27, _⟩ => ⟨S64, .f32⟩
  | .hbm, ⟨28, _⟩ => ⟨S16x256x16x64, .f32⟩
  | .hbm, ⟨29, _⟩ => ⟨S_, .f32⟩
  | .hbm, ⟨30, _⟩ => ⟨S16x256x16, .f32⟩
  | .hbm, ⟨31, _⟩ => ⟨S16x256x16x1, .f32⟩
  | .hbm, ⟨32, _⟩ => ⟨S_, .f32⟩
  | .hbm, ⟨33, _⟩ => ⟨S16x256x16x1, .f32⟩
  | .hbm, ⟨34, _⟩ => ⟨S16x256x16x1, .f32⟩
  | .hbm, ⟨35, _⟩ => ⟨S_, .f32⟩
  | .hbm, ⟨36, _⟩ => ⟨S16x256x16x1, .f32⟩
  | .hbm, ⟨37, _⟩ => ⟨S16x256x16x1, .f32⟩
  | .hbm, ⟨38, _⟩ => ⟨S16x256x16x1, .f32⟩
  | .hbm, ⟨39, _⟩ => ⟨S16x256x16x64, .f32⟩
  | .hbm, ⟨40, _⟩ => ⟨S16x256x16x64, .f32⟩
  | .hbm, ⟨41, _⟩ => ⟨S1x1x1x64, .f32⟩
  | .hbm, ⟨42, _⟩ => ⟨S16x256x16x64, .f32⟩
  | .hbm, ⟨43, _⟩ => ⟨S16x256x16x64, .f32⟩
  | .hbm, ⟨44, _⟩ => ⟨S16x256x16x64, .f32⟩
  | .hbm, ⟨45, _⟩ => ⟨S16x16x256x256, .f32⟩
  | .hbm, ⟨46, _⟩ => ⟨S_, .f32⟩
  | .hbm, ⟨47, _⟩ => ⟨S16x16x256x256, .f32⟩
  | .hbm, ⟨48, _⟩ => ⟨S16x16x256x256, .f32⟩
  | .hbm, ⟨49, _⟩ => ⟨S_, .f32⟩
  | .hbm, ⟨50, _⟩ => ⟨S16x16x256, .f32⟩
  | .hbm, ⟨51, _⟩ => ⟨S_, .f32⟩
  | .hbm, ⟨52, _⟩ => ⟨S16x16x256, .f32⟩
  | .hbm, ⟨53, _⟩ => ⟨S16x16x256, .f32⟩
  | .hbm, ⟨54, _⟩ => ⟨S16x16x256x1, .f32⟩
  | .hbm, ⟨55, _⟩ => ⟨S16x16x256x256, .f32⟩
  | .hbm, ⟨56, _⟩ => ⟨S16x16x256x256, .f32⟩
  | .hbm, ⟨57, _⟩ => ⟨S16x16x256x256, .f32⟩
  | .hbm, ⟨58, _⟩ => ⟨S_, .f32⟩
  | .hbm, ⟨59, _⟩ => ⟨S16x16x256, .f32⟩
  | .hbm, ⟨60, _⟩ => ⟨S16x16x256x1, .f32⟩
  | .hbm, ⟨61, _⟩ => ⟨S16x16x256x256, .f32⟩
  | .hbm, ⟨62, _⟩ => ⟨S16x16x256x256, .f32⟩
  | .hbm, ⟨63, _⟩ => ⟨S16x16x64x256, .f32⟩
  | .hbm, ⟨64, _⟩ => ⟨S16x256x16x64, .f32⟩
  | .hbm, ⟨65, _⟩ => ⟨S4096x1024, .f32⟩
  | .hbm, ⟨66, _⟩ => ⟨S4096x1024, .bf16⟩
  | .hbm, ⟨67, _⟩ => ⟨S16x1x256x16x64, .f32⟩
  | .hbm, ⟨68, _⟩ => ⟨S16x1x256x16x64, .f32⟩
  | _, _ => ⟨S12288x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Kernel2.lean ====
abbrev S16x1024x1024 : Shape := ⟨3, ![16, 1024, 1024]⟩
abbrev S16x512x1024 : Shape := ⟨3, ![16, 512, 1024]⟩
abbrev S16x1024x1 : Shape := ⟨3, ![16, 1024, 1]⟩
abbrev S16x512x1 : Shape := ⟨3, ![16, 512, 1]⟩
abbrev S2x16x1024x2688 : Shape := ⟨4, ![2, 16, 1024, 2688]⟩
abbrev S2x16x2688x1024 : Shape := ⟨4, ![2, 16, 2688, 1024]⟩
abbrev S_ : Shape := ⟨0, ![]⟩
abbrev S16x1168x1024 : Shape := ⟨3, ![16, 1168, 1024]⟩
abbrev S16x656x1024 : Shape := ⟨3, ![16, 656, 1024]⟩
abbrev S128 : Shape := ⟨1, ![128]⟩
abbrev S1x1x128 : Shape := ⟨3, ![1, 1, 128]⟩
abbrev S16 : Shape := ⟨1, ![16]⟩
abbrev S16x1x1 : Shape := ⟨3, ![16, 1, 1]⟩
abbrev S16x1x128 : Shape := ⟨3, ![16, 1, 128]⟩
abbrev S16x1024x128 : Shape := ⟨3, ![16, 1024, 128]⟩
abbrev S16x1168x128 : Shape := ⟨3, ![16, 1168, 128]⟩
abbrev S16x512x128 : Shape := ⟨3, ![16, 512, 128]⟩
abbrev S16x656x128 : Shape := ⟨3, ![16, 656, 128]⟩
abbrev S16x1536x1024 : Shape := ⟨3, ![16, 1536, 1024]⟩
abbrev S1x1024x1024 : Shape := ⟨3, ![1, 1024, 1024]⟩
abbrev S1x512x1024 : Shape := ⟨3, ![1, 512, 1024]⟩
abbrev S1x1024x128 : Shape := ⟨3, ![1, 1024, 128]⟩
abbrev S1x512x128 : Shape := ⟨3, ![1, 512, 128]⟩
abbrev S1x1x1024x896 : Shape := ⟨4, ![1, 1, 1024, 896]⟩
abbrev S1x1x896x1024 : Shape := ⟨4, ![1, 1, 896, 1024]⟩
abbrev S1x1536x1024 : Shape := ⟨3, ![1, 1536, 1024]⟩
abbrev S1536x1024 : Shape := ⟨2, ![1536, 1024]⟩
abbrev S1024x1792 : Shape := ⟨2, ![1024, 1792]⟩
abbrev S1x128 : Shape := ⟨2, ![1, 128]⟩
abbrev S1024x896 : Shape := ⟨2, ![1024, 896]⟩
abbrev S896x1024 : Shape := ⟨2, ![896, 1024]⟩
abbrev S1024x1024 : Shape := ⟨2, ![1024, 1024]⟩
abbrev S512x1024 : Shape := ⟨2, ![512, 1024]⟩
abbrev S512x1792 : Shape := ⟨2, ![512, 1792]⟩
abbrev S512x896 : Shape := ⟨2, ![512, 896]⟩
abbrev S1024x128 : Shape := ⟨2, ![1024, 128]⟩
abbrev S1024 : Shape := ⟨1, ![1024]⟩
abbrev S1024x1 : Shape := ⟨2, ![1024, 1]⟩
abbrev S512x128 : Shape := ⟨2, ![512, 128]⟩
abbrev S512 : Shape := ⟨1, ![512]⟩
abbrev S512x1 : Shape := ⟨2, ![512, 1]⟩

abbrev nBuf : Space → Nat
  | .hbm => 76
  | .vmem => 18
  | .smem => 0
  | _ => 0

abbrev bufTy : (tb : Table) → Fin (tcTables nBuf tb) → BufTy
  | .hbm, ⟨0, _⟩ => ⟨S16x1024x1024, .bf16⟩
  | .hbm, ⟨1, _⟩ => ⟨S16x512x1024, .bf16⟩
  | .hbm, ⟨2, _⟩ => ⟨S16x1024x1, .f32⟩
  | .hbm, ⟨3, _⟩ => ⟨S16x512x1, .f32⟩
  | .hbm, ⟨4, _⟩ => ⟨S2x16x1024x2688, .f32⟩
  | .hbm, ⟨5, _⟩ => ⟨S2x16x1024x2688, .f32⟩
  | .hbm, ⟨6, _⟩ => ⟨S2x16x2688x1024, .f32⟩
  | .hbm, ⟨7, _⟩ => ⟨S_, .i32⟩
  | .hbm, ⟨8, _⟩ => ⟨S_, .bf16⟩
  | .hbm, ⟨9, _⟩ => ⟨S16x1168x1024, .bf16⟩
  | .hbm, ⟨10, _⟩ => ⟨S_, .i32⟩
  | .hbm, ⟨11, _⟩ => ⟨S_, .bf16⟩
  | .hbm, ⟨12, _⟩ => ⟨S16x656x1024, .bf16⟩
  | .hbm, ⟨13, _⟩ => ⟨S16x1024x1, .bf16⟩
  | .hbm, ⟨14, _⟩ => ⟨S16x1024x1, .f32⟩
  | .hbm, ⟨15, _⟩ => ⟨S16x1024x1, .f32⟩
  | .hbm, ⟨16, _⟩ => ⟨S16x1024x1, .bf16⟩
  | .hbm, ⟨17, _⟩ => ⟨S128, .i32⟩
  | .hbm, ⟨18, _⟩ => ⟨S1x1x128, .i32⟩
  | .hbm, ⟨19, _⟩ => ⟨S16, .i32⟩
  | .hbm, ⟨20, _⟩ => ⟨S16x1x1, .i32⟩
  | .hbm, ⟨21, _⟩ => ⟨S16x1x128, .i32⟩
  | .hbm, ⟨22, _⟩ => ⟨S16x1x128, .i32⟩
  | .hbm, ⟨23, _⟩ => ⟨S16x1x128, .i1⟩
  | .hbm, ⟨24, _⟩ => ⟨S_, .bf16⟩
  | .hbm, ⟨25, _⟩ => ⟨S16x1024x128, .i1⟩
  | .hbm, ⟨26, _⟩ => ⟨S16x1024x128, .bf16⟩
  | .hbm, ⟨27, _⟩ => ⟨S16x1024x128, .bf16⟩
  | .hbm, ⟨28, _⟩ => ⟨S16x1024x128, .bf16⟩
  | .hbm, ⟨29, _⟩ => ⟨S_, .i32⟩
  | .hbm, ⟨30, _⟩ => ⟨S16x1x1, .i32⟩
  | .hbm, ⟨31, _⟩ => ⟨S16x1x1, .i32⟩
  | .hbm, ⟨32, _⟩ => ⟨S16x1x128, .i32⟩
  | .hbm, ⟨33, _⟩ => ⟨S16x1x128, .i32⟩
  | .hbm, ⟨34, _⟩ => ⟨S16x1x128, .i1⟩
  | .hbm, ⟨35, _⟩ => ⟨S_, .bf16⟩
  | .hbm, ⟨36, _⟩ => ⟨S16x1024x128, .i1⟩
  | .hbm, ⟨37, _⟩ => ⟨S16x1024x128, .bf16⟩
  | .hbm, ⟨38, _⟩ => ⟨S16x1024x128, .bf16⟩
  | .hbm, ⟨39, _⟩ => ⟨S16x1024x128, .bf16⟩
  | .hbm, ⟨40, _⟩ => ⟨S16x1024x128, .bf16⟩
  | .hbm, ⟨41, _⟩ => ⟨S_, .i32⟩
  | .hbm, ⟨42, _⟩ => ⟨S_, .bf16⟩
  | .hbm, ⟨43, _⟩ => ⟨S16x1168x128, .bf16⟩
  | .hbm, ⟨44, _⟩ => ⟨S16x512x1, .bf16⟩
  | .hbm, ⟨45, _⟩ => ⟨S16x512x1, .f32⟩
  | .hbm, ⟨46, _⟩ => ⟨S16x512x1, .f32⟩
  | .hbm, ⟨47, _⟩ => ⟨S16x512x1, .bf16⟩
  | .hbm, ⟨48, _⟩ => ⟨S128, .i32⟩
  | .hbm, ⟨49, _⟩ => ⟨S1x1x128, .i32⟩
  | .hbm, ⟨50, _⟩ => ⟨S16, .i32⟩
  | .hbm, ⟨51, _⟩ => ⟨S16x1x1, .i32⟩
  | .hbm, ⟨52, _⟩ => ⟨S16x1x128, .i32⟩
  | .hbm, ⟨53, _⟩ => ⟨S16x1x128, .i32⟩
  | .hbm, ⟨54, _⟩ => ⟨S16x1x128, .i1⟩
  | .hbm, ⟨55, _⟩ => ⟨S_, .bf16⟩
  | .hbm, ⟨56, _⟩ => ⟨S16x512x128, .i1⟩
  | .hbm, ⟨57, _⟩ => ⟨S16x512x128, .bf16⟩
  | .hbm, ⟨58, _⟩ => ⟨S16x512x128, .bf16⟩
  | .hbm, ⟨59, _⟩ => ⟨S16x512x128, .bf16⟩
  | .hbm, ⟨60, _⟩ => ⟨S_, .i32⟩
  | .hbm, ⟨61, _⟩ => ⟨S16x1x1, .i32⟩
  | .hbm, ⟨62, _⟩ => ⟨S16x1x1, .i32⟩
  | .hbm, ⟨63, _⟩ => ⟨S16x1x128, .i32⟩
  | .hbm, ⟨64, _⟩ => ⟨S16x1x128, .i32⟩
  | .hbm, ⟨65, _⟩ => ⟨S16x1x128, .i1⟩
  | .hbm, ⟨66, _⟩ => ⟨S_, .bf16⟩
  | .hbm, ⟨67, _⟩ => ⟨S16x512x128, .i1⟩
  | .hbm, ⟨68, _⟩ => ⟨S16x512x128, .bf16⟩
  | .hbm, ⟨69, _⟩ => ⟨S16x512x128, .bf16⟩
  | .hbm, ⟨70, _⟩ => ⟨S16x512x128, .bf16⟩
  | .hbm, ⟨71, _⟩ => ⟨S16x512x128, .bf16⟩
  | .hbm, ⟨72, _⟩ => ⟨S_, .i32⟩
  | .hbm, ⟨73, _⟩ => ⟨S_, .bf16⟩
  | .hbm, ⟨74, _⟩ => ⟨S16x656x128, .bf16⟩
  | .hbm, ⟨75, _⟩ => ⟨S16x1536x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x1x1024x896, .f32⟩
  | .local _ .vmem, ⟨9, _⟩ => ⟨S1x1x1024x896, .f32⟩
  | .local _ .vmem, ⟨10, _⟩ => ⟨S1x1x1024x896, .f32⟩
  | .local _ .vmem, ⟨11, _⟩ => ⟨S1x1x1024x896, .f32⟩
  | .local _ .vmem, ⟨12, _⟩ => ⟨S1x1x896x1024, .f32⟩
  | .local _ .vmem, ⟨13, _⟩ => ⟨S1x1x896x1024, .f32⟩
  | .local _ .vmem, ⟨14, _⟩ => ⟨S1x1536x1024, .bf16⟩
  | .local _ .vmem, ⟨15, _⟩ => ⟨S1x1536x1024, .bf16⟩
  | .local _ .vmem, ⟨16, _⟩ => ⟨S1536x1024, .f32⟩
  | .local _ .vmem, ⟨17, _⟩ => ⟨S1024x1792, .bf16⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_call4_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_call6_v0 : Ref sig .tc := ⟨.hbm, 67, rfl⟩
abbrev main_call6_v1 : Ref sig .tc := ⟨.hbm, 68, rfl⟩
abbrev main_call6_v2 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_call7_v0 : Ref sig .tc := ⟨.hbm, 73, rfl⟩
abbrev main_v41 : Ref sig .tc := ⟨.hbm, 74, rfl⟩
abbrev main_v42 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v57 : BitVec 1 := Scalar.cmpi .eq arg1 c2_i32
  let v58 : BitVec 32 := Scalar.extui v57
  let c0_i32_35 : BitVec 32 := 0#32
  let v59 : BitVec 1 := Scalar.cmpi .ne v58 c0_i32_35
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x896x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1536x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x1024x1024 : Shape := ⟨3, ![16, 1024, 1024]⟩
abbrev S16x512x1024 : Shape := ⟨3, ![16, 512, 1024]⟩
abbrev S16x1024x1 : Shape := ⟨3, ![16, 1024, 1]⟩
abbrev S16x512x1 : Shape := ⟨3, ![16, 512, 1]⟩
abbrev S2x16x1024x2688 : Shape := ⟨4, ![2, 16, 1024, 2688]⟩
abbrev S2x16x2688x1024 : Shape := ⟨4, ![2, 16, 2688, 1024]⟩
abbrev S1x16x1024x2688 : Shape := ⟨4, ![1, 16, 1024, 2688]⟩
abbrev S16x1024x2688 : Shape := ⟨3, ![16, 1024, 2688]⟩
abbrev S_ : Shape := ⟨0, ![]⟩
abbrev S1x16x2688x1024 : Shape := ⟨4, ![1, 16, 2688, 1024]⟩
abbrev S16x2688x1024 : Shape := ⟨3, ![16, 2688, 1024]⟩
abbrev S16x512x2688 : Shape := ⟨3, ![16, 512, 2688]⟩
abbrev S16x1536x1024 : Shape := ⟨3, ![16, 1536, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x512x1024, .bf16⟩
  | .hbm, ⟨2, _⟩ => ⟨S16x1024x1, .f32⟩
  | .hbm, ⟨3, _⟩ => ⟨S16x512x1, .f32⟩
  | .hbm, ⟨4, _⟩ => ⟨S2x16x1024x2688, .f32⟩
  | .hbm, ⟨5, _⟩ => ⟨S2x16x1024x2688, .f32⟩
  | .hbm, ⟨6, _⟩ => ⟨S2x16x2688x1024, .f32⟩
  | .hbm, ⟨7, _⟩ => ⟨S16x1024x1024, .f32⟩
  | .hbm, ⟨8, _⟩ => ⟨S1x16x1024x2688, .f32⟩
  | .hbm, ⟨9, _⟩ => ⟨S16x1024x2688, .f32⟩
  | .hbm, ⟨10, _⟩ => ⟨S16x1024x2688, .f32⟩
  | .hbm, ⟨11, _⟩ => ⟨S16x1024x2688, .f32⟩
  | .hbm, ⟨12, _⟩ => ⟨S16x1024x2688, .f32⟩
  | .hbm, ⟨13, _⟩ => ⟨S_, .f32⟩
  | .hbm, ⟨14, _⟩ => ⟨S16x1024x2688, .f32⟩
  | .hbm, ⟨15, _⟩ => ⟨S16x1024x2688, .f32⟩
  | .hbm, ⟨16, _⟩ => ⟨S_, .f32⟩
  | .hbm, ⟨17, _⟩ => ⟨S16x1024x2688, .f32⟩
  | .hbm, ⟨18, _⟩ => ⟨S16x1024x2688, .f32⟩
  | .hbm, ⟨19, _⟩ => ⟨S16x1024x2688, .f32⟩
  | .hbm, ⟨20, _⟩ => ⟨S1x16x1024x2688, .f32⟩
  | .hbm, ⟨21, _⟩ => ⟨S16x1024x2688, .f32⟩
  | .hbm, ⟨22, _⟩ => ⟨S16x1024x2688, .f32⟩
  | .hbm, ⟨23, _⟩ => ⟨S16x1024x2688, .f32⟩
  | .hbm, ⟨24, _⟩ => ⟨S1x16x2688x1024, .f32⟩
  | .hbm, ⟨25, _⟩ => ⟨S16x2688x1024, .f32⟩
  | .hbm, ⟨26, _⟩ => ⟨S16x1024x1024, .f32⟩
  | .hbm, ⟨27, _⟩ => ⟨S16x1024x1024, .f32⟩
  | .hbm, ⟨28, _⟩ => ⟨S16x1024x1024, .f32⟩
  | .hbm, ⟨29, _⟩ => ⟨S16x512x1024, .f32⟩
  | .hbm, ⟨30, _⟩ => ⟨S1x16x1024x2688, .f32⟩
  | .hbm, ⟨31, _⟩ => ⟨S16x1024x2688, .f32⟩
  | .hbm, ⟨32, _⟩ => ⟨S16x512x2688, .f32⟩
  | .hbm, ⟨33, _⟩ => ⟨S16x512x2688, .f32⟩
  | .hbm, ⟨34, _⟩ => ⟨S16x512x2688, .f32⟩
  | .hbm, ⟨35, _⟩ => ⟨S_, .f32⟩
  | .hbm, ⟨36, _⟩ => ⟨S16x512x2688, .f32⟩
  | .hbm, ⟨37, _⟩ => ⟨S16x512x2688, .f32⟩
  | .hbm, ⟨38, _⟩ => ⟨S_, .f32⟩
  | .hbm, ⟨39, _⟩ => ⟨S16x512x2688, .f32⟩
  | .hbm, ⟨40, _⟩ => ⟨S16x512x2688, .f32⟩
  | .hbm, ⟨41, _⟩ => ⟨S16x512x2688, .f32⟩
  | .hbm, ⟨42, _⟩ => ⟨S1x16x1024x2688, .f32⟩
  | .hbm, ⟨43, _⟩ => ⟨S16x1024x2688, .f32⟩
  | .hbm, ⟨44, _⟩ => ⟨S16x512x2688, .f32⟩
  | .hbm, ⟨45, _⟩ => ⟨S16x512x2688, .f32⟩
  | .hbm, ⟨46, _⟩ => ⟨S1x16x2688x1024, .f32⟩
  | .hbm, ⟨47, _⟩ => ⟨S16x2688x1024, .f32⟩
  | .hbm, ⟨48, _⟩ => ⟨S16x512x1024, .f32⟩
  | .hbm, ⟨49, _⟩ => ⟨S16x512x1024, .f32⟩
  | .hbm, ⟨50, _⟩ => ⟨S16x512x1024, .f32⟩
  | .hbm, ⟨51, _⟩ => ⟨S16x1536x1024, .f32⟩
  | .hbm, ⟨52, _⟩ => ⟨S16x1536x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Kernel3.lean ====
abbrev S8x1024x1024 : Shape := ⟨3, ![8, 1024, 1024]⟩
abbrev S16x256x1024 : Shape := ⟨3, ![16, 256, 1024]⟩
abbrev S2x1024 : Shape := ⟨2, ![2, 1024]⟩
abbrev S2x16x6144 : Shape := ⟨3, ![2, 16, 6144]⟩
abbrev S1x1024x3584 : Shape := ⟨3, ![1, 1024, 3584]⟩
abbrev S2x16x1x6144 : Shape := ⟨4, ![2, 16, 1, 6144]⟩
abbrev S8192x1024 : Shape := ⟨2, ![8192, 1024]⟩
abbrev S4096x1024 : Shape := ⟨2, ![4096, 1024]⟩
abbrev S1x1024 : Shape := ⟨2, ![1, 1024]⟩
abbrev S1024 : Shape := ⟨1, ![1024]⟩
abbrev S1024x3584 : Shape := ⟨2, ![1024, 3584]⟩
abbrev S12288x3584 : Shape := ⟨2, ![12288, 3584]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x1024x1024, .f32⟩
  | .hbm, ⟨1, _⟩ => ⟨S16x256x1024, .f32⟩
  | .hbm, ⟨2, _⟩ => ⟨S2x1024, .f32⟩
  | .hbm, ⟨3, _⟩ => ⟨S2x16x6144, .f32⟩
  | .hbm, ⟨4, _⟩ => ⟨S1x1024x3584, .f32⟩
  | .hbm, ⟨5, _⟩ => ⟨S2x16x1x6144, .f32⟩
  | .hbm, ⟨6, _⟩ => ⟨S8192x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S1024x3584, .f32⟩
  | .hbm, ⟨11, _⟩ => ⟨S1024x3584, .bf16⟩
  | .hbm, ⟨12, _⟩ => ⟨S1x1024, .f32⟩
  | .hbm, ⟨13, _⟩ => ⟨S12288x3584, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x3584, .bf16⟩
  | .local _ .vmem, ⟨10, _⟩ => ⟨S1024x3584, .bf16⟩
  | .local _ .vmem, ⟨11, _⟩ => ⟨S1024x3584, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi c1_i32_5 v17
  let c0_i32_6 : BitVec 32 := 0#32
  let v19 : BitVec 32 := Scalar.select v0 v18 c0_i32_6
  let c0_i32_7 : BitVec 32 := 0#32
  let c0_i32_8 : BitVec 32 := 0#32
  let c0_i32_9 : BitVec 32 := 0#32
  let c0_i32_10 : BitVec 32 := 0#32
  ![c0_i32_7.toNat, v19.toNat, c0_i32_8.toNat, c0_i32_9.toNat]

def cc0_transform_4 (i : grid0.Coords) : Fin 4 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi c1_i32_5 v17
  let c0_i32_6 : BitVec 32 := 0#32
  let v19 : BitVec 32 := Scalar.select v0 v18 c0_i32_6
  let c0_i32_7 : BitVec 32 := 0#32
  let c0_i32_8 : BitVec 32 := 0#32
  let c1_i32_9 : BitVec 32 := 1#32
  let c0_i32_10 : BitVec 32 := 0#32
  ![c0_i32_7.toNat, v19.toNat, c0_i32_8.toNat, c1_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x1024x1024 : Shape := ⟨3, ![8, 1024, 1024]⟩
abbrev S16x256x1024 : Shape := ⟨3, ![16, 256, 1024]⟩
abbrev S2x1024 : Shape := ⟨2, ![2, 1024]⟩
abbrev S2x16x6144 : Shape := ⟨3, ![2, 16, 6144]⟩
abbrev S1x1024x3584 : Shape := ⟨3, ![1, 1024, 3584]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1x6144 : Shape := ⟨3, ![1, 1, 6144]⟩
abbrev S1x6144 : Shape := ⟨2, ![1, 6144]⟩
abbrev S16x256 : Shape := ⟨2, ![16, 256]⟩
abbrev S16x256x1 : Shape := ⟨3, ![16, 256, 1]⟩
abbrev S8192x1024 : Shape := ⟨2, ![8192, 1024]⟩
abbrev S4096x1024 : Shape := ⟨2, ![4096, 1024]⟩
abbrev S12288x1024 : Shape := ⟨2, ![12288, 1024]⟩
abbrev S1024x3584 : Shape := ⟨2, ![1024, 3584]⟩
abbrev S12288x3584 : Shape := ⟨2, ![12288, 3584]⟩

abbrev nBuf : Space → Nat
  | .hbm => 79
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x256x1024, .f32⟩
  | .hbm, ⟨2, _⟩ => ⟨S2x1024, .f32⟩
  | .hbm, ⟨3, _⟩ => ⟨S2x16x6144, .f32⟩
  | .hbm, ⟨4, _⟩ => ⟨S1x1024x3584, .f32⟩
  | .hbm, ⟨5, _⟩ => ⟨S1x8x6144, .f32⟩
  | .hbm, ⟨6, _⟩ => ⟨S8x6144, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1x1024, .f32⟩
  | .hbm, ⟨15, _⟩ => ⟨S1024, .f32⟩
  | .hbm, ⟨16, _⟩ => ⟨S8x1024x1024, .f32⟩
  | .hbm, ⟨17, _⟩ => ⟨S_, .f32⟩
  | .hbm, ⟨18, _⟩ => ⟨S8x1024, .f32⟩
  | .hbm, ⟨19, _⟩ => ⟨S8x1024x1, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S_, .f32⟩
  | .hbm, ⟨24, _⟩ => ⟨S8x1024x1, .f32⟩
  | .hbm, ⟨25, _⟩ => ⟨S8x1024x1, .f32⟩
  | .hbm, ⟨26, _⟩ => ⟨S8x1024x1, .f32⟩
  | .hbm, ⟨27, _⟩ => ⟨S8x1024x1024, .f32⟩
  | .hbm, ⟨28, _⟩ => ⟨S8x1024x1024, .f32⟩
  | .hbm, ⟨29, _⟩ => ⟨S1x1x1024, .f32⟩
  | .hbm, ⟨30, _⟩ => ⟨S8x1024x1024, .f32⟩
  | .hbm, ⟨31, _⟩ => ⟨S8x1024x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S1x1x6144, .f32⟩
  | .hbm, ⟨40, _⟩ => ⟨S1x6144, .f32⟩
  | .hbm, ⟨41, _⟩ => ⟨S1x1x6144, .f32⟩
  | .hbm, ⟨42, _⟩ => ⟨S1x1x1024, .f32⟩
  | .hbm, ⟨43, _⟩ => ⟨S1x1x1024, .f32⟩
  | .hbm, ⟨44, _⟩ => ⟨S1x1x1024, .f32⟩
  | .hbm, ⟨45, _⟩ => ⟨S1x1x1024, .f32⟩
  | .hbm, ⟨46, _⟩ => ⟨S1x1x1024, .f32⟩
  | .hbm, ⟨47, _⟩ => ⟨S1x1x1024, .f32⟩
  | .hbm, ⟨48, _⟩ => ⟨S1x1024, .f32⟩
  | .hbm, ⟨49, _⟩ => ⟨S1024, .f32⟩
  | .hbm, ⟨50, _⟩ => ⟨S16x256x1024, .f32⟩
  | .hbm, ⟨51, _⟩ => ⟨S_, .f32⟩
  | .hbm, ⟨52, _⟩ => ⟨S16x256, .f32⟩
  | .hbm, ⟨53, _⟩ => ⟨S16x256x1, .f32⟩
  | .hbm, ⟨54, _⟩ => ⟨S_, .f32⟩
  | .hbm, ⟨55, _⟩ => ⟨S16x256x1, .f32⟩
  | .hbm, ⟨56, _⟩ => ⟨S16x256x1, .f32⟩
  | .hbm, ⟨57, _⟩ => ⟨S_, .f32⟩
  | .hbm, ⟨58, _⟩ => ⟨S16x256x1, .f32⟩
  | .hbm, ⟨59, _⟩ => ⟨S16x256x1, .f32⟩
  | .hbm, ⟨60, _⟩ => ⟨S16x256x1, .f32⟩
  | .hbm, ⟨61, _⟩ => ⟨S16x256x1024, .f32⟩
  | .hbm, ⟨62, _⟩ => ⟨S16x256x1024, .f32⟩
  | .hbm, ⟨63, _⟩ => ⟨S1x1x1024, .f32⟩
  | .hbm, ⟨64, _⟩ => ⟨S16x256x1024, .f32⟩
  | .hbm, ⟨65, _⟩ => ⟨S16x256x1024, .f32⟩
  | .hbm, ⟨66, _⟩ => ⟨S_, .f32⟩
  | .hbm, ⟨67, _⟩ => ⟨S1x1x1024, .f32⟩
  | .hbm, ⟨68, _⟩ => ⟨S1x1x1024, .f32⟩
  | .hbm, ⟨69, _⟩ => ⟨S16x256x1024, .f32⟩
  | .hbm, ⟨70, _⟩ => ⟨S16x256x1024, .f32⟩
  | .hbm, ⟨71, _⟩ => ⟨S16x256x1024, .f32⟩
  | .hbm, ⟨72, _⟩ => ⟨S16x256x1024, .f32⟩
  | .hbm, ⟨73, _⟩ => ⟨S8192x1024, .f32⟩
  | .hbm, ⟨74, _⟩ => ⟨S4096x1024, .f32⟩
  | .hbm, ⟨75, _⟩ => ⟨S12288x1024, .f32⟩
  | .hbm, ⟨76, _⟩ => ⟨S1024x3584, .f32⟩
  | .hbm, ⟨77, _⟩ => ⟨S12288x3584, .f32⟩
  | .hbm, ⟨78, _⟩ => ⟨S12288x3584, .bf16⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Kernel4.lean ====
abbrev S12288x3584 : Shape := ⟨2, ![12288, 3584]⟩
abbrev S1x2x4 : Shape := ⟨3, ![1, 2, 4]⟩
abbrev S1x512 : Shape := ⟨2, ![1, 512]⟩
abbrev S1x3x512 : Shape := ⟨3, ![1, 3, 512]⟩
abbrev S2x4 : Shape := ⟨2, ![2, 4]⟩
abbrev S_ : Shape := ⟨0, ![]⟩
abbrev S512 : Shape := ⟨1, ![512]⟩
abbrev S3x512 : Shape := ⟨2, ![3, 512]⟩
abbrev S4096x1024 : Shape := ⟨2, ![4096, 1024]⟩
abbrev S16x1x4x128x128 : Shape := ⟨5, ![16, 1, 4, 128, 128]⟩
abbrev S256x512 : Shape := ⟨2, ![256, 512]⟩
abbrev S256x1024 : Shape := ⟨2, ![256, 1024]⟩
abbrev S1x1x4x128x128 : Shape := ⟨5, ![1, 1, 4, 128, 128]⟩
abbrev S4x256x256 : Shape := ⟨3, ![4, 256, 256]⟩
abbrev S256x256 : Shape := ⟨2, ![256, 256]⟩
abbrev S1x1 : Shape := ⟨2, ![1, 1]⟩
abbrev S1x256x256 : Shape := ⟨3, ![1, 256, 256]⟩
abbrev S256x1 : Shape := ⟨2, ![256, 1]⟩
abbrev S256x128 : Shape := ⟨2, ![256, 128]⟩
abbrev S128x128 : Shape := ⟨2, ![128, 128]⟩
abbrev S1x1x1x128x128 : Shape := ⟨5, ![1, 1, 1, 128, 128]⟩
abbrev S256 : Shape := ⟨1, ![256]⟩
abbrev S1x128 : Shape := ⟨2, ![1, 128]⟩
abbrev S3x128 : Shape := ⟨2, ![3, 128]⟩

abbrev nBuf : Space → Nat
  | .hbm => 27
  | .vmem => 23
  | .smem => 1
  | _ => 0

abbrev bufTy : (tb : Table) → Fin (tcTables nBuf tb) → BufTy
  | .hbm, ⟨0, _⟩ => ⟨S12288x3584, .bf16⟩
  | .hbm, ⟨1, _⟩ => ⟨S1x2x4, .f32⟩
  | .hbm, ⟨2, _⟩ => ⟨S1x512, .f32⟩
  | .hbm, ⟨3, _⟩ => ⟨S1x3x512, .f32⟩
  | .hbm, ⟨4, _⟩ => ⟨S2x4, .f32⟩
  | .hbm, ⟨5, _⟩ => ⟨S2x4, .f32⟩
  | .hbm, ⟨6, _⟩ => ⟨S_, .f32⟩
  | .hbm, ⟨7, _⟩ => ⟨S2x4, .f32⟩
  | .hbm, ⟨8, _⟩ => ⟨S2x4, .f32⟩
  | .hbm, ⟨9, _⟩ => ⟨S2x4, .f32⟩
  | .hbm, ⟨10, _⟩ => ⟨S2x4, .f32⟩
  | .hbm, ⟨11, _⟩ => ⟨S2x4, .i1⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S512, .f32⟩
  | .hbm, ⟨22, _⟩ => ⟨S3x512, .f32⟩
  | .hbm, ⟨23, _⟩ => ⟨S1x512, .f32⟩
  | .hbm, ⟨24, _⟩ => ⟨S4096x1024, .bf16⟩
  | .hbm, ⟨25, _⟩ => ⟨S16x1x4x128x128, .f32⟩
  | .hbm, ⟨26, _⟩ => ⟨S16x1x4x128x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x512, .f32⟩
  | .local _ .vmem, ⟨15, _⟩ => ⟨S3x512, .f32⟩
  | .local _ .vmem, ⟨16, _⟩ => ⟨S256x1024, .bf16⟩
  | .local _ .vmem, ⟨17, _⟩ => ⟨S256x1024, .bf16⟩
  | .local _ .vmem, ⟨18, _⟩ => ⟨S1x1x4x128x128, .f32⟩
  | .local _ .vmem, ⟨19, _⟩ => ⟨S1x1x4x128x128, .f32⟩
  | .local _ .vmem, ⟨20, _⟩ => ⟨S1x1x4x128x128, .f32⟩
  | .local _ .vmem, ⟨21, _⟩ => ⟨S1x1x4x128x128, .f32⟩
  | .local _ .vmem, ⟨22, _⟩ => ⟨S4x256x256, .f32⟩
  | .local _ .smem, ⟨0, _⟩ => ⟨S2x4, .f32⟩
  | _, _ => ⟨S12288x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5_0 : Ref sig .tc := ⟨.hbm, 24, rfl⟩
abbrev main_v5_1 : Ref sig .tc := ⟨.hbm, 25, rfl⟩
abbrev main_v5_2 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_217 : BitVec 32) : Fin 2 → Nat :=
  let c0_218 : Index := 0#32
  let arg0 : BitVec 32 := BitVec.ofNat 32 (i 0).val
  let c4_i32_216 : BitVec 32 := 4#32
  let v438 : BitVec 32 := Scalar.muli arg0 c4_i32_216
  let v439 : BitVec 32 := Scalar.addi v438 c0_i32_217
  let v440 : Index := Scalar.indexCast v439
  ![0, v440.toNat]
def k0_off2 (i : grid0.Coords) (c0_i32_220 : BitVec 32) : Fin 2 → Nat :=
  let c1_221 : Index := 1#32
  let arg0 : BitVec 32 := BitVec.ofNat 32 (i 0).val
  let c4_i32_219 : BitVec 32 := 4#32
  let v442 : BitVec 32 := Scalar.muli arg0 c4_i32_219
  let v443 : BitVec 32 := Scalar.addi v442 c0_i32_220
  let v444 : Index := Scalar.indexCast v443
  ![1, v444.toNat]
def k0_off3 (i : grid0.Coords) (c0_i32_1 : BitVec 32) : Fin 2 → Nat :=
  let c0 : Index := 0#32
  let arg0 : BitVec 32 := BitVec.ofNat 32 (i 0).val
  let c4_i32 : BitVec 32 := 4#32
  let v6 : BitVec 32 := Scalar.muli arg0 c4_i32
  let v7 : BitVec 32 := Scalar.addi v6 c0_i32_1
  let v8 : Index := Scalar.indexCast v7
  ![0, v8.toNat]
def k0_off4 (i : grid0.Coords) (c0_i32_3 : BitVec 32) : Fin 2 → Nat :=
  let c1 : Index := 1#32
  let arg0 : BitVec 32 := BitVec.ofNat 32 (i 0).val
  let c4_i32_2 : BitVec 32 := 4#32
  let v10 : BitVec 32 := Scalar.muli arg0 c4_i32_2
  let v11 : BitVec 32 := Scalar.addi v10 c0_i32_3
  let v12 : Index := Scalar.indexCast v11
  ![1, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c2_i32 : BitVec 32 := 2#32
  let v1 : BitVec 32 := Scalar.addi c2_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c3_i32 : BitVec 32 := 3#32
  let v1 : BitVec 32 := Scalar.addi c3_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c4_i32 : BitVec 32 := 4#32
  let v1 : BitVec 32 := Scalar.addi c4_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c5_i32 : BitVec 32 := 5#32
  let v1 : BitVec 32 := Scalar.addi c5_i32 arg0
  let c0_i32 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c6_i32 : BitVec 32 := 6#32
  let v1 : BitVec 32 := Scalar.addi c6_i32 arg0
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S12288x3584 : Shape := ⟨2, ![12288, 3584]⟩
abbrev S1x2x4 : Shape := ⟨3, ![1, 2, 4]⟩
abbrev S1x512 : Shape := ⟨2, ![1, 512]⟩
abbrev S1x3x512 : Shape := ⟨3, ![1, 3, 512]⟩
abbrev S4096x3584 : Shape := ⟨2, ![4096, 3584]⟩
abbrev S16x256x3584 : Shape := ⟨3, ![16, 256, 3584]⟩
abbrev S16x256x512 : Shape := ⟨3, ![16, 256, 512]⟩
abbrev S16x256x4x128 : Shape := ⟨4, ![16, 256, 4, 128]⟩
abbrev S_ : Shape := ⟨0, ![]⟩
abbrev S2x4 : Shape := ⟨2, ![2, 4]⟩
abbrev S1x4 : Shape := ⟨2, ![1, 4]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S64x4 : Shape := ⟨2, ![64, 4]⟩
abbrev S16x4x128x128 : Shape := ⟨4, ![16, 4, 128, 128]⟩
abbrev S16x64x4x128 : Shape := ⟨4, ![16, 64, 4, 128]⟩
abbrev S16x4x64x64 : Shape := ⟨4, ![16, 4, 64, 64]⟩
abbrev S1x4x64x64 : Shape := ⟨4, ![1, 4, 64, 64]⟩
abbrev S16x4x128x64 : Shape := ⟨4, ![16, 4, 128, 64]⟩
abbrev S1x64x4x1 : Shape := ⟨4, ![1, 64, 4, 1]⟩
abbrev S1x4x1x1 : Shape := ⟨4, ![1, 4, 1, 1]⟩
abbrev S16x256x4 : Shape := ⟨3, ![16, 256, 4]⟩
abbrev S16x256x4x1 : Shape := ⟨4, ![16, 256, 4, 1]⟩
abbrev S512 : Shape := ⟨1, ![512]⟩
abbrev S1x1x512 : Shape := ⟨3, ![1, 1, 512]⟩
abbrev S3x512 : Shape := ⟨2, ![3, 512]⟩
abbrev S16x258x512 : Shape := ⟨3, ![16, 258, 512]⟩
abbrev S16x256x4x1x128 : Shape := ⟨5, ![16, 256, 4, 1, 128]⟩
abbrev S16x256x4x2x128 : Shape := ⟨5, ![16, 256, 4, 2, 128]⟩
abbrev S4096x1024 : Shape := ⟨2, ![4096, 1024]⟩
abbrev S16x1x4x128x128 : Shape := ⟨5, ![16, 1, 4, 128, 128]⟩

abbrev nBuf : Space → Nat
  | .hbm => 399
  | .vmem => 0
  | .smem => 0
  | _ => 0

abbrev hbmTy0_0 (i : Nat) : BufTy := match i % 128 with
  | 0 => ⟨S12288x3584, .bf16⟩
  | 1 => ⟨S1x2x4, .f32⟩
  | 2 => ⟨S1x512, .f32⟩
  | 3 => ⟨S1x3x512, .f32⟩
  | 4 => ⟨S4096x3584, .bf16⟩
  | 5 => ⟨S4096x3584, .f32⟩
  | 6 => ⟨S16x256x3584, .f32⟩
  | 7 => ⟨S16x256x512, .f32⟩
  | 8 => ⟨S16x256x512, .f32⟩
  | 9 => ⟨S16x256x512, .f32⟩
  | 10 => ⟨S16x256x512, .f32⟩
  | 11 => ⟨S16x256x512, .f32⟩
  | 12 => ⟨S16x256x512, .f32⟩
  | 13 => ⟨S16x256x512, .f32⟩
  | 14 => ⟨S16x256x4x128, .f32⟩
  | 15 => ⟨S16x256x4x128, .f32⟩
  | 16 => ⟨S_, .f32⟩
  | 17 => ⟨S16x256x4x128, .f32⟩
  | 18 => ⟨S16x256x4x128, .f32⟩
  | 19 => ⟨S16x256x4x128, .f32⟩
  | 20 => ⟨S2x4, .f32⟩
  | 21 => ⟨S2x4, .f32⟩
  | 22 => ⟨S_, .f32⟩
  | 23 => ⟨S2x4, .f32⟩
  | 24 => ⟨S2x4, .f32⟩
  | 25 => ⟨S2x4, .f32⟩
  | 26 => ⟨S2x4, .f32⟩
  | 27 => ⟨S2x4, .i1⟩
  | 28 => ⟨S2x4, .f32⟩
  | 29 => ⟨S2x4, .f32⟩
  | 30 => ⟨S2x4, .f32⟩
  | 31 => ⟨S2x4, .f32⟩
  | 32 => ⟨S2x4, .f32⟩
  | 33 => ⟨S2x4, .f32⟩
  | 34 => ⟨S2x4, .f32⟩
  | 35 => ⟨S2x4, .f32⟩
  | 36 => ⟨S2x4, .f32⟩
  | 37 => ⟨S1x4, .f32⟩
  | 38 => ⟨S4, .f32⟩
  | 39 => ⟨S64, .i32⟩
  | 40 => ⟨S64, .f32⟩
  | 41 => ⟨S64x1, .f32⟩
  | 42 => ⟨S1x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .i1⟩
  | 49 => ⟨S4x1x1, .f32⟩
  | 50 => ⟨S_, .f32⟩
  | 51 => ⟨S64x64, .f32⟩
  | 52 => ⟨S64x64, .f32⟩
  | 53 => ⟨S1x64x64, .f32⟩
  | 54 => ⟨S4x64x64, .f32⟩
  | 55 => ⟨S4x64x64, .f32⟩
  | 56 => ⟨S4x64x64, .f32⟩
  | 57 => ⟨S4x64x64, .f32⟩
  | 58 => ⟨S_, .f32⟩
  | 59 => ⟨S_, .f32⟩
  | 60 => ⟨S4x64x64, .i1⟩
  | 61 => ⟨S4x64x64, .f32⟩
  | 62 => ⟨S4x64x64, .f32⟩
  | 63 => ⟨S1x4, .f32⟩
  | 64 => ⟨S64x1, .f32⟩
  | 65 => ⟨S_, .f32⟩
  | 66 => ⟨S64x1, .f32⟩
  | 67 => ⟨S64x1, .f32⟩
  | 68 => ⟨S64x4, .f32⟩
  | 69 => ⟨S64x4, .f32⟩
  | 70 => ⟨S64x4, .f32⟩
  | 71 => ⟨S64x4, .f32⟩
  | 72 => ⟨S1x4, .f32⟩
  | 73 => ⟨S64x1, .f32⟩
  | 74 => ⟨S_, .f32⟩
  | 75 => ⟨S64x1, .f32⟩
  | 76 => ⟨S64x1, .f32⟩
  | 77 => ⟨S64x4, .f32⟩
  | 78 => ⟨S64x4, .f32⟩
  | 79 => ⟨S64x4, .f32⟩
  | 80 => ⟨S64x4, .f32⟩
  | 81 => ⟨S_, .f32⟩
  | 82 => ⟨S4, .f32⟩
  | 83 => ⟨S4, .f32⟩
  | 84 => ⟨S4, .f32⟩
  | 85 => ⟨S_, .f32⟩
  | 86 => ⟨S16x4x128x128, .f32⟩
  | 87 => ⟨S16x64x4x128, .f32⟩
  | 88 => ⟨S16x64x4x128, .f32⟩
  | 89 => ⟨S16x64x4x128, .f32⟩
  | 90 => ⟨S16x4x64x64, .f32⟩
  | 91 => ⟨S1x4x64x64, .f32⟩
  | 92 => ⟨S16x4x64x64, .f32⟩
  | 93 => ⟨S16x4x64x64, .f32⟩
  | 94 => ⟨S16x4x128x64, .f32⟩
  | 95 => ⟨S16x64x4x128, .f32⟩
  | 96 => ⟨S1x64x4x1, .f32⟩
  | 97 => ⟨S16x64x4x128, .f32⟩
  | 98 => ⟨S16x64x4x128, .f32⟩
  | 99 => ⟨S16x4x128x64, .f32⟩
  | 100 => ⟨S16x64x4x128, .f32⟩
  | 101 => ⟨S1x4x1x1, .f32⟩
  | 102 => ⟨S16x4x128x128, .f32⟩
  | 103 => ⟨S16x4x128x128, .f32⟩
  | 104 => ⟨S1x64x4x1, .f32⟩
  | 105 => ⟨S16x64x4x128, .f32⟩
  | 106 => ⟨S16x64x4x128, .f32⟩
  | 107 => ⟨S16x4x128x128, .f32⟩
  | 108 => ⟨S16x4x128x128, .f32⟩
  | 109 => ⟨S16x64x4x128, .f32⟩
  | 110 => ⟨S16x64x4x128, .f32⟩
  | 111 => ⟨S16x64x4x128, .f32⟩
  | 112 => ⟨S16x64x4x128, .f32⟩
  | 113 => ⟨S16x4x64x64, .f32⟩
  | 114 => ⟨S1x4x64x64, .f32⟩
  | 115 => ⟨S16x4x64x64, .f32⟩
  | 116 => ⟨S16x4x64x64, .f32⟩
  | 117 => ⟨S16x4x128x64, .f32⟩
  | 118 => ⟨S16x64x4x128, .f32⟩
  | 119 => ⟨S1x64x4x1, .f32⟩
  | 120 => ⟨S16x64x4x128, .f32⟩
  | 121 => ⟨S16x64x4x128, .f32⟩
  | 122 => ⟨S16x4x128x64, .f32⟩
  | 123 => ⟨S16x64x4x128, .f32⟩
  | 124 => ⟨S1x4x1x1, .f32⟩
  | 125 => ⟨S16x4x128x128, .f32⟩
  | 126 => ⟨S16x4x128x128, .f32⟩
  | 127 => ⟨S1x64x4x1, .f32⟩
  | _ => ⟨S12288x3584, .bf16⟩

abbrev hbmTy0_1 (i : Nat) : BufTy := match i % 128 with
  | 0 => ⟨S16x64x4x128, .f32⟩
  | 1 => ⟨S16x64x4x128, .f32⟩
  | 2 => ⟨S16x4x128x128, .f32⟩
  | 3 => ⟨S16x4x128x128, .f32⟩
  | 4 => ⟨S16x64x4x128, .f32⟩
  | 5 => ⟨S16x64x4x128, .f32⟩
  | 6 => ⟨S16x64x4x128, .f32⟩
  | 7 => ⟨S16x64x4x128, .f32⟩
  | 8 => ⟨S16x4x64x64, .f32⟩
  | 9 => ⟨S1x4x64x64, .f32⟩
  | 10 => ⟨S16x4x64x64, .f32⟩
  | 11 => ⟨S16x4x64x64, .f32⟩
  | 12 => ⟨S16x4x128x64, .f32⟩
  | 13 => ⟨S16x64x4x128, .f32⟩
  | 14 => ⟨S1x64x4x1, .f32⟩
  | 15 => ⟨S16x64x4x128, .f32⟩
  | 16 => ⟨S16x64x4x128, .f32⟩
  | 17 => ⟨S16x4x128x64, .f32⟩
  | 18 => ⟨S16x64x4x128, .f32⟩
  | 19 => ⟨S1x4x1x1, .f32⟩
  | 20 => ⟨S16x4x128x128, .f32⟩
  | 21 => ⟨S16x4x128x128, .f32⟩
  | 22 => ⟨S1x64x4x1, .f32⟩
  | 23 => ⟨S16x64x4x128, .f32⟩
  | 24 => ⟨S16x64x4x128, .f32⟩
  | 25 => ⟨S16x4x128x128, .f32⟩
  | 26 => ⟨S16x4x128x128, .f32⟩
  | 27 => ⟨S16x64x4x128, .f32⟩
  | 28 => ⟨S16x64x4x128, .f32⟩
  | 29 => ⟨S16x64x4x128, .f32⟩
  | 30 => ⟨S16x64x4x128, .f32⟩
  | 31 => ⟨S16x4x64x64, .f32⟩
  | 32 => ⟨S1x4x64x64, .f32⟩
  | 33 => ⟨S16x4x64x64, .f32⟩
  | 34 => ⟨S16x4x64x64, .f32⟩
  | 35 => ⟨S16x4x128x64, .f32⟩
  | 36 => ⟨S16x64x4x128, .f32⟩
  | 37 => ⟨S1x64x4x1, .f32⟩
  | 38 => ⟨S16x64x4x128, .f32⟩
  | 39 => ⟨S16x64x4x128, .f32⟩
  | 40 => ⟨S16x4x128x64, .f32⟩
  | 41 => ⟨S16x64x4x128, .f32⟩
  | 42 => ⟨S1x4x1x1, .f32⟩
  | 43 => ⟨S16x4x128x128, .f32⟩
  | 44 => ⟨S16x4x128x128, .f32⟩
  | 45 => ⟨S1x64x4x1, .f32⟩
  | 46 => ⟨S16x64x4x128, .f32⟩
  | 47 => ⟨S16x64x4x128, .f32⟩
  | 48 => ⟨S16x4x128x128, .f32⟩
  | 49 => ⟨S16x4x128x128, .f32⟩
  | 50 => ⟨S16x64x4x128, .f32⟩
  | 51 => ⟨S16x256x4x128, .f32⟩
  | 52 => ⟨S16x256x4x128, .f32⟩
  | 53 => ⟨S16x256x4x128, .f32⟩
  | 54 => ⟨S16x256x4x128, .f32⟩
  | 55 => ⟨S1x4, .f32⟩
  | 56 => ⟨S4, .f32⟩
  | 57 => ⟨S64, .i32⟩
  | 58 => ⟨S64, .f32⟩
  | 59 => ⟨S64x1, .f32⟩
  | 60 => ⟨S1x64, .f32⟩
  | 61 => ⟨S64x64, .f32⟩
  | 62 => ⟨S64x64, .f32⟩
  | 63 => ⟨S64x64, .f32⟩
  | 64 => ⟨S_, .f32⟩
  | 65 => ⟨S64x64, .f32⟩
  | 66 => ⟨S64x64, .i1⟩
  | 67 => ⟨S4x1x1, .f32⟩
  | 68 => ⟨S_, .f32⟩
  | 69 => ⟨S64x64, .f32⟩
  | 70 => ⟨S64x64, .f32⟩
  | 71 => ⟨S1x64x64, .f32⟩
  | 72 => ⟨S4x64x64, .f32⟩
  | 73 => ⟨S4x64x64, .f32⟩
  | 74 => ⟨S4x64x64, .f32⟩
  | 75 => ⟨S4x64x64, .f32⟩
  | 76 => ⟨S_, .f32⟩
  | 77 => ⟨S_, .f32⟩
  | 78 => ⟨S4x64x64, .i1⟩
  | 79 => ⟨S4x64x64, .f32⟩
  | 80 => ⟨S4x64x64, .f32⟩
  | 81 => ⟨S1x4, .f32⟩
  | 82 => ⟨S64x1, .f32⟩
  | 83 => ⟨S_, .f32⟩
  | 84 => ⟨S64x1, .f32⟩
  | 85 => ⟨S64x1, .f32⟩
  | 86 => ⟨S64x4, .f32⟩
  | 87 => ⟨S64x4, .f32⟩
  | 88 => ⟨S64x4, .f32⟩
  | 89 => ⟨S64x4, .f32⟩
  | 90 => ⟨S1x4, .f32⟩
  | 91 => ⟨S64x1, .f32⟩
  | 92 => ⟨S_, .f32⟩
  | 93 => ⟨S64x1, .f32⟩
  | 94 => ⟨S64x1, .f32⟩
  | 95 => ⟨S64x4, .f32⟩
  | 96 => ⟨S64x4, .f32⟩
  | 97 => ⟨S64x4, .f32⟩
  | 98 => ⟨S64x4, .f32⟩
  | 99 => ⟨S_, .f32⟩
  | 100 => ⟨S4, .f32⟩
  | 101 => ⟨S4, .f32⟩
  | 102 => ⟨S4, .f32⟩
  | 103 => ⟨S_, .f32⟩
  | 104 => ⟨S16x4x128x128, .f32⟩
  | 105 => ⟨S16x64x4x128, .f32⟩
  | 106 => ⟨S16x64x4x128, .f32⟩
  | 107 => ⟨S16x64x4x128, .f32⟩
  | 108 => ⟨S16x4x64x64, .f32⟩
  | 109 => ⟨S1x4x64x64, .f32⟩
  | 110 => ⟨S16x4x64x64, .f32⟩
  | 111 => ⟨S16x4x64x64, .f32⟩
  | 112 => ⟨S16x4x128x64, .f32⟩
  | 113 => ⟨S16x64x4x128, .f32⟩
  | 114 => ⟨S1x64x4x1, .f32⟩
  | 115 => ⟨S16x64x4x128, .f32⟩
  | 116 => ⟨S16x64x4x128, .f32⟩
  | 117 => ⟨S16x4x128x64, .f32⟩
  | 118 => ⟨S16x64x4x128, .f32⟩
  | 119 => ⟨S1x4x1x1, .f32⟩
  | 120 => ⟨S16x4x128x128, .f32⟩
  | 121 => ⟨S16x4x128x128, .f32⟩
  | 122 => ⟨S1x64x4x1, .f32⟩
  | 123 => ⟨S16x64x4x128, .f32⟩
  | 124 => ⟨S16x64x4x128, .f32⟩
  | 125 => ⟨S16x4x128x128, .f32⟩
  | 126 => ⟨S16x4x128x128, .f32⟩
  | 127 => ⟨S16x64x4x128, .f32⟩
  | _ => ⟨S12288x3584, .bf16⟩

abbrev hbmTy0_2 (i : Nat) : BufTy := match i % 128 with
  | 0 => ⟨S16x64x4x128, .f32⟩
  | 1 => ⟨S16x64x4x128, .f32⟩
  | 2 => ⟨S16x64x4x128, .f32⟩
  | 3 => ⟨S16x4x64x64, .f32⟩
  | 4 => ⟨S1x4x64x64, .f32⟩
  | 5 => ⟨S16x4x64x64, .f32⟩
  | 6 => ⟨S16x4x64x64, .f32⟩
  | 7 => ⟨S16x4x128x64, .f32⟩
  | 8 => ⟨S16x64x4x128, .f32⟩
  | 9 => ⟨S1x64x4x1, .f32⟩
  | 10 => ⟨S16x64x4x128, .f32⟩
  | 11 => ⟨S16x64x4x128, .f32⟩
  | 12 => ⟨S16x4x128x64, .f32⟩
  | 13 => ⟨S16x64x4x128, .f32⟩
  | 14 => ⟨S1x4x1x1, .f32⟩
  | 15 => ⟨S16x4x128x128, .f32⟩
  | 16 => ⟨S16x4x128x128, .f32⟩
  | 17 => ⟨S1x64x4x1, .f32⟩
  | 18 => ⟨S16x64x4x128, .f32⟩
  | 19 => ⟨S16x64x4x128, .f32⟩
  | 20 => ⟨S16x4x128x128, .f32⟩
  | 21 => ⟨S16x4x128x128, .f32⟩
  | 22 => ⟨S16x64x4x128, .f32⟩
  | 23 => ⟨S16x64x4x128, .f32⟩
  | 24 => ⟨S16x64x4x128, .f32⟩
  | 25 => ⟨S16x64x4x128, .f32⟩
  | 26 => ⟨S16x4x64x64, .f32⟩
  | 27 => ⟨S1x4x64x64, .f32⟩
  | 28 => ⟨S16x4x64x64, .f32⟩
  | 29 => ⟨S16x4x64x64, .f32⟩
  | 30 => ⟨S16x4x128x64, .f32⟩
  | 31 => ⟨S16x64x4x128, .f32⟩
  | 32 => ⟨S1x64x4x1, .f32⟩
  | 33 => ⟨S16x64x4x128, .f32⟩
  | 34 => ⟨S16x64x4x128, .f32⟩
  | 35 => ⟨S16x4x128x64, .f32⟩
  | 36 => ⟨S16x64x4x128, .f32⟩
  | 37 => ⟨S1x4x1x1, .f32⟩
  | 38 => ⟨S16x4x128x128, .f32⟩
  | 39 => ⟨S16x4x128x128, .f32⟩
  | 40 => ⟨S1x64x4x1, .f32⟩
  | 41 => ⟨S16x64x4x128, .f32⟩
  | 42 => ⟨S16x64x4x128, .f32⟩
  | 43 => ⟨S16x4x128x128, .f32⟩
  | 44 => ⟨S16x4x128x128, .f32⟩
  | 45 => ⟨S16x64x4x128, .f32⟩
  | 46 => ⟨S16x64x4x128, .f32⟩
  | 47 => ⟨S16x64x4x128, .f32⟩
  | 48 => ⟨S16x64x4x128, .f32⟩
  | 49 => ⟨S16x4x64x64, .f32⟩
  | 50 => ⟨S1x4x64x64, .f32⟩
  | 51 => ⟨S16x4x64x64, .f32⟩
  | 52 => ⟨S16x4x64x64, .f32⟩
  | 53 => ⟨S16x4x128x64, .f32⟩
  | 54 => ⟨S16x64x4x128, .f32⟩
  | 55 => ⟨S1x64x4x1, .f32⟩
  | 56 => ⟨S16x64x4x128, .f32⟩
  | 57 => ⟨S16x64x4x128, .f32⟩
  | 58 => ⟨S16x4x128x64, .f32⟩
  | 59 => ⟨S16x64x4x128, .f32⟩
  | 60 => ⟨S1x4x1x1, .f32⟩
  | 61 => ⟨S16x4x128x128, .f32⟩
  | 62 => ⟨S16x4x128x128, .f32⟩
  | 63 => ⟨S1x64x4x1, .f32⟩
  | 64 => ⟨S16x64x4x128, .f32⟩
  | 65 => ⟨S16x64x4x128, .f32⟩
  | 66 => ⟨S16x4x128x128, .f32⟩
  | 67 => ⟨S16x4x128x128, .f32⟩
  | 68 => ⟨S16x64x4x128, .f32⟩
  | 69 => ⟨S16x256x4x128, .f32⟩
  | 70 => ⟨S16x256x4x128, .f32⟩
  | 71 => ⟨S16x256x4x128, .f32⟩
  | 72 => ⟨S_, .f32⟩
  | 73 => ⟨S16x256x4, .f32⟩
  | 74 => ⟨S16x256x4x1, .f32⟩
  | 75 => ⟨S_, .f32⟩
  | 76 => ⟨S16x256x4x1, .f32⟩
  | 77 => ⟨S16x256x4x1, .f32⟩
  | 78 => ⟨S16x256x4x128, .f32⟩
  | 79 => ⟨S16x256x4x128, .f32⟩
  | 80 => ⟨S16x256x4x128, .f32⟩
  | 81 => ⟨S_, .f32⟩
  | 82 => ⟨S16x256x4, .f32⟩
  | 83 => ⟨S16x256x4x1, .f32⟩
  | 84 => ⟨S_, .f32⟩
  | 85 => ⟨S16x256x4x1, .f32⟩
  | 86 => ⟨S16x256x4x1, .f32⟩
  | 87 => ⟨S16x256x4x128, .f32⟩
  | 88 => ⟨S16x256x4x128, .f32⟩
  | 89 => ⟨S_, .f32⟩
  | 90 => ⟨S16x256x4x1, .f32⟩
  | 91 => ⟨S16x256x4x1, .f32⟩
  | 92 => ⟨S16x256x4x1, .f32⟩
  | 93 => ⟨S16x256x4x128, .f32⟩
  | 94 => ⟨S16x256x4x128, .f32⟩
  | 95 => ⟨S16x256x512, .f32⟩
  | 96 => ⟨S512, .f32⟩
  | 97 => ⟨S1x1x512, .f32⟩
  | 98 => ⟨S16x256x512, .f32⟩
  | 99 => ⟨S16x256x512, .f32⟩
  | 100 => ⟨S16x256x512, .f32⟩
  | 101 => ⟨S16x256x512, .f32⟩
  | 102 => ⟨S_, .f32⟩
  | 103 => ⟨S16x256x512, .f32⟩
  | 104 => ⟨S16x256x512, .f32⟩
  | 105 => ⟨S_, .f32⟩
  | 106 => ⟨S16x256x512, .f32⟩
  | 107 => ⟨S16x256x512, .f32⟩
  | 108 => ⟨S16x256x512, .f32⟩
  | 109 => ⟨S16x256x512, .f32⟩
  | 110 => ⟨S3x512, .f32⟩
  | 111 => ⟨S16x256x512, .f32⟩
  | 112 => ⟨S_, .i32⟩
  | 113 => ⟨S_, .f32⟩
  | 114 => ⟨S16x258x512, .f32⟩
  | 115 => ⟨S16x256x512, .f32⟩
  | 116 => ⟨S1x512, .f32⟩
  | 117 => ⟨S512, .f32⟩
  | 118 => ⟨S1x1x512, .f32⟩
  | 119 => ⟨S16x256x512, .f32⟩
  | 120 => ⟨S16x256x512, .f32⟩
  | 121 => ⟨S16x256x512, .f32⟩
  | 122 => ⟨S1x512, .f32⟩
  | 123 => ⟨S512, .f32⟩
  | 124 => ⟨S1x1x512, .f32⟩
  | 125 => ⟨S16x256x512, .f32⟩
  | 126 => ⟨S16x256x512, .f32⟩
  | 127 => ⟨S16x256x512, .f32⟩
  | _ => ⟨S12288x3584, .bf16⟩

abbrev hbmTy0_3 (i : Nat) : BufTy := match i % 128 with
  | 0 => ⟨S16x256x512, .f32⟩
  | 1 => ⟨S1x512, .f32⟩
  | 2 => ⟨S512, .f32⟩
  | 3 => ⟨S1x1x512, .f32⟩
  | 4 => ⟨S16x256x512, .f32⟩
  | 5 => ⟨S16x256x512, .f32⟩
  | 6 => ⟨S16x256x512, .f32⟩
  | 7 => ⟨S16x256x512, .f32⟩
  | 8 => ⟨S16x256x4x1x128, .f32⟩
  | 9 => ⟨S16x256x4x1x128, .f32⟩
  | 10 => ⟨S16x256x4x2x128, .f32⟩
  | 11 => ⟨S4096x1024, .f32⟩
  | 12 => ⟨S4096x1024, .bf16⟩
  | 13 => ⟨S16x1x4x128x128, .f32⟩
  | 14 => ⟨S16x1x4x128x128, .f32⟩
  | _ => ⟨S12288x3584, .bf16⟩

abbrev hbmTy (i : Nat) : BufTy := match i / 128 with
  | 0 => hbmTy0_0 i
  | 1 => hbmTy0_1 i
  | 2 => hbmTy0_2 i
  | 3 => hbmTy0_3 i
  | _ => ⟨S12288x3584, .bf16⟩

abbrev bufTy : (tb : Table) → Fin (tcTables nBuf tb) → BufTy
  | .hbm, ⟨i, _⟩ => hbmTy i
  | _, _ => ⟨S12288x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_7 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_8 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_cst_9 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_10 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_11 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_12 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_cst_13 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_cst_14 : Ref sig .tc := ⟨.hbm, 328, rfl⟩
abbrev main_v288 : Ref sig .tc := ⟨.hbm, 329, rfl⟩
abbrev main_v289 : Ref sig .tc := ⟨.hbm, 330, rfl⟩
abbrev main_cst_15 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_cst_16 : Ref sig .tc := ⟨.hbm, 337, rfl⟩
abbrev main_v295 : Ref sig .tc := ⟨.hbm, 338, rfl⟩
abbrev main_v296 : Ref sig .tc := ⟨.hbm, 339, rfl⟩
abbrev main_cst_17 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_cst_18 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_call3_v0 : Ref sig .tc := ⟨.hbm, 356, rfl⟩
abbrev main_call3_v1 : Ref sig .tc := ⟨.hbm, 357, rfl⟩
abbrev main_call3_cst : Ref sig .tc := ⟨.hbm, 358, rfl⟩
abbrev main_call3_v2 : Ref sig .tc := ⟨.hbm, 359, rfl⟩
abbrev main_call3_v3 : Ref sig .tc := ⟨.hbm, 360, rfl⟩
abbrev main_call3_cst_0 : Ref sig .tc := ⟨.hbm, 361, rfl⟩
abbrev main_call3_v4 : Ref sig .tc := ⟨.hbm, 362, rfl⟩
abbrev main_call3_v5 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_c : Ref sig .tc := ⟨.hbm, 368, rfl⟩
abbrev main_call4_v0 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_v327 : Ref sig .tc := ⟨.hbm, 382, rfl⟩
abbrev main_v328 : Ref sig .tc := ⟨.hbm, 383, rfl⟩
abbrev main_v329 : Ref sig .tc := ⟨.hbm, 384, rfl⟩
abbrev main_v330 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩

abbrev nD : Nat := 1
abbrev τ : Topo := Topo.v7x

variable {F : FTy → Type} [FloatOps F]
-- ==== Kernel5.lean ====
abbrev S8192x1024 : Shape := ⟨2, ![8192, 1024]⟩
abbrev S4096x1024 : Shape := ⟨2, ![4096, 1024]⟩
abbrev S12288x1024 : Shape := ⟨2, ![12288, 1024]⟩
abbrev S1x1024x1024 : Shape := ⟨3, ![1, 1024, 1024]⟩
abbrev S2x1024 : Shape := ⟨2, ![2, 1024]⟩
abbrev S2x16x6144 : Shape := ⟨3, ![2, 16, 6144]⟩
abbrev S2x1024x16 : Shape := ⟨3, ![2, 1024, 16]⟩
abbrev S2x16x1x6144 : Shape := ⟨4, ![2, 16, 1, 6144]⟩
abbrev S1024x1024 : Shape := ⟨2, ![1024, 1024]⟩
abbrev S1x1024 : Shape := ⟨2, ![1, 1024]⟩
abbrev S1024 : Shape := ⟨1, ![1024]⟩
abbrev S1x1024x16 : Shape := ⟨3, ![1, 1024, 16]⟩
abbrev S1024x16 : Shape := ⟨2, ![1024, 16]⟩
abbrev S16x1024 : Shape := ⟨2, ![16, 1024]⟩
abbrev S16x12288 : Shape := ⟨2, ![16, 12288]⟩
abbrev S12288x128 : Shape := ⟨2, ![12288, 128]⟩
abbrev S1x1x1x1024 : Shape := ⟨4, ![1, 1, 1, 1024]⟩
abbrev S1024x128 : Shape := ⟨2, ![1024, 128]⟩
abbrev S1024x1 : Shape := ⟨2, ![1024, 1]⟩
abbrev S96x1024 : Shape := ⟨2, ![96, 1024]⟩
abbrev S128x1024 : Shape := ⟨2, ![128, 1024]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S12288x1024, .f32⟩
  | .hbm, ⟨3, _⟩ => ⟨S1x1024x1024, .f32⟩
  | .hbm, ⟨4, _⟩ => ⟨S2x1024, .f32⟩
  | .hbm, ⟨5, _⟩ => ⟨S2x16x6144, .f32⟩
  | .hbm, ⟨6, _⟩ => ⟨S2x1024x16, .f32⟩
  | .hbm, ⟨7, _⟩ => ⟨S2x16x1x6144, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024x16, .f32⟩
  | .hbm, ⟨13, _⟩ => ⟨S1024x16, .f32⟩
  | .hbm, ⟨14, _⟩ => ⟨S16x1024, .f32⟩
  | .hbm, ⟨15, _⟩ => ⟨S1x1024, .f32⟩
  | .hbm, ⟨16, _⟩ => ⟨S12288x1024, .f32⟩
  | .hbm, ⟨17, _⟩ => ⟨S12288x1024, .bf16⟩
  | .hbm, ⟨18, _⟩ => ⟨S16x12288, .f32⟩
  | .hbm, ⟨19, _⟩ => ⟨S12288x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S16x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S16x1024, .f32⟩
  | .local _ .vmem, ⟨22, _⟩ => ⟨S16x1024, .f32⟩
  | .local _ .vmem, ⟨23, _⟩ => ⟨S1024x128, .bf16⟩
  | .local _ .vmem, ⟨24, _⟩ => ⟨S1024x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let v2 : BitVec 32 := Scalar.addi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.addi v1 c8_i32_0
  let c0_i32_1 : BitVec 32 := 0#32
  let c0_i32_2 : BitVec 32 := 0#32
  ![v2.toNat, c0_i32_1.toNat]

def cc0_transform_5 (i : grid0.Coords) : Fin 4 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi c1_i32_5 v17
  let c0_i32_6 : BitVec 32 := 0#32
  let v19 : BitVec 32 := Scalar.select v0 v18 c0_i32_6
  let c1_i32_7 : BitVec 32 := 1#32
  let c0_i32_8 : BitVec 32 := 0#32
  let c2_i32 : BitVec 32 := 2#32
  let c0_i32_9 : BitVec 32 := 0#32
  ![c1_i32_7.toNat, v19.toNat, c0_i32_8.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi c1_i32_5 v17
  let c0_i32_6 : BitVec 32 := 0#32
  let v19 : BitVec 32 := Scalar.select v0 v18 c0_i32_6
  let c1_i32_7 : BitVec 32 := 1#32
  let c0_i32_8 : BitVec 32 := 0#32
  let c3_i32 : BitVec 32 := 3#32
  let c0_i32_9 : BitVec 32 := 0#32
  ![c1_i32_7.toNat, v19.toNat, c0_i32_8.toNat, c3_i32.toNat]

def cc0_transform_8 (i : grid0.Coords) : Fin 4 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi c1_i32_5 v17
  let c0_i32_6 : BitVec 32 := 0#32
  let v19 : BitVec 32 := Scalar.select v0 v18 c0_i32_6
  let c1_i32_7 : BitVec 32 := 1#32
  let c0_i32_8 : BitVec 32 := 0#32
  let c4_i32 : BitVec 32 := 4#32
  let c0_i32_9 : BitVec 32 := 0#32
  ![c1_i32_7.toNat, v19.toNat, c0_i32_8.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8192x1024 : Shape := ⟨2, ![8192, 1024]⟩
abbrev S4096x1024 : Shape := ⟨2, ![4096, 1024]⟩
abbrev S12288x1024 : Shape := ⟨2, ![12288, 1024]⟩
abbrev S1x1024x1024 : Shape := ⟨3, ![1, 1024, 1024]⟩
abbrev S2x1024 : Shape := ⟨2, ![2, 1024]⟩
abbrev S2x16x6144 : Shape := ⟨3, ![2, 16, 6144]⟩
abbrev S2x1024x16 : Shape := ⟨3, ![2, 1024, 16]⟩
abbrev S8x1024x1024 : Shape := ⟨3, ![8, 1024, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S16x256x1024 : Shape := ⟨3, ![16, 256, 1024]⟩
abbrev S1x1x6144 : Shape := ⟨3, ![1, 1, 6144]⟩
abbrev S1x6144 : Shape := ⟨2, ![1, 6144]⟩
abbrev S16x256 : Shape := ⟨2, ![16, 256]⟩
abbrev S16x256x1 : Shape := ⟨3, ![16, 256, 1]⟩
abbrev S1x1024x16 : Shape := ⟨3, ![1, 1024, 16]⟩
abbrev S1024x16 : Shape := ⟨2, ![1024, 16]⟩
abbrev S12288x16 : Shape := ⟨2, ![12288, 16]⟩
abbrev S12288 : Shape := ⟨1, ![12288]⟩
abbrev S12288x1 : Shape := ⟨2, ![12288, 1]⟩
abbrev S12288x128 : Shape := ⟨2, ![12288, 128]⟩
abbrev S16x12288 : Shape := ⟨2, ![16, 12288]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S12288x1024, .f32⟩
  | .hbm, ⟨3, _⟩ => ⟨S1x1024x1024, .f32⟩
  | .hbm, ⟨4, _⟩ => ⟨S2x1024, .f32⟩
  | .hbm, ⟨5, _⟩ => ⟨S2x16x6144, .f32⟩
  | .hbm, ⟨6, _⟩ => ⟨S2x1024x16, .f32⟩
  | .hbm, ⟨7, _⟩ => ⟨S8192x1024, .f32⟩
  | .hbm, ⟨8, _⟩ => ⟨S8x1024x1024, .f32⟩
  | .hbm, ⟨9, _⟩ => ⟨S8x1024x1024, .bf16⟩
  | .hbm, ⟨10, _⟩ => ⟨S1x8x6144, .f32⟩
  | .hbm, ⟨11, _⟩ => ⟨S8x6144, .f32⟩
  | .hbm, ⟨12, _⟩ => ⟨S8x1x6144, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1024x1024, .f32⟩
  | .hbm, ⟨20, _⟩ => ⟨S1024x1024, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | .hbm, ⟨24, _⟩ => ⟨S8x1024x1024, .f32⟩
  | .hbm, ⟨25, _⟩ => ⟨S1x1024, .f32⟩
  | .hbm, ⟨26, _⟩ => ⟨S1024, .f32⟩
  | .hbm, ⟨27, _⟩ => ⟨S8x1024x1024, .f32⟩
  | .hbm, ⟨28, _⟩ => ⟨S_, .f32⟩
  | .hbm, ⟨29, _⟩ => ⟨S8x1024, .f32⟩
  | .hbm, ⟨30, _⟩ => ⟨S8x1024x1, .f32⟩
  | .hbm, ⟨31, _⟩ => ⟨S_, .f32⟩
  | .hbm, ⟨32, _⟩ => ⟨S8x1024x1, .f32⟩
  | .hbm, ⟨33, _⟩ => ⟨S8x1024x1, .f32⟩
  | .hbm, ⟨34, _⟩ => ⟨S_, .f32⟩
  | .hbm, ⟨35, _⟩ => ⟨S8x1024x1, .f32⟩
  | .hbm, ⟨36, _⟩ => ⟨S8x1024x1, .f32⟩
  | .hbm, ⟨37, _⟩ => ⟨S8x1024x1, .f32⟩
  | .hbm, ⟨38, _⟩ => ⟨S8x1024x1024, .f32⟩
  | .hbm, ⟨39, _⟩ => ⟨S8x1024x1024, .f32⟩
  | .hbm, ⟨40, _⟩ => ⟨S1x1x1024, .f32⟩
  | .hbm, ⟨41, _⟩ => ⟨S8x1024x1024, .f32⟩
  | .hbm, ⟨42, _⟩ => ⟨S8x1024x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x1024x1024, .f32⟩
  | .hbm, ⟨47, _⟩ => ⟨S8x1024x1024, .f32⟩
  | .hbm, ⟨48, _⟩ => ⟨S8x1024x1024, .f32⟩
  | .hbm, ⟨49, _⟩ => ⟨S8x1024x1024, .f32⟩
  | .hbm, ⟨50, _⟩ => ⟨S4096x1024, .f32⟩
  | .hbm, ⟨51, _⟩ => ⟨S16x256x1024, .f32⟩
  | .hbm, ⟨52, _⟩ => ⟨S16x256x1024, .bf16⟩
  | .hbm, ⟨53, _⟩ => ⟨S1x1x6144, .f32⟩
  | .hbm, ⟨54, _⟩ => ⟨S1x6144, .f32⟩
  | .hbm, ⟨55, _⟩ => ⟨S1x1x6144, .f32⟩
  | .hbm, ⟨56, _⟩ => ⟨S1x1x1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | .hbm, ⟨60, _⟩ => ⟨S1x1x1024, .f32⟩
  | .hbm, ⟨61, _⟩ => ⟨S1x1x1024, .f32⟩
  | .hbm, ⟨62, _⟩ => ⟨S16x256x1024, .f32⟩
  | .hbm, ⟨63, _⟩ => ⟨S1024x1024, .f32⟩
  | .hbm, ⟨64, _⟩ => ⟨S16x256x1024, .f32⟩
  | .hbm, ⟨65, _⟩ => ⟨S16x256x1024, .f32⟩
  | .hbm, ⟨66, _⟩ => ⟨S16x256x1024, .f32⟩
  | .hbm, ⟨67, _⟩ => ⟨S16x256x1024, .f32⟩
  | .hbm, ⟨68, _⟩ => ⟨S1x1024, .f32⟩
  | .hbm, ⟨69, _⟩ => ⟨S1024, .f32⟩
  | .hbm, ⟨70, _⟩ => ⟨S16x256x1024, .f32⟩
  | .hbm, ⟨71, _⟩ => ⟨S_, .f32⟩
  | .hbm, ⟨72, _⟩ => ⟨S16x256, .f32⟩
  | .hbm, ⟨73, _⟩ => ⟨S16x256x1, .f32⟩
  | .hbm, ⟨74, _⟩ => ⟨S_, .f32⟩
  | .hbm, ⟨75, _⟩ => ⟨S16x256x1, .f32⟩
  | .hbm, ⟨76, _⟩ => ⟨S16x256x1, .f32⟩
  | .hbm, ⟨77, _⟩ => ⟨S_, .f32⟩
  | .hbm, ⟨78, _⟩ => ⟨S16x256x1, .f32⟩
  | .hbm, ⟨79, _⟩ => ⟨S16x256x1, .f32⟩
  | .hbm, ⟨80, _⟩ => ⟨S16x256x1, .f32⟩
  | .hbm, ⟨81, _⟩ => ⟨S16x256x1024, .f32⟩
  | .hbm, ⟨82, _⟩ => ⟨S16x256x1024, .f32⟩
  | .hbm, ⟨83, _⟩ => ⟨S1x1x1024, .f32⟩
  | .hbm, ⟨84, _⟩ => ⟨S16x256x1024, .f32⟩
  | .hbm, ⟨85, _⟩ => ⟨S16x256x1024, .f32⟩
  | .hbm, ⟨86, _⟩ => ⟨S_, .f32⟩
  | .hbm, ⟨87, _⟩ => ⟨S1x1x1024, .f32⟩
  | .hbm, ⟨88, _⟩ => ⟨S1x1x1024, .f32⟩
  | .hbm, ⟨89, _⟩ => ⟨S16x256x1024, .f32⟩
  | .hbm, ⟨90, _⟩ => ⟨S16x256x1024, .f32⟩
  | .hbm, ⟨91, _⟩ => ⟨S16x256x1024, .f32⟩
  | .hbm, ⟨92, _⟩ => ⟨S16x256x1024, .f32⟩
  | .hbm, ⟨93, _⟩ => ⟨S8192x1024, .f32⟩
  | .hbm, ⟨94, _⟩ => ⟨S4096x1024, .f32⟩
  | .hbm, ⟨95, _⟩ => ⟨S12288x1024, .f32⟩
  | .hbm, ⟨96, _⟩ => ⟨S8192x1024, .f32⟩
  | .hbm, ⟨97, _⟩ => ⟨S4096x1024, .f32⟩
  | .hbm, ⟨98, _⟩ => ⟨S12288x1024, .f32⟩
  | .hbm, ⟨99, _⟩ => ⟨S1x1024x16, .f32⟩
  | .hbm, ⟨100, _⟩ => ⟨S1024x16, .f32⟩
  | .hbm, ⟨101, _⟩ => ⟨S12288x16, .f32⟩
  | .hbm, ⟨102, _⟩ => ⟨S_, .f32⟩
  | .hbm, ⟨103, _⟩ => ⟨S12288, .f32⟩
  | .hbm, ⟨104, _⟩ => ⟨S_, .f32⟩
  | .hbm, ⟨105, _⟩ => ⟨S12288, .f32⟩
  | .hbm, ⟨106, _⟩ => ⟨S12288, .f32⟩
  | .hbm, ⟨107, _⟩ => ⟨S12288x1, .f32⟩
  | .hbm, ⟨108, _⟩ => ⟨S12288x16, .f32⟩
  | .hbm, ⟨109, _⟩ => ⟨S12288x16, .f32⟩
  | .hbm, ⟨110, _⟩ => ⟨S12288x16, .f32⟩
  | .hbm, ⟨111, _⟩ => ⟨S_, .f32⟩
  | .hbm, ⟨112, _⟩ => ⟨S12288, .f32⟩
  | .hbm, ⟨113, _⟩ => ⟨S12288x1, .f32⟩
  | .hbm, ⟨114, _⟩ => ⟨S12288x16, .f32⟩
  | .hbm, ⟨115, _⟩ => ⟨S12288x16, .f32⟩
  | .hbm, ⟨116, _⟩ => ⟨S_, .i32⟩
  | .hbm, ⟨117, _⟩ => ⟨S_, .f32⟩
  | .hbm, ⟨118, _⟩ => ⟨S12288x128, .f32⟩
  | .hbm, ⟨119, _⟩ => ⟨S12288x1024, .bf16⟩
  | .hbm, ⟨120, _⟩ => ⟨S16x12288, .f32⟩
  | .hbm, ⟨121, _⟩ => ⟨S12288x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_cst_4 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_c : Ref sig .tc := ⟨.hbm, 116, rfl⟩
abbrev main_call0_v0 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Kernel6.lean ====
abbrev S1024 : Shape := ⟨1, ![1024]⟩
abbrev S8x1024 : Shape := ⟨2, ![8, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S1024 : Shape := ⟨1, ![1024]⟩
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S7x1024 : Shape := ⟨2, ![7, 1024]⟩
abbrev S1x1024 : Shape := ⟨2, ![1, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S8x6144 : Shape := ⟨2, ![8, 6144]⟩
abbrev S7x6144 : Shape := ⟨2, ![7, 6144]⟩
abbrev S16x6144 : Shape := ⟨2, ![16, 6144]⟩
abbrev S1x16x6144 : Shape := ⟨3, ![1, 16, 6144]⟩
abbrev S2x16x6144 : Shape := ⟨3, ![2, 16, 6144]⟩

abbrev nBuf : Space → Nat
  | .hbm => 113
  | .vmem => 0
  | .smem => 0
  | _ => 0

abbrev bufTy : (tb : Table) → Fin (tcTables nBuf tb) → BufTy
  | .hbm, ⟨0, _⟩ => ⟨S1024, .f32⟩
  | .hbm, ⟨1, _⟩ => ⟨S8x1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S7x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024x6144, .f32⟩
  | .hbm, ⟨17, _⟩ => ⟨S1024x6144, .f32⟩
  | .hbm, ⟨18, _⟩ => ⟨S1x6144, .f32⟩
  | .hbm, ⟨19, _⟩ => ⟨S1x6144, .f32⟩
  | .hbm, ⟨20, _⟩ => ⟨S6144, .f32⟩
  | .hbm, ⟨21, _⟩ => ⟨S1x6144, .f32⟩
  | .hbm, ⟨22, _⟩ => ⟨S1x6144, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S1x1024x6144, .f32⟩
  | .hbm, ⟨33, _⟩ => ⟨S1024x6144, .f32⟩
  | .hbm, ⟨34, _⟩ => ⟨S8x6144, .f32⟩
  | .hbm, ⟨35, _⟩ => ⟨S1x6144, .f32⟩
  | .hbm, ⟨36, _⟩ => ⟨S6144, .f32⟩
  | .hbm, ⟨37, _⟩ => ⟨S1x6144, .f32⟩
  | .hbm, ⟨38, _⟩ => ⟨S8x6144, .f32⟩
  | .hbm, ⟨39, _⟩ => ⟨S8x6144, .f32⟩
  | .hbm, ⟨40, _⟩ => ⟨S7x1024, .f32⟩
  | .hbm, ⟨41, _⟩ => ⟨S7x1024, .f32⟩
  | .hbm, ⟨42, _⟩ => ⟨S_, .f32⟩
  | .hbm, ⟨43, _⟩ => ⟨S7x1024, .f32⟩
  | .hbm, ⟨44, _⟩ => ⟨S7x1024, .f32⟩
  | .hbm, ⟨45, _⟩ => ⟨S_, .f32⟩
  | .hbm, ⟨46, _⟩ => ⟨S7x1024, .f32⟩
  | .hbm, ⟨47, _⟩ => ⟨S7x1024, .f32⟩
  | .hbm, ⟨48, _⟩ => ⟨S7x1024, .f32⟩
  | .hbm, ⟨49, _⟩ => ⟨S1x1024x6144, .f32⟩
  | .hbm, ⟨50, _⟩ => ⟨S1024x6144, .f32⟩
  | .hbm, ⟨51, _⟩ => ⟨S7x6144, .f32⟩
  | .hbm, ⟨52, _⟩ => ⟨S1x6144, .f32⟩
  | .hbm, ⟨53, _⟩ => ⟨S6144, .f32⟩
  | .hbm, ⟨54, _⟩ => ⟨S1x6144, .f32⟩
  | .hbm, ⟨55, _⟩ => ⟨S7x6144, .f32⟩
  | .hbm, ⟨56, _⟩ => ⟨S7x6144, .f32⟩
  | .hbm, ⟨57, _⟩ => ⟨S16x6144, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024x6144, .f32⟩
  | .hbm, ⟨69, _⟩ => ⟨S1024x6144, .f32⟩
  | .hbm, ⟨70, _⟩ => ⟨S1x6144, .f32⟩
  | .hbm, ⟨71, _⟩ => ⟨S1x6144, .f32⟩
  | .hbm, ⟨72, _⟩ => ⟨S6144, .f32⟩
  | .hbm, ⟨73, _⟩ => ⟨S1x6144, .f32⟩
  | .hbm, ⟨74, _⟩ => ⟨S1x6144, .f32⟩
  | .hbm, ⟨75, _⟩ => ⟨S8x1024, .f32⟩
  | .hbm, ⟨76, _⟩ => ⟨S8x1024, .f32⟩
  | .hbm, ⟨77, _⟩ => ⟨S_, .f32⟩
  | .hbm, ⟨78, _⟩ => ⟨S8x1024, .f32⟩
  | .hbm, ⟨79, _⟩ => ⟨S8x1024, .f32⟩
  | .hbm, ⟨80, _⟩ => ⟨S_, .f32⟩
  | .hbm, ⟨81, _⟩ => ⟨S8x1024, .f32⟩
  | .hbm, ⟨82, _⟩ => ⟨S8x1024, .f32⟩
  | .hbm, ⟨83, _⟩ => ⟨S8x1024, .f32⟩
  | .hbm, ⟨84, _⟩ => ⟨S1x1024x6144, .f32⟩
  | .hbm, ⟨85, _⟩ => ⟨S1024x6144, .f32⟩
  | .hbm, ⟨86, _⟩ => ⟨S8x6144, .f32⟩
  | .hbm, ⟨87, _⟩ => ⟨S1x6144, .f32⟩
  | .hbm, ⟨88, _⟩ => ⟨S6144, .f32⟩
  | .hbm, ⟨89, _⟩ => ⟨S1x6144, .f32⟩
  | .hbm, ⟨90, _⟩ => ⟨S8x6144, .f32⟩
  | .hbm, ⟨91, _⟩ => ⟨S8x6144, .f32⟩
  | .hbm, ⟨92, _⟩ => ⟨S7x1024, .f32⟩
  | .hbm, ⟨93, _⟩ => ⟨S7x1024, .f32⟩
  | .hbm, ⟨94, _⟩ => ⟨S_, .f32⟩
  | .hbm, ⟨95, _⟩ => ⟨S7x1024, .f32⟩
  | .hbm, ⟨96, _⟩ => ⟨S7x1024, .f32⟩
  | .hbm, ⟨97, _⟩ => ⟨S_, .f32⟩
  | .hbm, ⟨98, _⟩ => ⟨S7x1024, .f32⟩
  | .hbm, ⟨99, _⟩ => ⟨S7x1024, .f32⟩
  | .hbm, ⟨100, _⟩ => ⟨S7x1024, .f32⟩
  | .hbm, ⟨101, _⟩ => ⟨S1x1024x6144, .f32⟩
  | .hbm, ⟨102, _⟩ => ⟨S1024x6144, .f32⟩
  | .hbm, ⟨103, _⟩ => ⟨S7x6144, .f32⟩
  | .hbm, ⟨104, _⟩ => ⟨S1x6144, .f32⟩
  | .hbm, ⟨105, _⟩ => ⟨S6144, .f32⟩
  | .hbm, ⟨106, _⟩ => ⟨S1x6144, .f32⟩
  | .hbm, ⟨107, _⟩ => ⟨S7x6144, .f32⟩
  | .hbm, ⟨108, _⟩ => ⟨S7x6144, .f32⟩
  | .hbm, ⟨109, _⟩ => ⟨S16x6144, .f32⟩
  | .hbm, ⟨110, _⟩ => ⟨S1x16x6144, .f32⟩
  | .hbm, ⟨111, _⟩ => ⟨S1x16x6144, .f32⟩
  | .hbm, ⟨112, _⟩ => ⟨S2x16x6144, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call5_v0 : Ref sig .tc := ⟨.hbm, 92, rfl⟩
abbrev main_call5_v1 : Ref sig .tc := ⟨.hbm, 93, rfl⟩
abbrev main_call5_cst : Ref sig .tc := ⟨.hbm, 94, rfl⟩
abbrev main_call5_v2 : Ref sig .tc := ⟨.hbm, 95, rfl⟩
abbrev main_call5_v3 : Ref sig .tc := ⟨.hbm, 96, rfl⟩
abbrev main_call5_cst_0 : Ref sig .tc := ⟨.hbm, 97, rfl⟩
abbrev main_call5_v4 : Ref sig .tc := ⟨.hbm, 98, rfl⟩
abbrev main_call5_v5 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩

abbrev nD : Nat := 1
abbrev τ : Topo := Topo.v7x

variable {F : FTy → Type} [FloatOps F]
-- ==== Proof.FfnPure.lean ====
module

public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

/-- What one tile of 896 hidden units adds to an output element: over the tile's units, the gated hidden
    value of the row `x` (SiLU of its product with the gate column, times its product with the up column)
    times the unit's weight in the down projection. -/
def part (x : Fin 1024 → EReal) (g u : Fin 1024 → Fin 896 → EReal) (w : Fin 896 → EReal) : EReal :=
  ∑ f : Fin 896, ((∑ k : Fin 1024, x k * g k f) * Ideal.logistic (∑ k : Fin 1024, x k * g k f)
    * ∑ k : Fin 1024, x k * u k f) * w f

/-- The first group's accumulator store is the accumulator plus the tile's part. -/
theorem pay1_at (X : FVec Ideal S1x1024x1024 .bf16) (W : FVec Ideal S1024x1792 .bf16) (D : FVec Ideal S1x1x896x1024 .f32)
    (A : FVec Ideal S1024x1024 .f32) (r : Fin 1024) (d : Fin 1024) :
    k0_pay1 (F := Ideal) (k0_pay8 D) (k0_pay10 X W) (k0_pay11 X W) A (ix2 r d)
      = A (ix2 r d) + part (fun k => X (ix3 0 r k)) (fun k f => W (ix2 k ⟨f.val, by omega⟩))
          (fun k f => W (ix2 k ⟨896 + f.val, by omega⟩)) (fun f => D (ix4 0 0 f d)) := by
  unfold part
  pointwise [k0_pay1, k0_pay8, k0_pay10, k0_pay11]

/-- The second group's accumulator store is the accumulator plus the tile's part. -/
theorem pay2_at (X : FVec Ideal S1x512x1024 .bf16) (W : FVec Ideal S1024x1792 .bf16) (D : FVec Ideal S1x1x896x1024 .f32)
    (A : FVec Ideal S512x1024 .f32) (r : Fin 512) (d : Fin 1024) :
    k0_pay2 (F := Ideal) (k0_pay8 D) X W A (ix2 r d)
      = A (ix2 r d) + part (fun k => X (ix3 0 r k)) (fun k f => W (ix2 k ⟨f.val, by omega⟩))
          (fun k f => W (ix2 k ⟨896 + f.val, by omega⟩)) (fun f => D (ix4 0 0 f d)) := by
  unfold part
  pointwise [k0_pay2, k0_pay8]

/-- Whether lane `l` carries a part of expert `e`'s gate. -/
abbrev lane (e l : ℕ) : Prop := l = e ∨ l = e + 16

/-- The mask's arithmetic on 32-bit words, at every expert and lane. -/
theorem mask_word : ∀ (e : Fin 16) (l : Fin 128),
    IntOp.ori (IntOp.cmpi CmpIPredicate.eq (BitVec.ofNat 32 l.val) (BitVec.ofNat 32 e.val))
      (IntOp.cmpi CmpIPredicate.eq (BitVec.ofNat 32 l.val) (Scalar.addi (BitVec.ofNat 32 e.val) 16#32))
      = if lane e.val l.val then 1#1 else 0#1 := by
  decide +kernel

/-- The lane mask of a grid point selects the lanes of its expert. -/
theorem pay5_at (i : grid0.Coords) (l : Fin 128) : k0_pay5 i (ix2 0 l) = if lane (i 0).val l.val then 1#1 else 0#1 := by
  pointwise [k0_pay5]
  exact mask_word (i 0) l

/-- A selection by the decided mask is the `if`. -/
theorem select_if (p : Prop) [Decidable p] (x y : EReal) :
    Scalar.select (if p then 1#1 else 0#1) x y = if p then x else y := by
  by_cases h : p <;> simp [h, Scalar.select]

/-- The first group's output store is the accumulator times the row's gate, the sum of the expert's lanes. -/
theorem pay3_at (i : grid0.Coords) (G : FVec Ideal S1x1024x128 .bf16) (A : FVec Ideal S1024x1024 .f32) (r d : Fin 1024) :
    k0_pay3 (F := Ideal) (k0_pay5 i) G A (ix3 0 r d)
      = A (ix2 r d) * ∑ l : Fin 128, if lane (i 0).val l.val then G (ix3 0 r l) else 0 := by
  pointwise [k0_pay3]
  refine congrArg _ (Finset.sum_congr rfl fun l _ => ?_)
  rw [pay5_at, select_if]

/-- The second group's output store is the accumulator times the row's gate, the sum of the expert's lanes. -/
theorem pay4_at (i : grid0.Coords) (G : FVec Ideal S1x512x128 .bf16) (A : FVec Ideal S512x1024 .f32) (r : Fin 512) (d : Fin 1024) :
    k0_pay4 (F := Ideal) (k0_pay5 i) G A (ix3 0 r d)
      = A (ix2 r d) * ∑ l : Fin 128, if lane (i 0).val l.val then G (ix3 0 r l) else 0 := by
  pointwise [k0_pay4]
  refine congrArg _ (Finset.sum_congr rfl fun l _ => ?_)
  rw [pay5_at, select_if]

end Cert.Kernel2Ideal.Ffn
-- ==== Proof.FfnBody.lean ====
module

public import proofs.«01_k».proof.Proof.FfnPure
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ)

/-- The joined weight scratch: the gate tile's columns, then the up tile's. -/
def wgu (x4 x5 : FVec Ideal S1x1x1024x896 .f32) : FVec Ideal S1024x1792 .bf16 := fun i =>
  if h : (i 1).val < 896 then x4 (ix4 0 0 (i 0) ⟨(i 1).val, h⟩)
  else x5 (ix4 0 0 (i 0) ⟨(i 1).val - 896, by have : (i 1).val < 1792 := (i 1).isLt; omega⟩)

/-- The scratch read whole after its two stores is the joined weights. -/
theorem readCov_wgu (x4 x5 : FVec Ideal S1x1x1024x896 .f32) :
    (View.whole cc0_scratch1).readCov (Val := Elt Ideal)
      [⟨Rect.unit ![0, 896] ![1024, 896] inb_S1024x1792_S1024x896_0_896, k0_pay7 (F := Ideal) x5⟩,
        ⟨Rect.unit ![0, 0] ![1024, 896] inb_S1024x1792_S1024x896_0_0, k0_pay6 (F := Ideal) x4⟩]
      (Rect.unit ![0, 0] ![1024, 1792] inb_S1024x1792_S1024x1792_0_0).toLoadRect = wgu x4 x5 := by
  rw [View.readCov_eq_canon']
  funext j
  have hj : (Rect.unit (s := S1024x1792) ![0, 0] ![1024, 1792] inb_S1024x1792_S1024x1792_0_0).toLoadRect.idx j = j := by
    funext a
    apply Fin.ext
    fin_cases a <;> simp
  rw [hj]
  canon_tiles x h
  case piece0 =>
    have hn : ¬(j 1).val < 896 := by omega
    unfold wgu
    rw [dif_neg hn]
    pointwise [k0_pay7]
    blk_ext []
  case piece1 =>
    have hn : (j 1).val < 896 := by omega
    unfold wgu
    rw [dif_pos hn]
    pointwise [k0_pay6]
    blk_ext []

/-- The row of the joined groups: the first group's rows, then the second's. -/
def rowX (x0 : FVec Ideal S1x1024x1024 .bf16) (x1 : FVec Ideal S1x512x1024 .bf16) (r : Fin 1536) (k : Fin 1024) : EReal :=
  if h : r.val < 1024 then x0 (ix3 0 ⟨r.val, h⟩ k) else x1 (ix3 0 ⟨r.val - 1024, by omega⟩ k)

/-- What one grid point adds to the accumulator at a row and a column. -/
def tile (x0 : FVec Ideal S1x1024x1024 .bf16) (x1 : FVec Ideal S1x512x1024 .bf16)
    (x4 x5 : FVec Ideal S1x1x1024x896 .f32) (x6 : FVec Ideal S1x1x896x1024 .f32) (r : Fin 1536) (d : Fin 1024) : EReal :=
  part (rowX x0 x1 r) (fun k f => x4 (ix4 0 0 k f)) (fun k f => x5 (ix4 0 0 k f)) (fun f => x6 (ix4 0 0 f d))

/-- The sum of the expert's lanes in a row of the joined groups. -/
def laneSum (e : ℕ) (x2 : FVec Ideal S1x1024x128 .bf16) (x3 : FVec Ideal S1x512x128 .bf16) (r : Fin 1536) : EReal :=
  if h : r.val < 1024 then ∑ l : Fin 128, if lane e l.val then x2 (ix3 0 ⟨r.val, h⟩ l) else 0
  else ∑ l : Fin 128, if lane e l.val then x3 (ix3 0 ⟨r.val - 1024, by omega⟩ l) else 0

/-- The first half of the joined weight block is the gate weights. -/
theorem wgu_gate (x4 x5 : FVec Ideal S1x1x1024x896 .f32) (k : Fin 1024) (f : Fin 896) :
    wgu x4 x5 (ix2 k ⟨f.val, by omega⟩) = x4 (ix4 0 0 k f) :=
  dif_pos f.isLt

/-- The second half of the joined weight block is the up weights. -/
theorem wgu_up (x4 x5 : FVec Ideal S1x1x1024x896 .f32) (k : Fin 1024) (f : Fin 896) :
    wgu x4 x5 (ix2 k ⟨896 + f.val, by omega⟩) = x5 (ix4 0 0 k f) := by
  refine (dif_neg (show ¬(896 + f.val < 896) by omega)).trans ?_
  refine congrArg (fun q : Fin 896 => x5 (ix4 0 0 k q)) (Fin.ext ?_)
  show 896 + f.val - 896 = f.val
  omega

/-- The first group's accumulator store, over the joined weights. -/
theorem acc1_at (x0 : FVec Ideal S1x1024x1024 .bf16) (x1 : FVec Ideal S1x512x1024 .bf16)
    (x4 x5 : FVec Ideal S1x1x1024x896 .f32) (x6 : FVec Ideal S1x1x896x1024 .f32) (A : FVec Ideal S1024x1024 .f32)
    (r : Fin 1024) (d : Fin 1024) :
    k0_pay1 (F := Ideal) (k0_pay8 x6) (k0_pay10 x0 (wgu x4 x5)) (k0_pay11 x0 (wgu x4 x5)) A (ix2 r d)
      = A (ix2 r d) + tile x0 x1 x4 x5 x6 ⟨r.val, by omega⟩ d := by
  rw [pay1_at]
  simp only [wgu_gate, wgu_up]
  have : rowX x0 x1 ⟨r.val, by omega⟩ = fun k => x0 (ix3 0 r k) := funext fun k => dif_pos r.isLt
  rw [tile, this]

/-- The second group's accumulator store, over the joined weights. -/
theorem acc2_at (x0 : FVec Ideal S1x1024x1024 .bf16) (x1 : FVec Ideal S1x512x1024 .bf16)
    (x4 x5 : FVec Ideal S1x1x1024x896 .f32) (x6 : FVec Ideal S1x1x896x1024 .f32) (A : FVec Ideal S512x1024 .f32)
    (r : Fin 512) (d : Fin 1024) :
    k0_pay2 (F := Ideal) (k0_pay8 x6) x1 (wgu x4 x5) A (ix2 r d)
      = A (ix2 r d) + tile x0 x1 x4 x5 x6 ⟨1024 + r.val, by omega⟩ d := by
  rw [pay2_at]
  simp only [wgu_gate, wgu_up]
  have : rowX x0 x1 ⟨1024 + r.val, by omega⟩ = fun k => x1 (ix3 0 r k) := funext fun k => by
    refine (dif_neg (show ¬(1024 + r.val < 1024) by omega)).trans ?_
    refine congrArg (fun q : Fin 512 => x1 (ix3 0 q k)) (Fin.ext ?_)
    show 1024 + r.val - 1024 = r.val
    omega
  rw [tile, this]

/-- The lane sum of a row of the first group reads the first group's lanes. -/
theorem laneSum_first (e : ℕ) (x2 : FVec Ideal S1x1024x128 .bf16) (x3 : FVec Ideal S1x512x128 .bf16) (r : Fin 1024) :
    laneSum e x2 x3 ⟨r.val, by omega⟩ = ∑ l : Fin 128, if lane e l.val then x2 (ix3 0 r l) else 0 :=
  dif_pos r.isLt

/-- The lane sum of a row of the second group reads the second group's lanes. -/
theorem laneSum_second (e : ℕ) (x2 : FVec Ideal S1x1024x128 .bf16) (x3 : FVec Ideal S1x512x128 .bf16) (r : Fin 512) :
    laneSum e x2 x3 ⟨1024 + r.val, by omega⟩ = ∑ l : Fin 128, if lane e l.val then x3 (ix3 0 r l) else 0 := by
  refine (dif_neg (show ¬(1024 + r.val < 1024) by omega)).trans ?_
  refine Finset.sum_congr rfl fun l _ => ?_
  refine congrArg (fun q : Fin 512 => if lane e l.val then x3 (ix3 0 q l) else 0) (Fin.ext ?_)
  show 1024 + r.val - 1024 = r.val
  omega

/-- The accumulator starts at zero. -/
theorem pay9_at (i : S1536x1024.Idx) : k0_pay9 (F := Ideal) i = (0 : EReal) := by
  pointwise [k0_pay9]

/-- The first group's rows of an array over the joined groups. -/
theorem idx_first (r d : Fin 1024) :
    (Rect.unit (s := S1536x1024) ![0, 0] ![1024, 1024] inb_S1536x1024_S1024x1024_0_0).idx (ix2 r d)
      = (ix2 ⟨r.val, by omega⟩ d : S1536x1024.Idx) := by
  funext a
  apply Fin.ext
  fin_cases a <;> simp

/-- The second group's rows of an array over the joined groups. -/
theorem idx_second (r : Fin 512) (d : Fin 1024) :
    (Rect.unit (s := S1536x1024) ![1024, 0] ![512, 1024] inb_S1536x1024_S512x1024_1024_0).idx (ix2 r d)
      = (ix2 ⟨1024 + r.val, by omega⟩ d : S1536x1024.Idx) := by
  funext a
  apply Fin.ext
  fin_cases a <;> simp

/-- At the first of an expert's three points the accumulator ends at the tile's part. -/
theorem outsA (c : Dev nD) (t : Fin cfg0.N) (h0 : t.val % 3 = 0) (h1 : ¬t.val % 3 = 2) (r : Fin 1536) (d : Fin 1024) :
    (outsAt0 m c t.val t.isLt).2 (ix2 r d)
      = tile (X0_0 m c t) (X0_1 m c t) (iblk m c 4 t) (iblk m c 5 t) (iblk m c 6 t) r d := by
  rw [outsAt0_A m c t h0 h1]
  frame_out
  have ew := readCov_wgu (iblk m c 4 t) (iblk m c 5 t)
  rw [ew]
  simp (disch := first | rfl | decide | (intro a; fin_cases a <;> rfl)) only [↓View.readCov_skip, ↓View.readCov_fill, View.readCov_cons_toLoadRect]
  refine View.canon_append_of_piecesOf (Val := Elt Ideal) (e := .f32) (s := S1536x1024) (fun i : S1536x1024.Idx => tile (X0_0 m c t) (X0_1 m c t) (iblk m c 4 t) (iblk m c 5 t) (iblk m c 6 t) (i 0) (i 1)) [_] [_, _] ⟨fun x => ?_, fun x => ?_, trivial⟩ (ix2 r d) ?_
  · idx_vars x
    refine (acc2_at (X0_0 m c t) (X0_1 m c t) (iblk m c 4 t) (iblk m c 5 t) (iblk m c 6 t) _ x0 x1).trans ?_
    refine (congrArg (· + _) (pay9_at _)).trans ((zero_add _).trans ?_)
    show _ = (fun i : S1536x1024.Idx => tile (X0_0 m c t) (X0_1 m c t) (iblk m c 4 t) (iblk m c 5 t) (iblk m c 6 t) (i 0) (i 1))
      ((Rect.unit (s := S1536x1024) ![1024, 0] ![512, 1024] inb_S1536x1024_S512x1024_1024_0).idx (ix2 x0 x1))
    rw [idx_second]
    rfl
  · idx_vars x
    refine (acc1_at (X0_0 m c t) (X0_1 m c t) (iblk m c 4 t) (iblk m c 5 t) (iblk m c 6 t) _ x0 x1).trans ?_
    refine (congrArg (· + _) (pay9_at _)).trans ((zero_add _).trans ?_)
    show _ = (fun i : S1536x1024.Idx => tile (X0_0 m c t) (X0_1 m c t) (iblk m c 4 t) (iblk m c 5 t) (iblk m c 6 t) (i 0) (i 1))
      ((Rect.unit (s := S1536x1024) ![0, 0] ![1024, 1024] inb_S1536x1024_S1024x1024_0_0).idx (ix2 x0 x1))
    rw [idx_first]
    rfl
  · exact View.cover_of_tiledBy _ ![512, 1024] (by sl_kernel_rfl) _

/-- At the second of an expert's three points the accumulator grows by the tile's part. -/
theorem outsB (c : Dev nD) (t : Fin cfg0.N) (h0 : ¬t.val % 3 = 0) (h1 : ¬t.val % 3 = 2) (r : Fin 1536) (d : Fin 1024) :
    (outsAt0 m c t.val t.isLt).2 (ix2 r d)
      = (show EReal from (outsAt0 m c (t.val - 1) (Nat.lt_of_le_of_lt (Nat.sub_le _ _) t.isLt)).2 (ix2 r d))
        + tile (X0_0 m c t) (X0_1 m c t) (iblk m c 4 t) (iblk m c 5 t) (iblk m c 6 t) r d := by
  rw [outsAt0_B m c t h0 h1]
  frame_out
  have ew := readCov_wgu (iblk m c 4 t) (iblk m c 5 t)
  rw [ew]
  simp only [read_unread_whole]
  canon_tiles x h using (View.cover_of_tiledBy _ ![512, 1024] (by sl_kernel_rfl) _)
  case piece0 =>
    idx_vars x
    obtain rfl : r = ⟨1024 + x0.val, Nat.add_lt_add_left x0.isLt 1024⟩ := Fin.ext h0
    obtain rfl : d = x1 := Fin.ext h1
    refine (acc2_at (X0_0 m c t) (X0_1 m c t) (iblk m c 4 t) (iblk m c 5 t) (iblk m c 6 t) _ x0 d).trans ?_
    exact congrArg (fun q : S1536x1024.Idx => (show EReal from (outsAt0 m c (t.val - 1) (Nat.lt_of_le_of_lt (Nat.sub_le _ _) t.isLt)).2 q) + _) (idx_second x0 d)
  case piece1 =>
    idx_vars x
    obtain rfl : r = ⟨x0.val, lt_trans x0.isLt (by decide)⟩ := Fin.ext h0
    obtain rfl : d = x1 := Fin.ext h1
    refine (acc1_at (X0_0 m c t) (X0_1 m c t) (iblk m c 4 t) (iblk m c 5 t) (iblk m c 6 t) _ x0 d).trans ?_
    exact congrArg (fun q : S1536x1024.Idx => (show EReal from (outsAt0 m c (t.val - 1) (Nat.lt_of_le_of_lt (Nat.sub_le _ _) t.isLt)).2 q) + _) (idx_first x0 d)

/-- At the last of an expert's three points the output is the accumulator, grown by the tile's part, times the
    row's gate lanes. -/
theorem outsC (c : Dev nD) (t : Fin cfg0.N) (h0 : ¬t.val % 3 = 0) (h1 : t.val % 3 = 2) (r : Fin 1536) (d : Fin 1024) :
    (outsAt0 m c t.val t.isLt).1 (ix3 0 r d)
      = ((show EReal from (outsAt0 m c (t.val - 1) (Nat.lt_of_le_of_lt (Nat.sub_le _ _) t.isLt)).2 (ix2 r d))
        + tile (X0_0 m c t) (X0_1 m c t) (iblk m c 4 t) (iblk m c 5 t) (iblk m c 6 t) r d)
          * laneSum (grid0.coords t 0).val (X0_2 m c t) (X0_3 m c t) r := by
  rw [outsAt0_C m c t h0 h1]
  frame_out
  have ew := readCov_wgu (iblk m c 4 t) (iblk m c 5 t)
  rw [ew]
  simp only [read_unread_whole]
  simp (disch := first | rfl | decide | (intro a; fin_cases a <;> rfl)) only [↓View.readCov_skip, ↓View.readCov_fill, View.readCov_cons_toLoadRect]
  canon_tiles x h using (View.cover_of_tiledBy _ ![1, 512, 1024] (by sl_kernel_rfl) _)
  case piece0 =>
    idx_vars x
    obtain rfl : r = ⟨1024 + x1.val, Nat.add_lt_add_left x1.isLt 1024⟩ := Fin.ext h1
    obtain rfl : d = x2 := Fin.ext h2
    obtain rfl : x0 = 0 := Fin.ext h0.symm
    refine (pay4_at (grid0.coords t) (X0_3 m c t) _ x1 d).trans ?_
    rw [laneSum_second]
    refine congrArg (· * _) ?_
    refine (acc2_at (X0_0 m c t) (X0_1 m c t) (iblk m c 4 t) (iblk m c 5 t) (iblk m c 6 t) _ x1 d).trans ?_
    exact congrArg (fun q : S1536x1024.Idx => (show EReal from (outsAt0 m c (t.val - 1) (Nat.lt_of_le_of_lt (Nat.sub_le _ _) t.isLt)).2 q) + _) (idx_second x1 d)
  case piece1 =>
    idx_vars x
    obtain rfl : r = ⟨x1.val, lt_trans x1.isLt (by decide)⟩ := Fin.ext h1
    obtain rfl : d = x2 := Fin.ext h2
    obtain rfl : x0 = 0 := Fin.ext h0.symm
    refine (pay3_at (grid0.coords t) (X0_2 m c t) _ x1 d).trans ?_
    rw [laneSum_first]
    refine congrArg (· * _) ?_
    refine (acc1_at (X0_0 m c t) (X0_1 m c t) (iblk m c 4 t) (iblk m c 5 t) (iblk m c 6 t) _ x1 d).trans ?_
    exact congrArg (fun q : S1536x1024.Idx => (show EReal from (outsAt0 m c (t.val - 1) (Nat.lt_of_le_of_lt (Nat.sub_le _ _) t.isLt)).2 q) + _) (idx_first x1 d)

end Cert.Kernel2Ideal.Ffn
-- ==== Proof.FfnHost.lean ====
module

public import proofs.«01_k».proof.Proof.FfnPure
public import proofs.«01_k».proof.Proof.Gen.Kernel2Ideal.Frame.Runs
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ)

/-- The first group's padded row array before the launch. -/
theorem v0_eq (c : Dev nD) : (V m c main_v0 : FVec Ideal S16x1168x1024 .bf16)
    = pad S16x1168x1024 ![0, 0, 0] ![0, 144, 0] ![0, 0, 0] (m ((c : Thread nD τ).loc main_arg0) : FVec Ideal S16x1024x1024 .bf16)
        (sitofp (F := Ideal) FTy.bf16 (constantI S_ 32 0#32)) pads_S16x1024x1024_S16x1168x1024_000_01440_000 h_S_ := by
  unfold V
  after_reads_simp
  rfl

/-- The first group's rows, padded: inside the old extent the padded array is the argument. -/
theorem v0_at (c : Dev nD) (e : Fin 16) (r : Fin 1024) (k : Fin 1024) :
    (V m c main_v0 : FVec Ideal S16x1168x1024 .bf16) (ix3 e ⟨r.val, by omega⟩ k)
      = (m ((c : Thread nD τ).loc main_arg0) : FVec Ideal S16x1024x1024 .bf16) (ix3 e r k) := by
  rw [v0_eq]
  have h : ∀ (X : FVec Ideal S16x1024x1024 .bf16) (z : FVec Ideal S_ .bf16), pad S16x1168x1024 ![0, 0, 0] ![0, 144, 0] ![0, 0, 0] X z pads_S16x1024x1024_S16x1168x1024_000_01440_000 h_S_
      (ix3 e ⟨r.val, by omega⟩ k) = X (ix3 e r k) := fun X z => by pointwise
  exact h _ _

/-- The second group's padded row array before the launch. -/
theorem v1_eq (c : Dev nD) : (V m c main_v1 : FVec Ideal S16x656x1024 .bf16)
    = pad S16x656x1024 ![0, 0, 0] ![0, 144, 0] ![0, 0, 0] (m ((c : Thread nD τ).loc main_arg1) : FVec Ideal S16x512x1024 .bf16)
        (sitofp (F := Ideal) FTy.bf16 (constantI S_ 32 0#32)) pads_S16x512x1024_S16x656x1024_000_01440_000 h_S_ := by
  unfold V
  after_reads_simp
  rfl

/-- The second group's rows, padded: inside the old extent the padded array is the argument. -/
theorem v1_at (c : Dev nD) (e : Fin 16) (r : Fin 512) (k : Fin 1024) :
    (V m c main_v1 : FVec Ideal S16x656x1024 .bf16) (ix3 e ⟨r.val, by omega⟩ k)
      = (m ((c : Thread nD τ).loc main_arg1) : FVec Ideal S16x512x1024 .bf16) (ix3 e r k) := by
  rw [v1_eq]
  have h : ∀ (X : FVec Ideal S16x512x1024 .bf16) (z : FVec Ideal S_ .bf16), pad S16x656x1024 ![0, 0, 0] ![0, 144, 0] ![0, 0, 0] X z pads_S16x512x1024_S16x656x1024_000_01440_000 h_S_
      (ix3 e ⟨r.val, by omega⟩ k) = X (ix3 e r k) := fun X z => by pointwise
  exact h _ _

/-- The first group's gates spread over lanes: the gate's coarse part in the lane of its expert, the rest of the
    gate 16 lanes further, zero elsewhere. -/
def lanesS (g : FVec Ideal S16x1024x1 .f32) : FVec Ideal S16x1024x128 .bf16 :=
  addf
    (select (broadcastInDim S16x1024x128 ![0, 1, 2] bcast_S16x1x128_S16x1024x128_0_1_2
        (cmpi CmpIPredicate.eq
          (broadcastInDim S16x1x128 ![0, 1, 2] bcast_S1x1x128_S16x1x128_0_1_2
            (broadcastInDim S1x1x128 ![2] bcast_S128_S1x1x128_2 (iotaInDim S128 32 0)))
          (broadcastInDim S16x1x128 ![0, 1, 2] bcast_S16x1x1_S16x1x128_0_1_2
            (broadcastInDim S16x1x1 ![0] bcast_S16_S16x1x1_0 (iotaInDim S16 32 0)))))
      (broadcastInDim S16x1024x128 ![0, 1, 2] bcast_S16x1024x1_S16x1024x128_0_1_2 (truncf FTy.bf16 g bitsLt_bf16_f32))
      (broadcastInDim S16x1024x128 ![] bcast_S_S16x1024x128 (constant S_ FTy.bf16 0#16)))
    (select (broadcastInDim S16x1024x128 ![0, 1, 2] bcast_S16x1x128_S16x1024x128_0_1_2
        (cmpi CmpIPredicate.eq
          (broadcastInDim S16x1x128 ![0, 1, 2] bcast_S1x1x128_S16x1x128_0_1_2
            (broadcastInDim S1x1x128 ![2] bcast_S128_S1x1x128_2 (iotaInDim S128 32 0)))
          (broadcastInDim S16x1x128 ![0, 1, 2] bcast_S16x1x1_S16x1x128_0_1_2
            (addi (broadcastInDim S16x1x1 ![0] bcast_S16_S16x1x1_0 (iotaInDim S16 32 0))
              (broadcastInDim S16x1x1 ![] bcast_S_S16x1x1 (constantI S_ 32 16#32))))))
      (broadcastInDim S16x1024x128 ![0, 1, 2] bcast_S16x1024x1_S16x1024x128_0_1_2
        (truncf FTy.bf16 (subf g (extf FTy.f32 (truncf FTy.bf16 g bitsLt_bf16_f32) bitsLt_bf16_f32)) bitsLt_bf16_f32))
      (broadcastInDim S16x1024x128 ![] bcast_S_S16x1024x128 (constant S_ FTy.bf16 0#16)))

/-- The second group's gates spread over lanes, as the first group's. -/
def lanesP (g : FVec Ideal S16x512x1 .f32) : FVec Ideal S16x512x128 .bf16 :=
  addf
    (select (broadcastInDim S16x512x128 ![0, 1, 2] bcast_S16x1x128_S16x512x128_0_1_2
        (cmpi CmpIPredicate.eq
          (broadcastInDim S16x1x128 ![0, 1, 2] bcast_S1x1x128_S16x1x128_0_1_2
            (broadcastInDim S1x1x128 ![2] bcast_S128_S1x1x128_2 (iotaInDim S128 32 0)))
          (broadcastInDim S16x1x128 ![0, 1, 2] bcast_S16x1x1_S16x1x128_0_1_2
            (broadcastInDim S16x1x1 ![0] bcast_S16_S16x1x1_0 (iotaInDim S16 32 0)))))
      (broadcastInDim S16x512x128 ![0, 1, 2] bcast_S16x512x1_S16x512x128_0_1_2 (truncf FTy.bf16 g bitsLt_bf16_f32))
      (broadcastInDim S16x512x128 ![] bcast_S_S16x512x128 (constant S_ FTy.bf16 0#16)))
    (select (broadcastInDim S16x512x128 ![0, 1, 2] bcast_S16x1x128_S16x512x128_0_1_2
        (cmpi CmpIPredicate.eq
          (broadcastInDim S16x1x128 ![0, 1, 2] bcast_S1x1x128_S16x1x128_0_1_2
            (broadcastInDim S1x1x128 ![2] bcast_S128_S1x1x128_2 (iotaInDim S128 32 0)))
          (broadcastInDim S16x1x128 ![0, 1, 2] bcast_S16x1x1_S16x1x128_0_1_2
            (addi (broadcastInDim S16x1x1 ![0] bcast_S16_S16x1x1_0 (iotaInDim S16 32 0))
              (broadcastInDim S16x1x1 ![] bcast_S_S16x1x1 (constantI S_ 32 16#32))))))
      (broadcastInDim S16x512x128 ![0, 1, 2] bcast_S16x512x1_S16x512x128_0_1_2
        (truncf FTy.bf16 (subf g (extf FTy.f32 (truncf FTy.bf16 g bitsLt_bf16_f32) bitsLt_bf16_f32)) bitsLt_bf16_f32))
      (broadcastInDim S16x512x128 ![] bcast_S_S16x512x128 (constant S_ FTy.bf16 0#16)))

/-- The first group's padded lane array before the launch. -/
theorem v21_eq (c : Dev nD) : (V m c main_v21 : FVec Ideal S16x1168x128 .bf16)
    = pad S16x1168x128 ![0, 0, 0] ![0, 144, 0] ![0, 0, 0] (lanesS (m ((c : Thread nD τ).loc main_arg2)))
        (sitofp FTy.bf16 (constantI S_ 32 0#32)) pads_S16x1024x128_S16x1168x128_000_01440_000 h_S_ := by
  unfold V
  after_reads_simp
  rfl

/-- The second group's padded lane array before the launch. -/
theorem v41_eq (c : Dev nD) : (V m c main_v41 : FVec Ideal S16x656x128 .bf16)
    = pad S16x656x128 ![0, 0, 0] ![0, 144, 0] ![0, 0, 0] (lanesP (m ((c : Thread nD τ).loc main_arg3)))
        (sitofp FTy.bf16 (constantI S_ 32 0#32)) pads_S16x512x128_S16x656x128_000_01440_000 h_S_ := by
  unfold V
  after_reads_simp
  rfl

/-- The words of the two lane tests, at every expert and lane. -/
theorem lane_words : ∀ (e : Fin 16) (l : Fin 128),
    IntOp.cmpi CmpIPredicate.eq (BitVec.ofNat 32 l.val) (BitVec.ofNat 32 e.val) = (if l.val = e.val then 1#1 else 0#1)
    ∧ IntOp.cmpi CmpIPredicate.eq (BitVec.ofNat 32 l.val) (IntOp.addi (BitVec.ofNat 32 e.val) 16#32)
      = (if l.val = e.val + 16 then 1#1 else 0#1) := by
  decide +kernel

/-- The two lanes of an expert add up to the gate, when the gate is finite. -/
theorem lane_sum (e : Fin 16) (x : EReal) (h : x ≠ ⊤ ∧ x ≠ ⊥) :
    (∑ l : Fin 128, if lane e.val l.val then (if l.val = e.val then x else 0)
      + (if l.val = e.val + 16 then x - x else 0) else 0) = x := by
  have h0 : x - x = 0 := by
    induction x using EReal.rec with
    | bot => exact absurd rfl h.2
    | top => exact absurd rfl h.1
    | coe a => rw [← EReal.coe_sub, sub_self]; rfl
  rw [h0]
  have : ∀ l : Fin 128, (if lane e.val l.val then (if l.val = e.val then x else 0)
      + (if l.val = e.val + 16 then (0 : EReal) else 0) else 0) = if l = ⟨e.val, by omega⟩ then x else 0 := fun l => by
    by_cases h1 : l.val = e.val
    · simp [lane, h1, Fin.ext_iff]
    · simp [lane, h1, Fin.ext_iff]
  rw [Finset.sum_congr rfl fun l _ => this l, Finset.sum_ite_eq' Finset.univ]
  simp

/-- The first group's lanes at an index. -/
theorem lanesS_at (g : FVec Ideal S16x1024x1 .f32) (e : Fin 16) (r : Fin 1024) (l : Fin 128) :
    lanesS g (ix3 e r l) = (if l.val = e.val then g (ix3 e r 0) else 0)
      + (if l.val = e.val + 16 then g (ix3 e r 0) - g (ix3 e r 0) else 0) := by
  pointwise [lanesS]
  rw [(lane_words e l).1, (lane_words e l).2, select_if, select_if]

/-- The first group's padded lanes at an index inside the old extent. -/
theorem v21_at (c : Dev nD) (e : Fin 16) (r : Fin 1024) (l : Fin 128) :
    (V m c main_v21 : FVec Ideal S16x1168x128 .bf16) (ix3 e ⟨r.val, by omega⟩ l)
      = lanesS (m ((c : Thread nD τ).loc main_arg2)) (ix3 e r l) := by
  rw [v21_eq]
  pointwise

/-- For a finite gate, the sum of an expert's lanes of the first group is the gate. -/
theorem gateS (g : FVec Ideal S16x1024x1 .f32) (e : Fin 16) (r : Fin 1024) (h : g (ix3 e r 0) ≠ ⊤ ∧ g (ix3 e r 0) ≠ ⊥) :
    (∑ l : Fin 128, if lane e.val l.val then lanesS g (ix3 e r l) else 0) = g (ix3 e r 0) := by
  rw [← lane_sum e (g (ix3 e r 0)) h]
  exact Finset.sum_congr rfl fun l _ => by rw [lanesS_at]

/-- The second group's lanes at an index. -/
theorem lanesP_at (g : FVec Ideal S16x512x1 .f32) (e : Fin 16) (r : Fin 512) (l : Fin 128) :
    lanesP g (ix3 e r l) = (if l.val = e.val then g (ix3 e r 0) else 0)
      + (if l.val = e.val + 16 then g (ix3 e r 0) - g (ix3 e r 0) else 0) := by
  pointwise [lanesP]
  rw [(lane_words e l).1, (lane_words e l).2, select_if, select_if]

/-- The second group's padded lanes at an index inside the old extent. -/
theorem v41_at (c : Dev nD) (e : Fin 16) (r : Fin 512) (l : Fin 128) :
    (V m c main_v41 : FVec Ideal S16x656x128 .bf16) (ix3 e ⟨r.val, by omega⟩ l)
      = lanesP (m ((c : Thread nD τ).loc main_arg3)) (ix3 e r l) := by
  rw [v41_eq]
  pointwise

/-- For a finite gate, the sum of an expert's lanes of the second group is the gate. -/
theorem gateP (g : FVec Ideal S16x512x1 .f32) (e : Fin 16) (r : Fin 512) (h : g (ix3 e r 0) ≠ ⊤ ∧ g (ix3 e r 0) ≠ ⊥) :
    (∑ l : Fin 128, if lane e.val l.val then lanesP g (ix3 e r l) else 0) = g (ix3 e r 0) := by
  rw [← lane_sum e (g (ix3 e r 0)) h]
  exact Finset.sum_congr rfl fun l _ => by rw [lanesP_at]

end Cert.Kernel2Ideal.Ffn
-- ==== Proof.Finite.lean ====
module

public import proofs.«01_k».proof.Proof.Gen.Pre_finite_gates
public import proofs.«01_k».proof.Proof.Gen.Pre_finite_gains
public import Idealize.ShloMosaic.Lib.Pointwise
public import Idealize.ShloMosaic.PureOps.Ideal

@[expose] public section

set_option maxRecDepth 16384

noncomputable section

open Idealize.ShloMosaic

namespace Cert.Finite

/-- A bit that is the conjunction of two bits is one only if both are. -/
theorem and_one : ∀ a b : BitVec 1, IntOp.andi a b = 1#1 → a = 1#1 ∧ b = 1#1 := by decide

/-- A conjunction of bits over a list is one only if every bit is one. -/
theorem foldl_and {α : Type} (f : α → BitVec 1) (l : List α) (r : BitVec 1)
    (h : l.foldl (fun r n => IntOp.andi r (f n)) r = 1#1) : r = 1#1 ∧ ∀ a ∈ l, f a = 1#1 := by
  induction l generalizing r with
  | nil => exact ⟨h, fun a ha => absurd ha (by simp)⟩
  | cons b l ih =>
    obtain ⟨h1, h2⟩ := ih _ h
    obtain ⟨h3, h4⟩ := and_one _ _ h1
    exact ⟨h3, fun a ha => (List.mem_cons.mp ha).elim (fun e => e ▸ h4) (h2 a)⟩

/-- A conjunction over every element of an array, down to one bit, is one only if it is one at every element. -/
theorem reduce_and {s : Shape} {axes : List (Fin s.rank)} (x : s.Idx → BitVec 1) (v : (⟨0, ![]⟩ : Shape).Idx → BitVec 1)
    (h : s.ReducesTo axes ⟨0, ![]⟩) (hu : 0 < (⟨0, ![]⟩ : Shape).numel) (j : (⟨0, ![]⟩ : Shape).Idx)
    (e : Host.reduce IntOp.andi x v h hu j = 1#1) (i : s.Idx) : x i = 1#1 := by
  have := (foldl_and _ _ _ e).2 (s.rowMajor i) (by
    rw [List.mem_filter]
    refine ⟨List.mem_finRange _, ?_⟩
    rw [decide_eq_true_eq]
    funext a
    exact a.elim0)
  simpa using this

/-- The word of plus infinity is the top of the extended reals. -/
theorem inf_word : (Ideal.ofBits .f32 0x7F800000#32 : EReal) = ⊤ := by
  show Ideal.ieee 8 23 0x7F800000#32 = ⊤
  unfold Ideal.ieee
  rw [if_pos (by decide), if_pos (by decide), if_neg (by decide)]

/-- A magnitude that compares below plus infinity is that of a finite number. -/
theorem ne_of_abs_lt (x : EReal) (h : Ideal.cmp .olt (max x (-x)) (Ideal.ofBits .f32 0x7F800000#32) = 1#1) : x ≠ ⊤ ∧ x ≠ ⊥ := by
  rw [inf_word] at h
  constructor <;> rintro rfl <;> simp [Ideal.cmp] at h

/-- Every element of an array is a finite number. -/
def All {s : Shape} (x : s.Idx → EReal) : Prop := ∀ i, x i ≠ ⊤ ∧ x i ≠ ⊥

/-- The gates' precondition says that every gate of both groups is finite. -/
theorem gates (x0 : FVec Ideal Pre_finite_gates.S16x1024x1024 .bf16) (x1 : FVec Ideal Pre_finite_gates.S16x512x1024 .bf16)
    (x2 : FVec Ideal Pre_finite_gates.S16x1024x1 .f32) (x3 : FVec Ideal Pre_finite_gates.S16x512x1 .f32)
    (x4 x5 : FVec Ideal Pre_finite_gates.S2x16x1024x2688 .f32) (x6 : FVec Ideal Pre_finite_gates.S2x16x2688x1024 .f32)
    (h : Cert.Pre_finite_gates.fn (F := Ideal) x0 x1 x2 x3 x4 x5 x6 = fun _ => 1#1) : All x2 ∧ All x3 := by
  have h' := congrFun h (fun a => a.elim0)
  obtain ⟨h2, h3⟩ := and_one _ _ h'
  exact ⟨fun i => ne_of_abs_lt _ (reduce_and _ _ _ _ _ h2 i), fun i => ne_of_abs_lt _ (reduce_and _ _ _ _ _ h3 i)⟩

/-- The attention's precondition says that every query gain and every key gain is finite. -/
theorem gains (x0 : FVec Ideal Pre_finite_gains.S12288x3072 .bf16) (x1 x2 : FVec Ideal Pre_finite_gains.S1x64 .f32)
    (h : Cert.Pre_finite_gains.fn (F := Ideal) x0 x1 x2 = fun _ => 1#1) : All x1 ∧ All x2 := by
  have h' := congrFun h (fun a => a.elim0)
  obtain ⟨h1, h2⟩ := and_one _ _ h'
  exact ⟨fun i => ne_of_abs_lt _ (reduce_and _ _ _ _ _ h1 i), fun i => ne_of_abs_lt _ (reduce_and _ _ _ _ _ h2 i)⟩

end Cert.Finite
-- ==== Proof.FfnBlocks.lean ====
module

public import proofs.«01_k».proof.Proof.FfnBody
public import proofs.«01_k».proof.Proof.Gen.Kernel2Ideal.Value
public import proofs.«01_k».proof.Proof.FfnHost
public import proofs.«01_k».proof.Proof.Finite

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen

variable (m : (ℓ : Loc nD τ sig) → Buf (Elt Ideal) ℓ)

/-- The windows' block indices at a grid point: point `t` is expert `t / 3`, hidden tile `t % 3`. -/
theorem idx : ∀ t : Fin cfg0.N, win0_0.index t = ![t.val / 3, 0, 0] ∧ win0_1.index t = ![t.val / 3, 0, 0]
    ∧ win0_2.index t = ![t.val / 3, 0, 0] ∧ win0_3.index t = ![t.val / 3, 0, 0]
    ∧ win0_4.index t = ![0, t.val / 3, 0, t.val % 3] ∧ win0_5.index t = ![0, t.val / 3, 0, t.val % 3]
    ∧ win0_6.index t = ![0, t.val / 3, t.val % 3, 0] ∧ (grid0.coords t 0).val = t.val / 3 ∧ t.val / 3 < 16 :=
  (by decide +kernel : ∀ t : Fin grid0.N, _)

/-- The expert of a grid point. -/
def ex (t : Fin cfg0.N) : Fin 16 := ⟨t.val / 3, (idx t).2.2.2.2.2.2.2.2⟩

/-- The gate-weight block. -/
theorem blk4 (c : Dev nD) (t : Fin cfg0.N) (k : Fin 1024) (f : Fin 896) :
    (iblk m c 4 t : FVec Ideal S1x1x1024x896 .f32) (ix4 0 0 k f)
      = (m ((c : Thread nD τ).loc main_arg4) : FVec Ideal S2x16x1024x2688 .f32) (ix4 0 (ex t) k ⟨896 * (t.val % 3) + f.val, by omega⟩) := by
  blk_ext [iblk, V, idx t, ex]

/-- The up-weight block. -/
theorem blk5 (c : Dev nD) (t : Fin cfg0.N) (k : Fin 1024) (f : Fin 896) :
    (iblk m c 5 t : FVec Ideal S1x1x1024x896 .f32) (ix4 0 0 k f)
      = (m ((c : Thread nD τ).loc main_arg5) : FVec Ideal S2x16x1024x2688 .f32) (ix4 0 (ex t) k ⟨896 * (t.val % 3) + f.val, by omega⟩) := by
  blk_ext [iblk, V, idx t, ex]

/-- The down-weight block. -/
theorem blk6 (c : Dev nD) (t : Fin cfg0.N) (f : Fin 896) (d : Fin 1024) :
    (iblk m c 6 t : FVec Ideal S1x1x896x1024 .f32) (ix4 0 0 f d)
      = (m ((c : Thread nD τ).loc main_arg6) : FVec Ideal S2x16x2688x1024 .f32) (ix4 0 (ex t) ⟨896 * (t.val % 3) + f.val, by omega⟩ d) := by
  blk_ext [iblk, V, idx t, ex]

/-- The first group's block of rows. -/
theorem blk0 (c : Dev nD) (t : Fin cfg0.N) (r k : Fin 1024) :
    (X0_0 m c t : FVec Ideal S1x1024x1024 .bf16) (ix3 0 r k)
      = (m ((c : Thread nD τ).loc main_arg0) : FVec Ideal S16x1024x1024 .bf16) (ix3 (ex t) r k) := by
  refine Eq.trans ?_ (v0_at m c (ex t) r k)
  unfold X0_0 Pipeline.Window.fill
  rw [dif_pos (moved0_0 t _)]
  blk_ext [iblk, idx t, ex]

/-- The second group's block of rows. -/
theorem blk1 (c : Dev nD) (t : Fin cfg0.N) (r : Fin 512) (k : Fin 1024) :
    (X0_1 m c t : FVec Ideal S1x512x1024 .bf16) (ix3 0 r k)
      = (m ((c : Thread nD τ).loc main_arg1) : FVec Ideal S16x512x1024 .bf16) (ix3 (ex t) r k) := by
  refine Eq.trans ?_ (v1_at m c (ex t) r k)
  unfold X0_1 Pipeline.Window.fill
  rw [dif_pos (moved0_1 t _)]
  blk_ext [iblk, idx t, ex]

/-- The first group's block of gate lanes. -/
theorem blk2 (c : Dev nD) (t : Fin cfg0.N) (r : Fin 1024) (l : Fin 128) :
    (X0_2 m c t : FVec Ideal S1x1024x128 .bf16) (ix3 0 r l)
      = lanesS (m ((c : Thread nD τ).loc main_arg2)) (ix3 (ex t) r l) := by
  refine Eq.trans ?_ (v21_at m c (ex t) r l)
  unfold X0_2 Pipeline.Window.fill
  rw [dif_pos (moved0_2 t _)]
  blk_ext [iblk, idx t, ex]

/-- The second group's block of gate lanes. -/
theorem blk3 (c : Dev nD) (t : Fin cfg0.N) (r : Fin 512) (l : Fin 128) :
    (X0_3 m c t : FVec Ideal S1x512x128 .bf16) (ix3 0 r l)
      = lanesP (m ((c : Thread nD τ).loc main_arg3)) (ix3 (ex t) r l) := by
  refine Eq.trans ?_ (v41_at m c (ex t) r l)
  unfold X0_3 Pipeline.Window.fill
  rw [dif_pos (moved0_3 t _)]
  blk_ext [iblk, idx t, ex]

/-- The hidden value of a row under one gate column and one up column. -/
def hid (x g u : Fin 1024 → EReal) : EReal := (∑ k, x k * g k) * Ideal.logistic (∑ k, x k * g k) * ∑ k, x k * u k

/-- The row of the joined groups: the first group's rows, then the second's. -/
def row (x0 : FVec Ideal S16x1024x1024 .bf16) (x1 : FVec Ideal S16x512x1024 .bf16) (e : Fin 16) (r : Fin 1536) (k : Fin 1024) : EReal :=
  if h : r.val < 1024 then x0 (ix3 e ⟨r.val, h⟩ k) else x1 (ix3 e ⟨r.val - 1024, by omega⟩ k)

/-- The gate of a row of the joined groups. -/
def gate (x2 : FVec Ideal S16x1024x1 .f32) (x3 : FVec Ideal S16x512x1 .f32) (e : Fin 16) (r : Fin 1536) : EReal :=
  if h : r.val < 1024 then x2 (ix3 e ⟨r.val, h⟩ 0) else x3 (ix3 e ⟨r.val - 1024, by omega⟩ 0)

/-- One term of the down projection: the row's hidden value `f` times the down weight. -/
def term (c : Dev nD) (e : Fin 16) (r : Fin 1536) (d : Fin 1024) (f : Fin 2688) : EReal :=
  hid (row (m ((c : Thread nD τ).loc main_arg0)) (m ((c : Thread nD τ).loc main_arg1)) e r)
      (fun k => (m ((c : Thread nD τ).loc main_arg4) : FVec Ideal S2x16x1024x2688 .f32) (ix4 0 e k f))
      (fun k => (m ((c : Thread nD τ).loc main_arg5) : FVec Ideal S2x16x1024x2688 .f32) (ix4 0 e k f))
    * (m ((c : Thread nD τ).loc main_arg6) : FVec Ideal S2x16x2688x1024 .f32) (ix4 0 e f d)

/-- The row a grid point reads is the expert's row. -/
theorem rowX_eq (c : Dev nD) (t : Fin cfg0.N) (r : Fin 1536) :
    rowX (X0_0 m c t) (X0_1 m c t) r
      = row (m ((c : Thread nD τ).loc main_arg0)) (m ((c : Thread nD τ).loc main_arg1)) (ex t) r := by
  funext k
  unfold rowX row
  by_cases h : r.val < 1024
  · rw [dif_pos h, dif_pos h]
    exact blk0 m c t ⟨r.val, h⟩ k
  · rw [dif_neg h, dif_neg h]
    exact blk1 m c t ⟨r.val - 1024, by omega⟩ k

/-- What a grid point adds to the accumulator: its tile of the down projection's terms. -/
theorem tile_eq (c : Dev nD) (t : Fin cfg0.N) (r : Fin 1536) (d : Fin 1024) :
    tile (X0_0 m c t) (X0_1 m c t) (iblk m c 4 t) (iblk m c 5 t) (iblk m c 6 t) r d
      = ∑ f : Fin 896, term m c (ex t) r d ⟨896 * (t.val % 3) + f.val, by omega⟩ := by
  unfold tile part
  rw [rowX_eq m c t r]
  refine Finset.sum_congr rfl fun f _ => ?_
  have e4 := fun k => blk4 m c t k f
  have e5 := fun k => blk5 m c t k f
  have e6 := blk6 m c t f d
  unfold term hid
  simp only [e4, e5, e6]

/-- The sum of a point's expert lanes is the row's gate, when every gate is finite. -/
theorem laneSum_eq (c : Dev nD) (t : Fin cfg0.N) (r : Fin 1536)
    (h2 : Finite.All (s := S16x1024x1) (m ((c : Thread nD τ).loc main_arg2)))
    (h3 : Finite.All (s := S16x512x1) (m ((c : Thread nD τ).loc main_arg3))) :
    laneSum (grid0.coords t 0).val (X0_2 m c t) (X0_3 m c t) r
      = gate (m ((c : Thread nD τ).loc main_arg2)) (m ((c : Thread nD τ).loc main_arg3)) (ex t) r := by
  have ee : (grid0.coords t 0).val = (ex t).val := (idx t).2.2.2.2.2.2.2.1
  rw [ee]
  unfold laneSum gate
  by_cases h : r.val < 1024
  · rw [dif_pos h, dif_pos h, ← gateS _ (ex t) ⟨r.val, h⟩ (h2 _)]
    refine Finset.sum_congr rfl fun l _ => ?_
    rw [← blk2 m c t ⟨r.val, h⟩ l]
  · rw [dif_neg h, dif_neg h, ← gateP _ (ex t) ⟨r.val - 1024, by omega⟩ (h3 _)]
    refine Finset.sum_congr rfl fun l _ => ?_
    rw [← blk3 m c t ⟨r.val - 1024, by omega⟩ l]

/-- The value the last point of an expert writes: the whole down projection of the row, times the row's gate. -/
theorem outs_at (c : Dev nD) (e : Fin 16) (r : Fin 1536) (d : Fin 1024) (hn : 3 * e.val + 2 < cfg0.N)
    (h2 : Finite.All (s := S16x1024x1) (m ((c : Thread nD τ).loc main_arg2)))
    (h3 : Finite.All (s := S16x512x1) (m ((c : Thread nD τ).loc main_arg3))) :
    (outsAt0 m c (3 * e.val + 2) hn).1 (ix3 0 r d)
      = (∑ f : Fin 2688, term m c e r d f)
        * gate (m ((c : Thread nD τ).loc main_arg2)) (m ((c : Thread nD τ).loc main_arg3)) e r := by
  have x2 : ex ⟨3 * e.val + 2, hn⟩ = e := Fin.ext (show (3 * e.val + 2) / 3 = e.val by omega)
  have x1 : ex ⟨3 * e.val + 1, by omega⟩ = e := Fin.ext (show (3 * e.val + 1) / 3 = e.val by omega)
  have x0 : ex ⟨3 * e.val, by omega⟩ = e := Fin.ext (show (3 * e.val) / 3 = e.val by omega)
  have o2 := outsC m c ⟨3 * e.val + 2, hn⟩ (show ¬(3 * e.val + 2) % 3 = 0 by omega) (show (3 * e.val + 2) % 3 = 2 by omega) r d
  have o1 := outsB m c ⟨3 * e.val + 1, by omega⟩ (show ¬(3 * e.val + 1) % 3 = 0 by omega) (show ¬(3 * e.val + 1) % 3 = 2 by omega) r d
  have o0 := outsA m c ⟨3 * e.val, by omega⟩ (show (3 * e.val) % 3 = 0 by omega) (show ¬(3 * e.val) % 3 = 2 by omega) r d
  rw [tile_eq, laneSum_eq m c _ r h2 h3] at o2
  rw [tile_eq] at o1 o0
  rw [x2] at o2
  rw [x1] at o1
  rw [x0] at o0
  refine o2.trans ?_
  refine congrArg (· * _) ?_
  rw [Fin.sum_univ_tiles 3 896 rfl (term m c e r d), Fin.sum_univ_three]
  refine congrArg₂ (· + ·) (o1.trans (congrArg₂ (· + ·) (o0.trans ?_) ?_)) ?_
  all_goals
    refine Finset.sum_congr rfl fun f _ => congrArg (term m c e r d) (Fin.ext ?_)
    simp only []
    omega

/-- The kernel's result at an index. -/
theorem G7_at (c : Dev nD) (e : Fin 16) (r : Fin 1536) (d : Fin 1024)
    (h2 : Finite.All (s := S16x1024x1) (m ((c : Thread nD τ).loc main_arg2)))
    (h3 : Finite.All (s := S16x512x1) (m ((c : Thread nD τ).loc main_arg3))) :
    (Value.G7 m c : FVec Ideal S16x1536x1024 .f32) (ix3 e r d)
      = (∑ f : Fin 2688, term m c e r d f)
        * gate (m ((c : Thread nD τ).loc main_arg2)) (m ((c : Thread nD τ).loc main_arg3)) e r := by
  have hN : cfg0.N = 48 := N_0
  have hn : 3 * e.val + 2 < cfg0.N := by omega
  have hp : Value.pt7Of (ix3 e r d) = 3 * e.val + 2 := by
    show 3 * (1 * (e.val / 1 - 0) + 1 * (r.val / 1536 - 0) + 1 * (d.val / 1024 - 0)) + 2 = _
    omega
  have hl : Value.loc7Of (ix3 e r d) = ix3 0 r d := by
    funext a
    fin_cases a
    · exact Fin.ext (Nat.mod_one _)
    · exact Fin.ext (Nat.mod_eq_of_lt r.isLt)
    · exact Fin.ext (Nat.mod_eq_of_lt d.isLt)
  refine Eq.trans ?_ (outs_at m c e r d hn h2 h3)
  rw [Value.outsAt0_sweep m c _ hn]
  unfold Value.G7
  rw [dif_pos (by rw [hp]; exact hn), hl]
  simp only [hp]

end Cert.Kernel2Ideal.Ffn
-- ==== Proof.FfnRef.lean ====
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.Ffn

open Cert.Reference2Ideal Cert.Reference2Ideal.Gen

open Cert.Reference2Ideal.Read

/-- One hidden unit of an expert at a row: SiLU of the row's product with the gate column times its product with the
    up column. -/
def hid (x : Fin 1024 → EReal) (g u : Fin 1024 → EReal) : EReal :=
  (∑ k : Fin 1024, x k * g k) * Ideal.logistic (∑ k : Fin 1024, x k * g k) * ∑ k : Fin 1024, x k * u k

/-- The first group's hidden values. -/
theorem v8_at (x0 : FVec Ideal S16x1024x1024 .bf16) (x4 x5 : FVec Ideal S2x16x1024x2688 .f32) (e : Fin 16) (r : Fin 1024) (f : Fin 2688) :
    val_main_v8 (F := Ideal) x0 x4 x5 (ix3 e r f)
      = hid (fun k => x0 (ix3 e r k)) (fun k => x4 (ix4 0 e k f)) (fun k => x5 (ix4 0 e k f)) := by
  unfold hid
  pointwise [val_main_v8, val_main_v4, val_main_v3, val_main_v7, val_main_v0, val_main_v1, val_main_v2, val_main_v5, val_main_v6, val_main_call0_v5, val_main_call0_v4, val_main_call0_v3, val_main_call0_v2, val_main_call0_v1, val_main_call0_v0, val_main_call0_cst, val_main_call0_cst_0]
  rfl

/-- The second group's hidden values. -/
theorem v22_at (x1 : FVec Ideal S16x512x1024 .bf16) (x4 x5 : FVec Ideal S2x16x1024x2688 .f32) (e : Fin 16) (r : Fin 512) (f : Fin 2688) :
    val_main_v22 (F := Ideal) x1 x4 x5 (ix3 e r f)
      = hid (fun k => x1 (ix3 e r k)) (fun k => x4 (ix4 0 e k f)) (fun k => x5 (ix4 0 e k f)) := by
  unfold hid
  pointwise [val_main_v22, val_main_v18, val_main_v17, val_main_v21, val_main_v14, val_main_v15, val_main_v16, val_main_v19, val_main_v20, val_main_call1_v5, val_main_call1_v4, val_main_call1_v3, val_main_call1_v2, val_main_call1_v1, val_main_call1_v0, val_main_call1_cst, val_main_call1_cst_0]
  rfl

/-- The row of the joined groups: the first group's rows, then the second's. -/
def row (x0 : FVec Ideal S16x1024x1024 .bf16) (x1 : FVec Ideal S16x512x1024 .bf16) (e : Fin 16) (r : Fin 1536) (k : Fin 1024) : EReal :=
  if h : r.val < 1024 then x0 (ix3 e ⟨r.val, h⟩ k) else x1 (ix3 e ⟨r.val - 1024, by omega⟩ k)

/-- The gate of a row of the joined groups. -/
def gate (x2 : FVec Ideal S16x1024x1 .f32) (x3 : FVec Ideal S16x512x1 .f32) (e : Fin 16) (r : Fin 1536) : EReal :=
  if h : r.val < 1024 then x2 (ix3 e ⟨r.val, h⟩ 0) else x3 (ix3 e ⟨r.val - 1024, by omega⟩ 0)

/-- The reference's result at an index: the expert's down projection of the row's hidden values, times the row's gate. -/
theorem v29_at (x0 : FVec Ideal S16x1024x1024 .bf16) (x1 : FVec Ideal S16x512x1024 .bf16) (x2 : FVec Ideal S16x1024x1 .f32)
    (x3 : FVec Ideal S16x512x1 .f32) (x4 x5 : FVec Ideal S2x16x1024x2688 .f32) (x6 : FVec Ideal S2x16x2688x1024 .f32)
    (e : Fin 16) (r : Fin 1536) (d : Fin 1024) :
    val_main_v29 (F := Ideal) x0 x1 x2 x3 x4 x5 x6 (ix3 e r d)
      = (∑ f : Fin 2688, hid (row x0 x1 e r) (fun k => x4 (ix4 0 e k f)) (fun k => x5 (ix4 0 e k f)) * x6 (ix4 0 e f d))
          * gate x2 x3 e r := by
  pointwise [val_main_v29, val_main_v28, val_main_v13, val_main_v27, val_main_v11, val_main_v12, val_main_v25, val_main_v26,
    val_main_v10, val_main_v9, val_main_v24, val_main_v23]
  by_cases h : r.val < 1024
  · have hr : row x0 x1 e r = fun k => x0 (ix3 e ⟨r.val, h⟩ k) := funext fun k => dif_pos h
    have hg : gate x2 x3 e r = x2 (ix3 e ⟨r.val, h⟩ 0) := dif_pos h
    rw [dif_pos h, hr, hg]
    refine congrArg (· * _) (Finset.sum_congr rfl fun f _ => ?_)
    rw [v8_at]
  · have hr : row x0 x1 e r = fun k => x1 (ix3 e ⟨r.val - 1024, by omega⟩ k) := funext fun k => dif_neg h
    have hg : gate x2 x3 e r = x3 (ix3 e ⟨r.val - 1024, by omega⟩ 0) := dif_neg h
    rw [dif_neg h, hr, hg]
    refine congrArg (· * _) (Finset.sum_congr rfl fun f _ => ?_)
    rw [v22_at]

end Cert.Reference2Ideal.Ffn
-- ==== Proof.Ffn.lean ====
module

public import proofs.«01_k».proof.Proof.FfnBlocks
public import proofs.«01_k».proof.Proof.FfnRef
public import proofs.«01_k».proof.Defs
public import proofs.«01_k».proof.Proof.Gen.Reference2Ideal.Run

@[expose] public section

set_option maxRecDepth 16384

noncomputable section

open Idealize.ShloMosaic Idealize.ShloMosaic.TcCoe Idealize.SL.Sem

namespace Cert.Ffn

open Cert.Kernel2Ideal Cert.Kernel2Ideal.Gen Cert.Kernel2Ideal.Ffn

/-- The kernel's result array is the reference's function of the same arguments, when every gate is finite. -/
theorem result_eq (m : (ℓ : Loc nD τ sig) → Buf (Elt Ideal) ℓ) (c : Dev nD)
    (h2 : Finite.All (s := S16x1024x1) (m ((c : Thread nD τ).loc main_arg2)))
    (h3 : Finite.All (s := S16x512x1) (m ((c : Thread nD τ).loc main_arg3))) :
    Reference2Ideal.Read.val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = Value.G7 m c := by
  funext i
  idx_vars i
  refine (Reference2Ideal.Ffn.v29_at _ _ _ _ _ _ _ i0 i1 i2).trans ?_
  exact (G7_at m c i0 i1 i2 h2 h3).symm

/-- Over the extended reals the kernel and the reference end with the same result, from equal arguments with finite gates. -/
theorem algebraic : algebraic_Kernel2Ideal_Reference2Ideal_pre_finite_gates
    (hKernel2Ideal := Kernel2Ideal.Gen.facts) (hReference2Ideal := Reference2Ideal.Gen.facts) (hPre_finite_gates := Pre_finite_gates.Gen.facts) := by
  intro m g m' g' hp ha
  refine ⟨fun c => Value.G7 m c, ?_, ?_⟩
  · exact (θ_run _ _ _).mono (fun r h c => h c) (Value.run m g)
  · refine (θ_run _ _ _).mono (fun r h c => ⟨(h c).1.trans ?_, (h c).2⟩) (Reference2Ideal.Value.run m' g')
    rw [Reference2Ideal.Read.val_main_v29_eq]
    obtain ⟨e0, e1, e2, e3, e4, e5, e6⟩ := ha c
    rw [e0, e1, e2, e3, e4, e5, e6]
    obtain ⟨h2, h3⟩ := Finite.gates _ _ _ _ _ _ _ (hp c)
    exact result_eq m c h2 h3

end Cert.Ffn
-- ==== Proof.ProjBody.lean ====
module

public import proofs.«01_k».proof.Proof.Gen.Kernel3Ideal.Frame
public import Idealize.ShloMosaic.Lib.Pointwise

@[expose] public section

set_option maxRecDepth 16384

noncomputable section

open Idealize.ShloMosaic Idealize.ShloMosaic.TcCoe Idealize.SL.Sem

namespace Cert.Proj

/-- A token's features `x` divided by their root mean square, times the gains, scaled and shifted by the modulation. -/
def nrm (x g sc sh : Fin 1024 → EReal) (j : Fin 1024) : EReal :=
  x j * Ideal.rsqrt (Ideal.div (∑ k, x k * x k) (Ideal.ofBits .f32 0x44800000#32) + Ideal.ofBits .f32 0x358637BD#32) * g j
    * (1 + sc j) + sh j

/-- The projection of a normalised token on one column of the weights. -/
def proj (x g sc sh w : Fin 1024 → EReal) : EReal := ∑ k, nrm x g sc sh k * w k

end Cert.Proj

namespace Cert.Kernel3Ideal.Proj

open Cert.Kernel3Ideal Cert.Kernel3Ideal.Gen Cert.Proj

/-- The tile of tokens a grid point takes: a sample's before point 8, the prompt's from there on. -/
def tile (i : grid0.Coords) (xs xp : FVec Ideal S1024x1024 .f32) : FVec Ideal S1024x1024 .f32 := if (i 0).val < 8 then xs else xp

/-- The comparison that selects the tile. -/
theorem lt8 : ∀ n : Fin 12, Scalar.cmpi .slt (BitVec.ofNat 32 n.val) 8#32 = (if n.val < 8 then 1#1 else 0#1) := by decide +kernel

/-- The select between the two streams is the tile. -/
theorem select_tile (i : grid0.Coords) (xs xp : FVec Ideal S1024x1024 .f32) :
    Scalar.select (Scalar.cmpi .slt (BitVec.ofNat 32 (i 0).val) 8#32) xs xp = tile i xs xp := by
  rw [lt8 (i 0), tile]
  split <;> rfl

/-- What the body writes, with the tile already selected. -/
theorem pay_tile (i : grid0.Coords) (xs xp : FVec Ideal S1024x1024 .f32) (g : FVec Ideal S1x1024 .f32) (sc sh : FVec Ideal S1x1x1x1024 .f32)
    (w : FVec Ideal S1024x3584 .bf16) (r : Fin 1024) (n : Fin 3584) :
    k0_pay1 (F := Ideal) i xs xp g sc sh w (ix2 r n)
      = proj (fun k => tile i xs xp (ix2 r k)) (fun k => g (ix2 0 k)) (fun k => sc (ix4 0 0 0 k)) (fun k => sh (ix4 0 0 0 k)) (fun k => w (ix2 k n)) := by
  rw [← select_tile]
  pointwise [k0_pay1]
  simp only [proj, nrm, zero_add]

end Cert.Kernel3Ideal.Proj
-- ==== Proof.ProjRef.lean ====
module

public import proofs.«01_k».proof.Proof.Gen.Reference3Ideal.Read
public import proofs.«01_k».proof.Proof.ProjBody

@[expose] public section

set_option maxRecDepth 16384

noncomputable section

open Idealize.ShloMosaic Idealize.ShloMosaic.TcCoe Idealize.SL.Sem

namespace Cert.Reference3Ideal.Proj

open Cert.Proj Cert.Reference3Ideal Cert.Reference3Ideal.Gen Cert.Reference3Ideal.Read

variable (x0 : FVec Ideal S8x1024x1024 .f32) (x1 : FVec Ideal S16x256x1024 .f32) (x2 : FVec Ideal S2x1024 .f32)
  (x3 : FVec Ideal S2x16x6144 .f32) (x4 : FVec Ideal S1x1024x3584 .f32)

/-- The shifts in the modulation's table: sequence `b` of the batch. -/
def shift (b : Fin 16) (k : Fin 1024) : EReal := x3 (ix3 0 b ⟨k.val, by omega⟩)

/-- The scales in the modulation's table. -/
def scale (b : Fin 16) (k : Fin 1024) : EReal := x3 (ix3 0 b ⟨1024 + k.val, by omega⟩)

/-- A sample's normalised token. -/
theorem v29_at (b : Fin 8) (r k : Fin 1024) :
    val_main_v29 (F := Ideal) x0 x2 x3 (ix3 b r k)
      = nrm (fun l => x0 (ix3 b r l)) (fun l => x2 (ix2 0 l)) (scale x3 ⟨1 + b.val, by omega⟩) (shift x3 ⟨1 + b.val, by omega⟩) k := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v4, val_main_v3, val_main_v2, val_main_v1, val_main_v0, val_main_cst, val_main_cst_0, val_main_cst_1, val_main_cst_2]
  simp only [nrm, zero_add, scale, shift]

/-- The prompt's normalised token. -/
theorem v59_at (b : Fin 16) (r : Fin 256) (k : Fin 1024) :
    val_main_v59 (F := Ideal) x1 x2 x3 (ix3 b r k)
      = nrm (fun l => x1 (ix3 b r l)) (fun l => x2 (ix2 0 l)) (scale x3 0) (shift x3 0) k := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v34, val_main_v33, val_main_v32, val_main_v31, val_main_v30, val_main_cst_3, val_main_cst_4, val_main_cst_5, val_main_cst_6]
  simp only [nrm, zero_add, scale, shift]

/-- The rows of the projection, from the normalised tokens of both streams. -/
theorem v65_at (q : Fin 12288) (n : Fin 3584) :
    val_main_v65 (F := Ideal) x0 x1 x2 x3 x4 (ix2 q n)
      = ∑ k, val_main_v62 (F := Ideal) x0 x1 x2 x3 (ix2 q k) * x4 (ix3 0 k n) := by
  unfold val_main_v65 val_main_v64 val_main_v63
  generalize val_main_v62 (F := Ideal) x0 x1 x2 x3 = X
  pointwise

/-- A row of the samples. -/
theorem v62_lo (b : Fin 8) (r k : Fin 1024) (q : Fin 12288) (hq : q.val = 1024 * b.val + r.val) :
    val_main_v62 (F := Ideal) x0 x1 x2 x3 (ix2 q k) = val_main_v29 (F := Ideal) x0 x2 x3 (ix3 b r k) := by
  have e : q = ⟨1024 * b.val + r.val, by omega⟩ := Fin.ext hq
  rw [e]
  unfold val_main_v62 val_main_v60 val_main_v61
  generalize val_main_v29 (F := Ideal) x0 x2 x3 = X
  generalize val_main_v59 (F := Ideal) x1 x2 x3 = Y
  pointwise
  exact dif_pos (by omega)

/-- A row of the prompt. -/
theorem v62_hi (q : Fin 12288) (hq : ¬ q.val < 8192) (k : Fin 1024) :
    val_main_v62 (F := Ideal) x0 x1 x2 x3 (ix2 q k)
      = val_main_v59 (F := Ideal) x1 x2 x3 (ix3 ⟨(q.val - 8192) / 256, by omega⟩ ⟨(q.val - 8192) % 256, by omega⟩ k) := by
  unfold val_main_v62 val_main_v60 val_main_v61
  generalize val_main_v29 (F := Ideal) x0 x2 x3 = X
  generalize val_main_v59 (F := Ideal) x1 x2 x3 = Y
  pointwise
  exact dif_neg hq

end Cert.Reference3Ideal.Proj
-- ==== Proof.ProjBlocks.lean ====
module

public import proofs.«01_k».proof.Proof.ProjBody
public import proofs.«01_k».proof.Proof.ProjRef
public import proofs.«01_k».proof.Proof.Gen.Kernel3Ideal.Value
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.Proj Cert.Reference3Ideal.Proj

variable (m : (ℓ : Loc nD τ sig) → Buf (Elt Ideal) ℓ) (c : Dev nD)

/-- The samples' features. -/
abbrev xs := (m ((c : Thread nD τ).loc main_arg0) : FVec Ideal S8x1024x1024 .f32)
/-- The prompt's features. -/
abbrev xp := (m ((c : Thread nD τ).loc main_arg1) : FVec Ideal S16x256x1024 .f32)
/-- The gains of both layers. -/
abbrev gs := (m ((c : Thread nD τ).loc main_arg2) : FVec Ideal S2x1024 .f32)
/-- The modulation's table. -/
abbrev tbl := (m ((c : Thread nD τ).loc main_arg3) : FVec Ideal S2x16x6144 .f32)
/-- The weights. -/
abbrev ws := (m ((c : Thread nD τ).loc main_arg4) : FVec Ideal S1x1024x3584 .f32)

/-- The samples as rows. -/
theorem v1_at (b : Fin 8) (r k : Fin 1024) :
    (V m c main_v1 : FVec Ideal S8192x1024 .f32) (ix2 ⟨1024 * b.val + r.val, by omega⟩ k) = xs m c (ix3 b r k) := by
  have e : (V m c main_v1 : FVec Ideal S8192x1024 .f32) = shapeCast S8192x1024 (xs m c) shapeCasts_S8x1024x1024_S8192x1024 := by
    unfold V
    after_reads_simp
    rfl
  rw [e]
  have h : ∀ X : FVec Ideal S8x1024x1024 .f32, shapeCast S8192x1024 X shapeCasts_S8x1024x1024_S8192x1024 (ix2 ⟨1024 * b.val + r.val, by omega⟩ k) = X (ix3 b r k) := by
    intro X
    pointwise
  exact h _

/-- The prompt as rows. -/
theorem v2_at (q : Fin 4096) (k : Fin 1024) :
    (V m c main_v2 : FVec Ideal S4096x1024 .f32) (ix2 q k) = xp m c (ix3 ⟨q.val / 256, by omega⟩ ⟨q.val % 256, by omega⟩ k) := by
  have e : (V m c main_v2 : FVec Ideal S4096x1024 .f32) = shapeCast S4096x1024 (xp m c) shapeCasts_S16x256x1024_S4096x1024 := by
    unfold V
    after_reads_simp
    rfl
  rw [e]
  have h : ∀ X : FVec Ideal S16x256x1024 .f32, shapeCast S4096x1024 X shapeCasts_S16x256x1024_S4096x1024 (ix2 q k) = X (ix3 ⟨q.val / 256, by omega⟩ ⟨q.val % 256, by omega⟩ k) := by
    intro X
    pointwise
  exact h _

/-- The first layer's gains. -/
theorem v7_at (k : Fin 1024) : (V m c main_v7 : FVec Ideal S1x1024 .f32) (ix2 0 k) = gs m c (ix2 0 k) := by
  have e : (V m c main_v7 : FVec Ideal S1x1024 .f32) = shapeCast S1x1024 (shapeCast S1024 (extractStridedSlice S1x1024 ![0, 0] (gs m c) slices_S2x1024_S1x1024_0_0)
      shapeCasts_S1x1024_S1024) shapeCasts_S1024_S1x1024 := by
    unfold V
    after_reads_simp
    rfl
  rw [e]
  have h : ∀ X : FVec Ideal S2x1024 .f32, shapeCast S1x1024 (shapeCast S1024 (extractStridedSlice S1x1024 ![0, 0] X slices_S2x1024_S1x1024_0_0)
      shapeCasts_S1x1024_S1024) shapeCasts_S1024_S1x1024 (ix2 0 k) = X (ix2 0 k) := by
    intro X
    pointwise
  exact h _

/-- The modulation's table with its part axis. -/
theorem v0_at (l : Fin 2) (b : Fin 16) (k : Fin 6144) :
    (V m c main_v0 : FVec Ideal S2x16x1x6144 .f32) (ix4 l b 0 k) = tbl m c (ix3 l b k) := by
  have e : (V m c main_v0 : FVec Ideal S2x16x1x6144 .f32) = shapeCast S2x16x1x6144 (tbl m c) shapeCasts_S2x16x6144_S2x16x1x6144 := by
    unfold V
    after_reads_simp
    rfl
  rw [e]
  have h : ∀ X : FVec Ideal S2x16x6144 .f32, shapeCast S2x16x1x6144 X shapeCasts_S2x16x6144_S2x16x1x6144 (ix4 l b 0 k) = X (ix3 l b k) := by
    intro X
    pointwise
  exact h _

/-- The first layer's weights. -/
theorem v6_at (k : Fin 1024) (n : Fin 3584) : (V m c main_v6 : FVec Ideal S1024x3584 .bf16) (ix2 k n) = ws m c (ix3 0 k n) := by
  have e : (V m c main_v6 : FVec Ideal S1024x3584 .bf16) = (truncf .bf16 (shapeCast S1024x3584 (ws m c) shapeCasts_S1x1024x3584_S1024x3584) bitsLt_bf16_f32 : FVec Ideal S1024x3584 .bf16) := by
    unfold V
    after_reads_simp
    rfl
  rw [e]
  have h : ∀ X : FVec Ideal S1x1024x3584 .f32, (truncf .bf16 (shapeCast S1024x3584 X shapeCasts_S1x1024x3584_S1024x3584) bitsLt_bf16_f32 : FVec Ideal S1024x3584 .bf16) (ix2 k n) = X (ix3 0 k n) := by
    intro X
    pointwise
  exact h _

/-- The row of the modulation's table a grid point takes: a sample's own, and row 0 for the prompt. -/
def mrow (t : Fin 12) : Fin 16 := if h : t.val < 8 then ⟨1 + t.val, by omega⟩ else 0

/-- The windows' block indices. -/
theorem idx : ∀ t : Fin cfg0.N, win0_0.index t = ![min t.val 7, 0] ∧ win0_1.index t = ![t.val - 8, 0] ∧ win0_2.index t = ![0, 0]
    ∧ win0_3.index t = ![0, (if t.val < 8 then 1 + t.val else 0), 0, 0] ∧ win0_4.index t = ![0, (if t.val < 8 then 1 + t.val else 0), 0, 1]
    ∧ win0_5.index t = ![0, 0] ∧ win0_6.index t = ![t.val, 0] ∧ t.val < 12 ∧ (grid0.coords t 0).val = t.val :=
  (by decide +kernel : ∀ t : Fin grid0.N, _)

/-- A sample's block. -/
theorem blk0 (t : Fin cfg0.N) (ht : t.val < 8) (r k : Fin 1024) :
    (iblk m c 0 t : FVec Ideal S1024x1024 .f32) (ix2 r k) = xs m c (ix3 ⟨t.val, ht⟩ r k) := by
  refine Eq.trans ?_ (v1_at m c ⟨t.val, ht⟩ r k)
  have e : min t.val 7 = t.val := by omega
  blk_ext [iblk, idx t, e]

/-- The prompt's block. -/
theorem blk1 (t : Fin cfg0.N) (ht : ¬ t.val < 8) (r k : Fin 1024) :
    (iblk m c 1 t : FVec Ideal S1024x1024 .f32) (ix2 r k)
      = xp m c (ix3 ⟨(1024 * (t.val - 8) + r.val) / 256, by have := (idx t).2.2.2.2.2.2.2.1; omega⟩ ⟨(1024 * (t.val - 8) + r.val) % 256, by omega⟩ k) := by
  have hN := (idx t).2.2.2.2.2.2.2.1
  refine Eq.trans ?_ (v2_at m c ⟨1024 * (t.val - 8) + r.val, by omega⟩ k)
  blk_ext [iblk, idx t]

/-- The gains' block. -/
theorem blk2 (t : Fin cfg0.N) (k : Fin 1024) : (iblk m c 2 t : FVec Ideal S1x1024 .f32) (ix2 0 k) = gs m c (ix2 0 k) := by
  refine Eq.trans ?_ (v7_at m c k)
  blk_ext [iblk, idx t]

/-- The shifts' block. -/
theorem blk3 (t : Fin cfg0.N) (b : Fin 16) (hb : b.val = if t.val < 8 then 1 + t.val else 0) (k : Fin 1024) :
    (iblk m c 3 t : FVec Ideal S1x1x1x1024 .f32) (ix4 0 0 0 k) = shift (tbl m c) b k := by
  refine Eq.trans ?_ (v0_at m c 0 b ⟨k.val, by omega⟩)
  blk_ext [iblk, idx t, hb]

/-- The scales' block. -/
theorem blk4 (t : Fin cfg0.N) (b : Fin 16) (hb : b.val = if t.val < 8 then 1 + t.val else 0) (k : Fin 1024) :
    (iblk m c 4 t : FVec Ideal S1x1x1x1024 .f32) (ix4 0 0 0 k) = scale (tbl m c) b k := by
  refine Eq.trans ?_ (v0_at m c 0 b ⟨1024 + k.val, by omega⟩)
  blk_ext [iblk, idx t, hb]

/-- The weights' block. -/
theorem blk5 (t : Fin cfg0.N) (k : Fin 1024) (n : Fin 3584) : (iblk m c 5 t : FVec Ideal S1024x3584 .bf16) (ix2 k n) = ws m c (ix3 0 k n) := by
  refine Eq.trans ?_ (v6_at m c k n)
  blk_ext [iblk, idx t]

/-- What a grid point writes, from its blocks. -/
theorem out_at (i : grid0.Coords) (x0 x1 : FVec Ideal S1024x1024 .f32) (x2 : FVec Ideal S1x1024 .f32) (x3 x4 : FVec Ideal S1x1x1x1024 .f32)
    (x5 : FVec Ideal S1024x3584 .bf16) (r : Fin 1024) (n : Fin 3584) :
    out0_6 (F := Ideal) i x0 x1 x2 x3 x4 x5 (ix2 r n)
      = proj (fun k => tile i x0 x1 (ix2 r k)) (fun k => x2 (ix2 0 k)) (fun k => x4 (ix4 0 0 0 k)) (fun k => x3 (ix4 0 0 0 k)) (fun k => x5 (ix2 k n)) := by
  refine Eq.trans ?_ (pay_tile i x0 x1 x2 x4 x3 x5 r n)
  unfold out0_6
  frame_out

/-- What a grid point writes is the reference's rows. -/
theorem point (t : Fin cfg0.N) (r : Fin 1024) (n : Fin 3584) (q : Fin 12288) (hq : q.val = 1024 * t.val + r.val) :
    out0_6 (F := Ideal) (grid0.coords t) (iblk m c 0 t) (iblk m c 1 t) (iblk m c 2 t) (iblk m c 3 t) (iblk m c 4 t) (iblk m c 5 t) (ix2 r n)
      = Reference3Ideal.Read.val_main_v65 (F := Ideal) (xs m c) (xp m c) (gs m c) (tbl m c) (ws m c) (ix2 q n) := by
  have hi := (idx t).2.2.2.2.2.2.2.2
  refine (out_at _ _ _ _ _ _ _ r n).trans (Eq.trans ?_ (v65_at _ _ _ _ _ q n).symm)
  unfold proj
  refine Finset.sum_congr rfl fun k _ => congrArg₂ (· * ·) ?_ (blk5 m c t k n)
  have eg := funext (blk2 m c t)
  by_cases ht : t.val < 8
  · have ex : (fun k => tile (grid0.coords t) (iblk m c 0 t) (iblk m c 1 t) (ix2 r k)) = fun k => xs m c (ix3 ⟨t.val, ht⟩ r k) := by
      funext k
      rw [tile, hi, if_pos ht]
      exact blk0 m c t ht r k
    have e3 := funext (blk3 m c t ⟨1 + t.val, by omega⟩ (by simp [ht]))
    have e4 := funext (blk4 m c t ⟨1 + t.val, by omega⟩ (by simp [ht]))
    rw [ex, eg, e3, e4]
    exact ((v62_lo _ _ _ _ ⟨t.val, ht⟩ r k q hq).trans (v29_at _ _ _ _ r k)).symm
  · have e : q.val - 8192 = 1024 * (t.val - 8) + r.val := by omega
    have ex : (fun k => tile (grid0.coords t) (iblk m c 0 t) (iblk m c 1 t) (ix2 r k))
        = fun k => xp m c (ix3 ⟨(q.val - 8192) / 256, by omega⟩ ⟨(q.val - 8192) % 256, by omega⟩ k) := by
      funext k
      rw [tile, hi, if_neg ht]
      refine (blk1 m c t ht r k).trans ?_
      simp only [e]
    have e3 := funext (blk3 m c t 0 (by simp [ht]))
    have e4 := funext (blk4 m c t 0 (by simp [ht]))
    rw [ex, eg, e3, e4]
    exact ((v62_hi _ _ _ _ q (by omega) k).trans (v59_at _ _ _ _ _ k)).symm

/-- The projection the kernel leaves is the reference's. -/
theorem final6 : (dats m 0 c).arrAt 6 cfg0.N
    = Reference3Ideal.Read.val_main_v65 (F := Ideal) (xs m c) (xp m c) (gs m c) (tbl m c) (ws m c) := by
  refine (dats m 0 c).arrAt_eq_of_covers 6 _ (by decide +kernel) fun t _ y => ?_
  blk_simp
  rw [after0_6]
  idx_vars y
  have hN := (idx t).2.2.2.2.2.2.2.1
  refine (point m c t y0 y1 ⟨1024 * t.val + y0.val, by omega⟩ rfl).trans
    (congrArg (Reference3Ideal.Read.val_main_v65 (F := Ideal) (xs m c) (xp m c) (gs m c) (tbl m c) (ws m c)) ?_)
  blk_ext [idx t]

end Cert.Kernel3Ideal.Proj
-- ==== Proof.Proj.lean ====
module

public import proofs.«01_k».proof.Proof.ProjBlocks
public import proofs.«01_k».proof.Defs
public import proofs.«01_k».proof.Proof.Gen.Reference3Ideal.Run

@[expose] public section

set_option maxRecDepth 16384

noncomputable section

open Idealize.ShloMosaic Idealize.ShloMosaic.TcCoe Idealize.SL.Sem

namespace Cert.Proj

open Cert.Kernel3Ideal Cert.Kernel3Ideal.Gen Cert.Kernel3Ideal.Proj

/-- Over the extended reals the projection kernel and the reference end with the same rows, from equal arguments. -/
theorem algebraic : algebraic_Kernel3Ideal_Reference3Ideal
    (hKernel3Ideal := Kernel3Ideal.Gen.facts) (hReference3Ideal := Reference3Ideal.Gen.facts) := by
  intro m g m' g' hp ha
  refine ⟨fun c => (dats m 0 c).arrAt 6 cfg0.N, ?_, ?_⟩
  · exact (θ_run _ _ _).mono (fun r h c => h c) (Kernel3Ideal.Value.run_blocks m g)
  · refine (θ_run _ _ _).mono (fun r h c => ⟨(h c).1.trans ?_, (h c).2⟩) (Reference3Ideal.Value.run m' g')
    rw [Reference3Ideal.Read.val_main_v65_eq]
    obtain ⟨e0, e1, e2, e3, e4⟩ := ha c
    rw [e0, e1, e2, e3, e4]
    exact (final6 m c).symm

end Cert.Proj
-- ==== Proof.AttnMath.lean ====
module

public import Idealize.ShloMosaic.Lib.Pointwise
public import Idealize.ShloMosaic.PureOps.Ideal
public import Idealize.ShloMosaic.Lib.IdealHost

@[expose] public section

set_option maxRecDepth 16384

noncomputable section

open Idealize.ShloMosaic

namespace Cert.AttnMath

/-- The kernel's word for one sixty-fourth. -/
theorem w_inv64 : Ideal.ofBits .f32 0x3C800000#32 = ((1 / 64 : ℝ) : EReal) := by
  simp [Ideal.ofBits, Ideal.ieee, -EReal.coe_mul]; norm_num

/-- The reference's word for sixty-four. -/
theorem w_64 : Ideal.ofBits .f32 0x42800000#32 = ((64 : ℝ) : EReal) := by
  simp [Ideal.ofBits, Ideal.ieee, -EReal.coe_mul]; norm_num

/-- The word for one eighth, the scale of the scores. -/
theorem w_eighth : Ideal.ofBits .f32 0x3E000000#32 = ((1 / 8 : ℝ) : EReal) := by
  simp [Ideal.ofBits, Ideal.ieee, -EReal.coe_mul]; norm_num

/-- The word of minus infinity. -/
theorem w_bot : Ideal.ofBits .f32 0xFF800000#32 = (⊥ : EReal) := by
  simp [Ideal.ofBits, Ideal.ieee]

/-- The word of the norm's epsilon is a positive real number. -/
theorem w_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A finite extended real is a real number. -/
theorem real_of {x : EReal} (h : x ≠ ⊤ ∧ x ≠ ⊥) : ∃ r : ℝ, x = r := ⟨x.toReal, (EReal.coe_toReal h.1 h.2).symm⟩

/-- A finite sum of real numbers is the real number their sum is. -/
theorem coe_sum {n : ℕ} (f : Fin n → ℝ) : (∑ i, (f i : EReal)) = ((∑ i, f i : ℝ) : EReal) :=
  (map_sum (⟨⟨Real.toEReal, EReal.coe_zero⟩, EReal.coe_add⟩ : ℝ →+ EReal) f Finset.univ).symm

/-- The largest of some real numbers is a real number. -/
theorem fold_real {n : ℕ} (hn : 0 < n) (f : Fin n → ℝ) : ∃ M : ℝ, Finset.univ.fold max (⊥ : EReal) (fun i => (f i : EReal)) = M := by
  haveI : Nonempty (Fin n) := ⟨⟨0, hn⟩⟩
  obtain ⟨i, -, h⟩ := Finset.exists_mem_eq_sup Finset.univ Finset.univ_nonempty (fun i => (f i : EReal))
  exact ⟨f i, h⟩

/-- A root-mean-square norm of a head's 64 numbers, times their gains. -/
def nrm (x g : Fin 64 → EReal) (d : Fin 64) : EReal :=
  x d * Ideal.rsqrt (Ideal.div (0 + ∑ l, x l * x l) (Ideal.ofBits .f32 0x42800000#32) + Ideal.ofBits .f32 0x358637BD#32) * g d

/-- The mean as the kernel writes it, a product by one sixty-fourth, is the quotient by 64. -/
theorem mean_eq (s : EReal) : s * Ideal.ofBits .f32 0x3C800000#32 = Ideal.div (0 + s) (Ideal.ofBits .f32 0x42800000#32) := by
  rw [w_inv64, w_64, zero_add, Ideal.div_coe (by norm_num)]

/-- A sum of squares that holds an infinite number is plus infinity. -/
theorem sq_sum_top {n : ℕ} (x : Fin n → EReal) (i : Fin n) (h : x i = ⊤ ∨ x i = ⊥) : (∑ l, x l * x l) = ⊤ := by
  have hn : ∀ l, 0 ≤ x l * x l := fun l => by
    rcases le_total 0 (x l) with hl | hl
    · exact EReal.mul_nonneg hl hl
    · rw [← neg_mul_neg]
      exact EReal.mul_nonneg (EReal.neg_nonneg.mpr hl) (EReal.neg_nonneg.mpr hl)
  have hi : x i * x i = ⊤ := by rcases h with h | h <;> rw [h] <;> rfl
  exact top_le_iff.mp (hi ▸ Finset.single_le_sum (f := fun l => x l * x l) (fun l _ => hn l) (Finset.mem_univ i))

/-- The norm with finite gains is finite, of infinite numbers too (it is zero then). -/
theorem nrm_real (x : Fin 64 → EReal) (g : Fin 64 → ℝ) (d : Fin 64) : ∃ y : ℝ, nrm x (fun l => (g l : EReal)) d = y := by
  obtain ⟨e, he, hw⟩ := w_eps
  by_cases hx : ∃ i, x i = ⊤ ∨ x i = ⊥
  · obtain ⟨i, hi⟩ := hx
    refine ⟨0, ?_⟩
    unfold nrm
    rw [sq_sum_top x i hi, ← mean_eq, w_inv64, EReal.top_mul_coe_of_pos (by norm_num), hw, EReal.top_add_coe]
    show x d * 0 * _ = _
    rw [mul_zero, zero_mul, EReal.coe_zero]
  · have hr : ∀ i, ∃ r : ℝ, x i = r := fun i => real_of ⟨fun h => hx ⟨i, .inl h⟩, fun h => hx ⟨i, .inr h⟩⟩
    choose r hr using hr
    obtain rfl : x = fun l => (r l : EReal) := funext hr
    have hs : 0 ≤ ∑ l, r l * r l := Finset.sum_nonneg fun l _ => mul_self_nonneg _
    have hp : 0 < (∑ l, r l * r l) * (1 / 64) + e := by positivity
    unfold nrm
    simp only [← EReal.coe_mul]
    rw [← mean_eq, w_inv64, hw, coe_sum, ← EReal.coe_mul, ← EReal.coe_add, Ideal.rsqrt_coe, if_neg (not_lt.mpr hp.le), if_neg hp.ne', ← EReal.coe_mul, ← EReal.coe_mul]
    exact ⟨_, rfl⟩

/-- The score of a query and a key: their product over the head, times the scale. -/
def score (q k : Fin 64 → EReal) : EReal := (∑ d, q d * k d) * Ideal.ofBits .f32 0x3E000000#32

/-- Scaling the query first gives the same score, for finite queries and keys. -/
theorem score_eq (q k : Fin 64 → ℝ) :
    (∑ d, (q d : EReal) * Ideal.ofBits .f32 0x3E000000#32 * (k d : EReal)) = score (fun d => (q d : EReal)) fun d => (k d : EReal) := by
  unfold score
  rw [w_eighth]
  simp only [← EReal.coe_mul, coe_sum]
  rw [Finset.sum_mul]
  exact congrArg _ (Finset.sum_congr rfl fun d _ => by ring)

/-- The score of finite queries and keys is finite. -/
theorem score_real (q k : Fin 64 → ℝ) : ∃ y : ℝ, score (fun d => (q d : EReal)) (fun d => (k d : EReal)) = y := by
  unfold score
  rw [w_eighth]
  simp only [← EReal.coe_mul, coe_sum]
  exact ⟨_, rfl⟩

/-- The attention of a query over 256 keys with a column of values, the weights divided before they are summed. -/
def att (S v : Fin 256 → EReal) : EReal :=
  ∑ s, v s * Ideal.div (Ideal.exp (S s - max ⊥ (Finset.univ.fold max ⊥ S))) (0 + ∑ s, Ideal.exp (S s - max ⊥ (Finset.univ.fold max ⊥ S)))

/-- A product by a nonnegative real number goes under a sum. -/
theorem sum_mul_coe {n : ℕ} (f : Fin n → EReal) (c : ℝ) (hc : 0 ≤ c) : (∑ i, f i) * (c : EReal) = ∑ i, f i * (c : EReal) :=
  map_sum (⟨⟨fun x : EReal => x * (c : EReal), zero_mul _⟩,
    fun x y => EReal.right_distrib_of_nonneg_of_ne_top (EReal.coe_nonneg.mpr hc) (EReal.coe_ne_top c) x y⟩ : EReal →+ EReal) f Finset.univ

/-- Dividing after the weighted sum gives the same attention, for finite scores. -/
theorem att_eq (S : Fin 256 → ℝ) (v : Fin 256 → EReal) :
    Ideal.div (∑ s, Ideal.exp ((S s : EReal) - Finset.univ.fold max ⊥ fun s => (S s : EReal)) * v s)
        (∑ s, Ideal.exp ((S s : EReal) - Finset.univ.fold max ⊥ fun s => (S s : EReal)))
      = att (fun s => (S s : EReal)) v := by
  obtain ⟨M, hM⟩ := fold_real (by decide) S
  unfold att
  have hb : max ⊥ (M : EReal) = M := max_eq_right bot_le
  simp only [hM, hb, zero_add, ← EReal.coe_sub, Ideal.exp_coe, coe_sum]
  have hd : 0 < ∑ s, Real.exp (S s - M) := Finset.sum_pos (fun s _ => Real.exp_pos _) Finset.univ_nonempty
  simp only [Ideal.div_coe hd.ne']
  rw [sum_mul_coe _ _ (by positivity)]
  exact Finset.sum_congr rfl fun s _ => by rw [mul_comm (Real.exp (S s - M) : EReal), mul_assoc]

/-- A sum over 128 lanes that keeps the first 64. -/
theorem low_sum (F : Fin 128 → EReal) :
    (∑ l : Fin 128, Scalar.select (if l.val < 64 then 1#1 else 0#1) (F l) 0) = ∑ d : Fin 64, F ⟨d.val, by omega⟩ := by
  have h := Fin.sum_univ_add (a := 64) (b := 64) fun l : Fin 128 => Scalar.select (if l.val < 64 then 1#1 else 0#1) (F l) 0
  refine h.trans ?_
  simp [Scalar.select, Fin.castAdd, Fin.castLE, Fin.natAdd]

/-- A sum over 128 lanes that keeps the last 64. -/
theorem high_sum (F : Fin 128 → EReal) :
    (∑ l : Fin 128, Scalar.select (if l.val < 64 then 1#1 else 0#1) 0 (F l)) = ∑ d : Fin 64, F ⟨64 + d.val, by omega⟩ := by
  have h := Fin.sum_univ_add (a := 64) (b := 64) fun l : Fin 128 => Scalar.select (if l.val < 64 then 1#1 else 0#1) 0 (F l)
  refine h.trans ?_
  simp [Scalar.select, Fin.castAdd, Fin.castLE, Fin.natAdd]

/-- A sum over 128 lanes that drops the first 64. -/
theorem high_sum' (F : Fin 128 → EReal) :
    (∑ l : Fin 128, Scalar.select (IntOp.xori (if l.val < 64 then 1#1 else 0#1) 1#1) (F l) 0) = ∑ d : Fin 64, F ⟨64 + d.val, by omega⟩ := by
  rw [← high_sum]
  refine Finset.sum_congr rfl fun l _ => ?_
  split <;> simp [Scalar.select, IntOp.xori]

end Cert.AttnMath
-- ==== Proof.AttnPure.lean ====
module

public import proofs.«01_k».proof.Proof.Gen.KernelIdeal.Skeleton
public import Idealize.ShloMosaic.Lib.Pipeline.ValueKit
public import proofs.«01_k».proof.Proof.AttnMath
public import proofs.«01_k».proof.Proof.Finite

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath

/-- The normalised keys (with their gains) of a head pair. -/
def knorm (x : FVec Ideal S256x128 .bf16) (g : FVec Ideal S1x128 .f32) : FVec Ideal S256x128 .f32 := k0_pay6 k0_pay1 x g

/-- The normalised, scaled queries of a head pair. -/
def qn (x : FVec Ideal S256x128 .bf16) (g : FVec Ideal S1x128 .f32) : FVec Ideal S256x128 .f32 := k0_pay5 (k0_pay3 x) (k0_pay4 g)

/-- The normalised keys of a head pair, as the scores take them. -/
def kn (x : FVec Ideal S256x128 .bf16) (g : FVec Ideal S1x128 .f32) : FVec Ideal S256x128 .bf16 := k0_pay8 k0_pay1 x g

/-- The attention of a head pair. -/
def pairOut (q k v : FVec Ideal S256x128 .bf16) (qg kg : FVec Ideal S1x128 .f32) : FVec Ideal S256x128 .bf16 :=
  k0_pay11 k0_pay1 (qn q qg) (kn k kg) v (k0_pay9 k0_pay1) k0_pay10

/-- The lane mask is one on the first head of a pair. -/
theorem pay1_at (l : Fin 128) : k0_pay1 (ix2 0 l) = if l.val < 64 then 1#1 else 0#1 := by
  revert l; decide +kernel

/-- Lane `d` of head `a` of a pair. -/
def lane (a : Fin 2) (d : Fin 64) : Fin 128 := ⟨64 * a.val + d.val, by omega⟩

/-- The normalised keys of a pair are each head's norm of its own 64 lanes. -/
theorem knorm_at (x : FVec Ideal S256x128 .bf16) (g : FVec Ideal S1x128 .f32) (r : Fin 256) (a : Fin 2) (d : Fin 64) :
    knorm x g (ix2 r (lane a d)) = nrm (fun l => x (ix2 r (lane a l))) (fun l => g (ix2 0 (lane a l))) d := by
  unfold knorm
  pointwise [k0_pay6]
  simp only [pay1_at, low_sum, high_sum, mean_eq, nrm]
  fin_cases a <;> simp [Scalar.select, lane]

/-- The keys the scores take are the normalised keys. -/
theorem pay8_at (x : FVec Ideal S256x128 .bf16) (g : FVec Ideal S1x128 .f32) (r : Fin 256) (j : Fin 128) :
    kn x g (ix2 r j) = knorm x g (ix2 r j) := by
  pointwise [kn, k0_pay8, knorm]

/-- The queries the scores take are the normalised queries, scaled. -/
theorem qnorm_at (x : FVec Ideal S256x128 .bf16) (g : FVec Ideal S1x128 .f32) (r : Fin 256) (a : Fin 2) (d : Fin 64) :
    qn x g (ix2 r (lane a d))
      = nrm (fun l => x (ix2 r (lane a l))) (fun l => g (ix2 0 (lane a l))) d * Ideal.ofBits .f32 0x3E000000#32 := by
  pointwise [qn, k0_pay5, k0_pay3, k0_pay4]
  simp only [pay1_at, low_sum, high_sum, mean_eq, nrm]
  fin_cases a <;> simp [Scalar.select, lane]

/-- The attention of a pair, head by head, before the scores are rearranged. -/
theorem pairOut_at (q k v : FVec Ideal S256x128 .bf16) (qg kg : FVec Ideal S1x128 .f32) (r : Fin 256) (a : Fin 2) (d : Fin 64)
    (S : Fin 256 → EReal) (hS : ∀ s, S s = ∑ l : Fin 64, qn q qg (ix2 r (lane a l)) * kn k kg (ix2 s (lane a l))) :
    pairOut q k v qg kg (ix2 r (lane a d)) =
      Ideal.div (∑ s, Ideal.exp (S s - Finset.univ.fold max ⊥ S) * v (ix2 s (lane a d)))
        (∑ s, Ideal.exp (S s - Finset.univ.fold max ⊥ S)) := by
  unfold pairOut
  pointwise [k0_pay11, k0_pay9, k0_pay10]
  simp only [pay1_at, low_sum, high_sum', w_bot]
  obtain rfl : S = _ := funext hS
  fin_cases a <;> simp [Scalar.select, lane]

/-- The attention of a pair is, head by head, the attention of the norms, when every gain is finite. -/
theorem pairOut_eq (q k v : FVec Ideal S256x128 .bf16) (qg kg : FVec Ideal S1x128 .f32)
    (hqg : Finite.All qg) (hkg : Finite.All kg)
    (r : Fin 256) (a : Fin 2) (d : Fin 64) :
    pairOut q k v qg kg (ix2 r (lane a d)) =
      att (fun s => score (nrm (fun l => q (ix2 r (lane a l))) (fun l => qg (ix2 0 (lane a l))))
          (nrm (fun l => k (ix2 s (lane a l))) (fun l => kg (ix2 0 (lane a l)))))
        fun s => v (ix2 s (lane a d)) := by
  choose a' ha' using fun i => real_of (hqg i)
  choose b' hb' using fun i => real_of (hkg i)
  choose Q hQ using fun l => nrm_real (fun l => q (ix2 r (lane a l))) (fun l => a' (ix2 0 (lane a l))) l
  choose K hK using fun s l => nrm_real (fun l => k (ix2 s (lane a l))) (fun l => b' (ix2 0 (lane a l))) l
  choose S hS using fun s => score_real Q (K s)
  have e1 : nrm (fun l => q (ix2 r (lane a l))) (fun l => qg (ix2 0 (lane a l))) = fun l => (Q l : EReal) := by
    funext l; rw [← hQ l]; simp only [ha']
  have e2 : ∀ s, nrm (fun l => k (ix2 s (lane a l))) (fun l => kg (ix2 0 (lane a l))) = fun l => (K s l : EReal) := by
    intro s; funext l; rw [← hK s l]; simp only [hb']
  rw [pairOut_at q k v qg kg r a d (fun s => (S s : EReal)) (fun s => by
    rw [← hS s, ← score_eq]
    refine Finset.sum_congr rfl fun l _ => ?_
    rw [qnorm_at, pay8_at, knorm_at, e1, e2])]
  simp only [e1, e2, hS]
  exact att_eq S fun s => v (ix2 s (lane a d))

end Cert.KernelIdeal.Attn
-- ==== Proof.AttnBody.lean ====
module

public import proofs.«01_k».proof.Proof.Gen.KernelIdeal.Value
public import Idealize.ShloMosaic.Lib.Pipeline.ValueKit
public import Idealize.ShloMosaic.Lib.Pipeline.ReadBack
public import proofs.«01_k».proof.Proof.AttnPure

@[expose] public section

set_option maxRecDepth 16384

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ)

/-- A head pair's 128 columns of a block. -/
def slice {φ : FTy} (X : FVec Ideal S256x1024 φ) (p : Fin 8) : FVec Ideal S256x128 φ :=
  fun i => X (ix2 (i 0) ⟨128 * p.val + (i 1).val, by have := (i 1).isLt; change (i 1).val < 128 at this; omega⟩)

/-- Loading a pair's columns of a block. -/
theorem ld_eq (X : FVec Ideal S256x1024 .bf16) (p : Fin 8) (o : ℕ) (h : ∀ a, (![0, o] : Fin 2 → ℕ) a + (![256, 128] : Fin 2 → ℕ) a ≤ S256x1024.size a)
    (e : o = 128 * p.val) :
    (View.ld (e' := EltTy.bf16) (Val := Elt Ideal) X (Rect.unit (s := S256x1024) ![0, o] ![256, 128] h) : FVec Ideal S256x128 .bf16) = slice X p := by
  subst e
  funext i
  refine congrArg X (funext fun a => ?_)
  fin_cases a
  · exact Fin.ext (by simp [Rect.unit])
  · exact Fin.ext (by simp [Rect.unit])

/-- The attention block a point writes: each head pair's columns hold the pair's attention. -/
theorem outs5 (c : Dev nD) (t : Fin cfg0.N) (r : Fin 256) (p : Fin 8) (j : Fin 128) :
    (outsAt0 m c t).1 (ix2 r ⟨128 * p.val + j.val, by omega⟩)
      = pairOut (slice (iblk m c 0 t) p) (slice (iblk m c 1 t) p) (slice (iblk m c 2 t) p) (iblk m c 3 t) (iblk m c 4 t) (ix2 r j) := by
  have e0 := ld_eq (iblk m c 0 t) p
  have e1 := ld_eq (iblk m c 1 t) p
  have e2 := ld_eq (iblk m c 2 t) p
  unfold outsAt0
  frame_out
  canon_tiles x h
  all_goals
    idx_vars x
    rw [e0 _ _ (by omega), e1 _ _ (by omega), e2 _ _ (by omega)]
    obtain rfl : r = x0 := Fin.ext h0
    obtain rfl : j = x1 := Fin.ext (by omega)
    rfl

/-- A whole read of tiled pieces is the tiling's contents at the same index. -/
theorem whole_idx (r : Fin 256) (q : Fin 1024) :
    (Rect.unit (s := S256x1024) ![0, 0] ![256, 1024] inb_S256x1024_S256x1024_0_0).idx (ix2 r q) = (ix2 r q : S256x1024.Idx) := by
  funext a
  fin_cases a
  · exact Fin.ext (by simp [Rect.unit])
  · exact Fin.ext (by simp [Rect.unit])

/-- The stored keys of a pair are its normalised keys. -/
theorem store_at (x : FVec Ideal S256x128 .bf16) (g : FVec Ideal S1x128 .f32) (r : Fin 256) (j : Fin 128) :
    k0_pay7 k0_pay1 x g (ix2 r j) = knorm x g (ix2 r j) := by
  pointwise [k0_pay7, knorm]

/-- The keys' block a point writes: the normalised keys, head by head. -/
theorem outs6 (c : Dev nD) (t : Fin cfg0.N) (r : Fin 256) (h : Fin 16) (d : Fin 64) (p : Fin 8) (j : Fin 128)
    (hj : 64 * h.val + d.val = 128 * p.val + j.val) :
    (outsAt0 m c t).2.1 (ix5 0 0 r h d) = knorm (slice (iblk m c 1 t) p) (iblk m c 4 t) (ix2 r j) := by
  have e1 := ld_eq (iblk m c 1 t) p
  have ep : ∀ X : FVec Ideal S256x1024 .f32, k0_pay94 X (ix5 0 0 r h d) = X (ix2 r ⟨128 * p.val + j.val, by omega⟩) := by
    intro X
    pointwise [k0_pay94]
    exact congrArg (fun q : Fin 1024 => X (ix2 r q)) (Fin.ext (by simp only []; omega))
  unfold outsAt0
  frame_out
  rw [View.readCov_eq_canon']
  refine (ep _).trans ?_
  refine Eq.trans (congrArg (View.canon _) (whole_idx r ⟨128 * p.val + j.val, by omega⟩)) ?_
  canon_tiles x h
  all_goals
    idx_vars x
    rw [e1 _ _ (by omega)]
    obtain rfl : r = x0 := Fin.ext h0
    obtain rfl : j = x1 := Fin.ext (by omega)
    exact store_at _ _ r j

/-- The values' block a point writes: the values, head by head. -/
theorem outs7 (c : Dev nD) (t : Fin cfg0.N) (r : Fin 256) (h : Fin 16) (d : Fin 64) :
    (outsAt0 m c t).2.2 (ix5 0 0 r h d) = (iblk m c 2 t : FVec Ideal S256x1024 .bf16) (ix2 r ⟨64 * h.val + d.val, by omega⟩) := by
  have ep : ∀ X : FVec Ideal S256x1024 .bf16, k0_pay2 (F := Ideal) X (ix5 0 0 r h d) = X (ix2 r ⟨64 * h.val + d.val, by omega⟩) := by
    intro X
    pointwise [k0_pay2]
    exact congrArg (fun q : Fin 1024 => X (ix2 r q)) (Fin.ext (by simp only []; omega))
  unfold outsAt0
  frame_out
  exact ep _

end Cert.KernelIdeal.Attn
-- ==== Proof.AttnRef.lean ====
module

public import proofs.«01_k».proof.Proof.Gen.ReferenceIdeal.Read
public import Idealize.ShloMosaic.Lib.Pointwise
public import proofs.«01_k».proof.Proof.AttnMath

@[expose] public section

set_option maxRecDepth 16384

noncomputable section

open Idealize.ShloMosaic Idealize.ShloMosaic.TcCoe Idealize.SL.Sem

namespace Cert.ReferenceIdeal.Attn

open Cert.AttnMath Cert.ReferenceIdeal Cert.ReferenceIdeal.Gen Cert.ReferenceIdeal.Read

variable (x0 : FVec Ideal S12288x3072 .bf16) (x1 x2 : FVec Ideal S1x64 .f32)

/-- A row of the projection at a sequence `b` and a position `r` in it. -/
def row (b : Fin 16) (r : Fin 256) : Fin 12288 := ⟨8192 + (b.val * 256 + r.val), by omega⟩

/-- A column of the projection's part `p` (queries, keys, values) at a head and an element of it. -/
def col (p : Fin 3) (h : Fin 16) (d : Fin 64) : Fin 3072 := ⟨1024 * p.val + (h.val * 64 + d.val), by omega⟩

/-- The values returned are the projection's. -/
theorem v55_at (b : Fin 16) (r : Fin 256) (h : Fin 16) (d : Fin 64) :
    val_main_v55 (F := Ideal) x0 (ix5 b 0 r h d) = x0 (ix2 (row b r) (col 2 h d)) := by
  pointwise [val_main_v55, val_main_v35, val_main_v4, val_main_v1, val_main_v0]
  exact congrArg x0 (congrArg₂ ix2 (Fin.ext (by simp [row])) (Fin.ext (by simp [col])))

/-- The values the attention takes are the projection's. -/
theorem v35_at (b : Fin 16) (r : Fin 256) (h : Fin 16) (d : Fin 64) :
    val_main_v35 (F := Ideal) x0 (ix4 b r h d) = x0 (ix2 (row b r) (col 2 h d)) := by
  pointwise [val_main_v35, val_main_v4, val_main_v1, val_main_v0]
  exact congrArg x0 (congrArg₂ ix2 (Fin.ext (by simp [row])) (Fin.ext (by simp [col])))

/-- The normalised queries. -/
theorem v19_at (b : Fin 16) (r : Fin 256) (h : Fin 16) (d : Fin 64) :
    val_main_v19 (F := Ideal) x0 x1 (ix4 b r h d) = nrm (fun l => x0 (ix2 (row b r) (col 0 h l))) (fun l => x1 (ix2 0 l)) d := by
  pointwise [val_main_v19,val_main_v18,val_main_v17,val_main_v16,val_main_v15,val_main_v14,val_main_v13,val_main_v12,val_main_v11,val_main_v10,val_main_v9,val_main_v8,val_main_v7,val_main_v6,val_main_v5,val_main_v2,val_main_v1,val_main_v0, val_main_cst, val_main_cst_0, val_main_cst_1]
  simp only [nrm, zero_add, row, col, Nat.mul_zero, Nat.zero_add, Fin.val_zero]

/-- The normalised keys. -/
theorem v34_at (b : Fin 16) (r : Fin 256) (h : Fin 16) (d : Fin 64) :
    val_main_v34 (F := Ideal) x0 x2 (ix4 b r h d) = nrm (fun l => x0 (ix2 (row b r) (col 1 h l))) (fun l => x2 (ix2 0 l)) d := by
  pointwise [val_main_v34,val_main_v33,val_main_v32,val_main_v31,val_main_v30,val_main_v29,val_main_v28,val_main_v27,val_main_v26,val_main_v25,val_main_v24,val_main_v23,val_main_v22,val_main_v21,val_main_v20,val_main_v3,val_main_v1,val_main_v0, val_main_cst_2, val_main_cst_3, val_main_cst_4]
  simp only [nrm, zero_add, row, col]
  rfl

/-- The keys returned are the normalised keys. -/
theorem v54_at (b : Fin 16) (r : Fin 256) (h : Fin 16) (d : Fin 64) :
    val_main_v54 (F := Ideal) x0 x2 (ix5 b 0 r h d) = val_main_v34 (F := Ideal) x0 x2 (ix4 b r h d) := by
  pointwise [val_main_v54]

/-- The scores. -/
theorem v38_at (b h : Fin 16) (r s : Fin 256) :
    val_main_v38 (F := Ideal) x0 x1 x2 (ix4 b h r s) =
      score (nrm (fun l => x0 (ix2 (row b r) (col 0 h l))) (fun l => x1 (ix2 0 l)))
        (nrm (fun l => x0 (ix2 (row b s) (col 1 h l))) (fun l => x2 (ix2 0 l))) := by
  pointwise [val_main_v38, val_main_v37, val_main_v36, val_main_cst_5]
  simp only [v19_at, v34_at]
  rfl

/-- A maximum over the last axis at an index. -/
theorem max_at (X : FVec Ideal S16x16x256x256 .f32) (z : FVec Ideal S_ .f32) (b h : Fin 16) (r : Fin 256) :
    Host.reduce FloatOps.maximumf X z reducesTo_S16x16x256x256_S16x16x256_d3 h_S_ (ix3 b h r)
      = Finset.fold max (z (Shape.Idx.first h_S_)) (fun s => X (ix4 b h r s)) Finset.univ := by
  simp only [pointwise]

/-- The scores' maxima at an index. -/
theorem v39_at (b h : Fin 16) (r : Fin 256) :
    val_main_v39 (F := Ideal) x0 x1 x2 (ix3 b h r) =
      Finset.fold max (val_main_cst_6 (F := Ideal) (Shape.Idx.first h_S_)) (fun s => val_main_v38 x0 x1 x2 (ix4 b h r s)) Finset.univ := by
  unfold val_main_v39
  generalize val_main_v38 (F := Ideal) x0 x1 x2 = X
  exact max_at X _ b h r

/-- The scores' maxima, as they are subtracted. -/
theorem v41_at (b h : Fin 16) (r : Fin 256) :
    val_main_v41 (F := Ideal) x0 x1 x2 (ix3 b h r) =
      max ⊥ (Finset.univ.fold max ⊥ fun s => val_main_v38 (F := Ideal) x0 x1 x2 (ix4 b h r s)) := by
  have hm : ∀ X : FVec Ideal S16x16x256 .f32, maximumf (val_main_v40 (F := Ideal)) X (ix3 b h r) = max ⊥ (X (ix3 b h r)) := by
    intro X
    rw [← w_bot]
    pointwise [val_main_v40, val_main_cst_7]
  have e := v39_at x0 x1 x2 b h r
  have hc : val_main_cst_6 (F := Ideal) (Shape.Idx.first h_S_) = (⊥ : EReal) := (val_main_cst_6_apply _).trans w_bot
  rw [hc] at e
  unfold val_main_v41
  rw [hm, e]

/-- The attention's result. -/
theorem v53_at (b h : Fin 16) (r : Fin 256) (d : Fin 64) :
    val_main_v53 (F := Ideal) x0 x1 x2 (ix2 ⟨256 * b.val + r.val, by omega⟩ ⟨64 * h.val + d.val, by omega⟩) =
      att (fun s => val_main_v38 (F := Ideal) x0 x1 x2 (ix4 b h r s)) fun s => x0 (ix2 (row b s) (col 2 h d)) := by
  pointwise [val_main_v53, val_main_v52, val_main_v51, val_main_v50, val_main_v49, val_main_v48, val_main_v47, val_main_v46, val_main_v45, val_main_v44, val_main_v43, val_main_v42, val_main_cst_8]
  simp only [att, zero_add, v35_at, v41_at]

end Cert.ReferenceIdeal.Attn
-- ==== Proof.AttnBlocks.lean ====
module

public import proofs.«01_k».proof.Proof.AttnBody
public import proofs.«01_k».proof.Proof.AttnRef
public import proofs.«01_k».proof.Proof.Gen.KernelIdeal.Value
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath Cert.ReferenceIdeal.Attn

variable (m : (ℓ : Loc nD τ sig) → Buf (Elt Ideal) ℓ)

/-- The query gains, spread over a pair's two heads. -/
theorem v4_at (c : Dev nD) (a : Fin 2) (d : Fin 64) :
    (V m c main_v4 : FVec Ideal S1x128 .f32) (ix2 0 (lane a d)) = (m ((c : Thread nD τ).loc main_arg1) : FVec Ideal S1x64 .f32) (ix2 0 d) := by
  have e : (V m c main_v4 : FVec Ideal S1x128 .f32) = shapeCast S1x128 (shapeCast S128 (broadcastInDim S2x64 ![0, 1] bcast_S1x64_S2x64_0_1
      (shapeCast S1x64 (shapeCast S64 (m ((c : Thread nD τ).loc main_arg1) : FVec Ideal S1x64 .f32) shapeCasts_S1x64_S64) shapeCasts_S64_S1x64)) shapeCasts_S2x64_S128) shapeCasts_S128_S1x128 := by
    unfold V
    after_reads_simp
    rfl
  rw [e]
  have h : ∀ X : FVec Ideal S1x64 .f32, shapeCast S1x128 (shapeCast S128 (broadcastInDim S2x64 ![0, 1] bcast_S1x64_S2x64_0_1
      (shapeCast S1x64 (shapeCast S64 X shapeCasts_S1x64_S64) shapeCasts_S64_S1x64)) shapeCasts_S2x64_S128) shapeCasts_S128_S1x128 (ix2 0 (lane a d))
      = X (ix2 0 d) := by
    intro X
    pointwise
    refine congrArg (fun q : Fin 64 => X (ix2 0 q)) (Fin.ext ?_)
    simp only [lane]
    omega
  exact h _

/-- The key gains, spread over a pair's two heads. -/
theorem v9_at (c : Dev nD) (a : Fin 2) (d : Fin 64) :
    (V m c main_v9 : FVec Ideal S1x128 .f32) (ix2 0 (lane a d)) = (m ((c : Thread nD τ).loc main_arg2) : FVec Ideal S1x64 .f32) (ix2 0 d) := by
  have e : (V m c main_v9 : FVec Ideal S1x128 .f32) = shapeCast S1x128 (shapeCast S128 (broadcastInDim S2x64 ![0, 1] bcast_S1x64_S2x64_0_1
      (shapeCast S1x64 (shapeCast S64 (m ((c : Thread nD τ).loc main_arg2) : FVec Ideal S1x64 .f32) shapeCasts_S1x64_S64) shapeCasts_S64_S1x64)) shapeCasts_S2x64_S128) shapeCasts_S128_S1x128 := by
    unfold V
    after_reads_simp
    rfl
  rw [e]
  have h : ∀ X : FVec Ideal S1x64 .f32, shapeCast S1x128 (shapeCast S128 (broadcastInDim S2x64 ![0, 1] bcast_S1x64_S2x64_0_1
      (shapeCast S1x64 (shapeCast S64 X shapeCasts_S1x64_S64) shapeCasts_S64_S1x64)) shapeCasts_S2x64_S128) shapeCasts_S128_S1x128 (ix2 0 (lane a d))
      = X (ix2 0 d) := by
    intro X
    pointwise
    refine congrArg (fun q : Fin 64 => X (ix2 0 q)) (Fin.ext ?_)
    simp only [lane]
    omega
  exact h _

/-- The windows' block indices: point `t` is sequence `t`. -/
theorem idx : ∀ t : Fin cfg0.N, win0_0.index t = ![32 + t.val, 0] ∧ win0_1.index t = ![32 + t.val, 1]
    ∧ win0_2.index t = ![32 + t.val, 2] ∧ win0_3.index t = ![0, 0] ∧ win0_4.index t = ![0, 0]
    ∧ win0_5.index t = ![t.val, 0] ∧ win0_6.index t = ![t.val, 0, 0, 0, 0] ∧ win0_7.index t = ![t.val, 0, 0, 0, 0] ∧ t.val < 16 :=
  (by decide +kernel : ∀ t : Fin grid0.N, _)

/-- The sequence of a grid point. -/
def sq (t : Fin cfg0.N) : Fin 16 := ⟨t.val, (idx t).2.2.2.2.2.2.2.2⟩

/-- The query block. -/
theorem blk0 (c : Dev nD) (t : Fin cfg0.N) (r : Fin 256) (h : Fin 16) (d : Fin 64) :
    (iblk m c 0 t : FVec Ideal S256x1024 .bf16) (ix2 r ⟨64 * h.val + d.val, by omega⟩)
      = (m ((c : Thread nD τ).loc main_arg0) : FVec Ideal S12288x3072 .bf16) (ix2 (row (sq t) r) (col 0 h d)) := by
  blk_ext [iblk, V, idx t, sq, row, col]

/-- The key block. -/
theorem blk1 (c : Dev nD) (t : Fin cfg0.N) (r : Fin 256) (h : Fin 16) (d : Fin 64) :
    (iblk m c 1 t : FVec Ideal S256x1024 .bf16) (ix2 r ⟨64 * h.val + d.val, by omega⟩)
      = (m ((c : Thread nD τ).loc main_arg0) : FVec Ideal S12288x3072 .bf16) (ix2 (row (sq t) r) (col 1 h d)) := by
  blk_ext [iblk, V, idx t, sq, row, col]

/-- The value block. -/
theorem blk2 (c : Dev nD) (t : Fin cfg0.N) (r : Fin 256) (h : Fin 16) (d : Fin 64) :
    (iblk m c 2 t : FVec Ideal S256x1024 .bf16) (ix2 r ⟨64 * h.val + d.val, by omega⟩)
      = (m ((c : Thread nD τ).loc main_arg0) : FVec Ideal S12288x3072 .bf16) (ix2 (row (sq t) r) (col 2 h d)) := by
  blk_ext [iblk, V, idx t, sq, row, col]

/-- The query gains' block. -/
theorem blk3 (c : Dev nD) (t : Fin cfg0.N) (a : Fin 2) (d : Fin 64) :
    (iblk m c 3 t : FVec Ideal S1x128 .f32) (ix2 0 (lane a d)) = (m ((c : Thread nD τ).loc main_arg1) : FVec Ideal S1x64 .f32) (ix2 0 d) := by
  refine Eq.trans ?_ (v4_at m c a d)
  blk_ext [iblk, idx t]

/-- The key gains' block. -/
theorem blk4 (c : Dev nD) (t : Fin cfg0.N) (a : Fin 2) (d : Fin 64) :
    (iblk m c 4 t : FVec Ideal S1x128 .f32) (ix2 0 (lane a d)) = (m ((c : Thread nD τ).loc main_arg2) : FVec Ideal S1x64 .f32) (ix2 0 d) := by
  refine Eq.trans ?_ (v9_at m c a d)
  blk_ext [iblk, idx t]

/-- Head `a` of pair `p`. -/
def hd (p : Fin 8) (a : Fin 2) : Fin 16 := ⟨2 * p.val + a.val, by omega⟩

/-- Every lane of a pair is a lane of one of its heads. -/
theorem lane_surj (j : Fin 128) : ∃ a d, j = lane a d :=
  ⟨⟨j.val / 64, by omega⟩, ⟨j.val % 64, by omega⟩, Fin.ext (by simp only [lane]; omega)⟩

/-- A pair's slice of a block at a lane of one of its heads. -/
theorem slice_at (X : FVec Ideal S256x1024 .bf16) (p : Fin 8) (r : Fin 256) (a : Fin 2) (d : Fin 64) :
    slice X p (ix2 r (lane a d)) = X (ix2 r ⟨64 * (hd p a).val + d.val, by omega⟩) := by
  refine congrArg (fun q : Fin 1024 => X (ix2 r q)) (Fin.ext ?_)
  show 128 * p.val + (64 * a.val + d.val) = 64 * (2 * p.val + a.val) + d.val
  omega

/-- A gains' block of finite numbers is finite. -/
theorem gain_all (g : FVec Ideal S1x128 .f32) (h : ∀ a d, g (ix2 0 (lane a d)) ≠ ⊤ ∧ g (ix2 0 (lane a d)) ≠ ⊥) : Finite.All (s := S1x128) g := by
  intro i
  idx_vars i
  obtain ⟨a, d, rfl⟩ := lane_surj i1
  obtain rfl : i0 = 0 := Subsingleton.elim _ _
  exact h a d

variable (c : Dev nD)

/-- The keys a point writes are the reference's. -/
theorem keys_at (t : Fin cfg0.N) (r : Fin 256) (p : Fin 8) (a : Fin 2) (d : Fin 64) :
    (outsAt0 m c t).2.1 (ix5 0 0 r (hd p a) d)
      = ReferenceIdeal.Read.val_main_v54 (F := Ideal) (m ((c : Thread nD τ).loc main_arg0)) (m ((c : Thread nD τ).loc main_arg2)) (ix5 (sq t) 0 r (hd p a) d) := by
  refine (outs6 m c t r (hd p a) d p (lane a d) (by simp only [hd, lane]; omega)).trans ?_
  rw [knorm_at]
  refine Eq.trans ?_ ((v54_at _ _ (sq t) r (hd p a) d).trans (v34_at _ _ (sq t) r (hd p a) d)).symm
  have e1 := fun l => (slice_at (iblk m c 1 t) p r a l).trans (blk1 m c t r (hd p a) l)
  have e2 := fun l => blk4 m c t a l
  simp only [e1, e2]

/-- The values a point writes are the reference's. -/
theorem values_at (t : Fin cfg0.N) (r : Fin 256) (h : Fin 16) (d : Fin 64) :
    (outsAt0 m c t).2.2 (ix5 0 0 r h d)
      = ReferenceIdeal.Read.val_main_v55 (F := Ideal) (m ((c : Thread nD τ).loc main_arg0)) (ix5 (sq t) 0 r h d) :=
  (outs7 m c t r h d).trans ((blk2 m c t r h d).trans (v55_at _ (sq t) r h d).symm)

/-- The attention a point writes is the reference's, when every gain is finite. -/
theorem attn_at (h1 : Finite.All (s := S1x64) (m ((c : Thread nD τ).loc main_arg1))) (h2 : Finite.All (s := S1x64) (m ((c : Thread nD τ).loc main_arg2)))
    (t : Fin cfg0.N) (r : Fin 256) (p : Fin 8) (a : Fin 2) (d : Fin 64) :
    (outsAt0 m c t).1 (ix2 r ⟨128 * p.val + (lane a d).val, by omega⟩)
      = ReferenceIdeal.Read.val_main_v53 (F := Ideal) (m ((c : Thread nD τ).loc main_arg0)) (m ((c : Thread nD τ).loc main_arg1)) (m ((c : Thread nD τ).loc main_arg2))
        (ix2 ⟨256 * (sq t).val + r.val, by omega⟩ ⟨64 * (hd p a).val + d.val, by omega⟩) := by
  have f3 := gain_all (iblk m c 3 t) fun a d => by have e := blk3 m c t a d; exact e ▸ h1 _
  have f4 := gain_all (iblk m c 4 t) fun a d => by have e := blk4 m c t a d; exact e ▸ h2 _
  refine (outs5 m c t r p (lane a d)).trans ((pairOut_eq _ _ _ _ _ f3 f4 r a d).trans ?_)
  refine Eq.trans ?_ (v53_at _ _ _ (sq t) (hd p a) r d).symm
  have e0 := fun l => (slice_at (iblk m c 0 t) p r a l).trans (blk0 m c t r (hd p a) l)
  have e1 := fun s l => (slice_at (iblk m c 1 t) p s a l).trans (blk1 m c t s (hd p a) l)
  have e2 := fun s => (slice_at (iblk m c 2 t) p s a d).trans (blk2 m c t s (hd p a) d)
  have e3 := fun l => blk3 m c t a l
  have e4 := fun l => blk4 m c t a l
  have es := fun s => v38_at (m ((c : Thread nD τ).loc main_arg0)) (m ((c : Thread nD τ).loc main_arg1)) (m ((c : Thread nD τ).loc main_arg2)) (sq t) (hd p a) r s
  simp only [e0, e1, e2, e3, e4, es]

/-- Every column of a block is a lane of a head of a pair. -/
theorem col_surj (j : Fin 1024) : ∃ (p : Fin 8) (a : Fin 2) (d : Fin 64), j = ⟨128 * p.val + (lane a d).val, by omega⟩ :=
  ⟨⟨j.val / 128, by omega⟩, ⟨j.val % 128 / 64, by omega⟩, ⟨j.val % 64, by omega⟩, Fin.ext (by simp only [lane]; omega)⟩

/-- Every head is a head of a pair. -/
theorem hd_surj (h : Fin 16) : ∃ p a, h = hd p a :=
  ⟨⟨h.val / 2, by omega⟩, ⟨h.val % 2, by omega⟩, Fin.ext (by simp only [hd]; omega)⟩

/-- The attention's array after the run is the reference's. -/
theorem final5 (h1 : Finite.All (s := S1x64) (m ((c : Thread nD τ).loc main_arg1))) (h2 : Finite.All (s := S1x64) (m ((c : Thread nD τ).loc main_arg2))) :
    (dats m 0 c).arrAt 5 cfg0.N = ReferenceIdeal.Read.val_main_v53 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  obtain ⟨p, a, d, rfl⟩ := col_surj y1
  refine (attn_at m c h1 h2 t y0 p a d).trans (congrArg (ReferenceIdeal.Read.val_main_v53 (F := Ideal) _ _ _) ?_)
  blk_ext [idx t, sq, hd, lane]

/-- The keys' array after the run is the reference's. -/
theorem final6 : (dats m 0 c).arrAt 6 cfg0.N
    = ReferenceIdeal.Read.val_main_v54 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  idx_vars y
  obtain rfl : y0 = 0 := Subsingleton.elim _ _
  obtain rfl : y1 = 0 := Subsingleton.elim _ _
  obtain ⟨p, a, rfl⟩ := hd_surj y3
  refine (keys_at m c t y2 p a y4).trans (congrArg (ReferenceIdeal.Read.val_main_v54 (F := Ideal) _ _) ?_)
  blk_ext [idx t, sq]

/-- The values' array after the run is the reference's. -/
theorem final7 : (dats m 0 c).arrAt 7 cfg0.N
    = ReferenceIdeal.Read.val_main_v55 (F := Ideal) (m ((c : Thread nD τ).loc main_arg0)) := by
  refine (dats m 0 c).arrAt_eq_of_covers 7 _ (by decide +kernel) fun t _ y => ?_
  blk_simp
  rw [after0_7]
  idx_vars y
  obtain rfl : y0 = 0 := Subsingleton.elim _ _
  obtain rfl : y1 = 0 := Subsingleton.elim _ _
  refine (values_at m c t y2 y3 y4).trans (congrArg (ReferenceIdeal.Read.val_main_v55 (F := Ideal) _) ?_)
  blk_ext [idx t, sq]

end Cert.KernelIdeal.Attn
-- ==== Proof.Attn.lean ====
module

public import proofs.«01_k».proof.Proof.AttnBlocks
public import proofs.«01_k».proof.Defs
public import proofs.«01_k».proof.Proof.Gen.ReferenceIdeal.Run

@[expose] public section

set_option maxRecDepth 16384

noncomputable section

open Idealize.ShloMosaic Idealize.ShloMosaic.TcCoe Idealize.SL.Sem

namespace Cert.Attn

open Cert.KernelIdeal Cert.KernelIdeal.Gen Cert.KernelIdeal.Attn

/-- Over the extended reals the attention kernel and the reference end with the same attention, keys and values, from
    equal arguments with finite gains. -/
theorem algebraic : algebraic_KernelIdeal_ReferenceIdeal_pre_finite_gains
    (hKernelIdeal := KernelIdeal.Gen.facts) (hReferenceIdeal := ReferenceIdeal.Gen.facts) (hPre_finite_gains := Pre_finite_gains.Gen.facts) := by
  intro m g m' g' hp ha
  refine ⟨fun c => (dats m 0 c).arrAt 5 cfg0.N, fun c => (dats m 0 c).arrAt 6 cfg0.N, fun c => (dats m 0 c).arrAt 7 cfg0.N, ?_, ?_⟩
  · exact (θ_run _ _ _).mono (fun r h c => h c) (KernelIdeal.Value.run_blocks m g)
  · refine (θ_run _ _ _).mono (fun r h c => ⟨(h c).1.trans ?_, (h c).2.1.trans ?_, (h c).2.2.1.trans ?_, (h c).2.2.2⟩) (ReferenceIdeal.Value.run m' g')
    · rw [ReferenceIdeal.Read.val_main_v53_eq]
      obtain ⟨e0, e1, e2⟩ := ha c
      rw [e0, e1, e2]
      obtain ⟨h1, h2⟩ := Finite.gains _ _ _ (hp c)
      exact (final5 m c h1 h2).symm
    · rw [ReferenceIdeal.Read.val_main_v54_eq]
      obtain ⟨e0, e1, e2⟩ := ha c
      rw [e0, e2]
      exact (final6 m c).symm
    · rw [ReferenceIdeal.Read.val_main_v55_eq]
      obtain ⟨e0, e1, e2⟩ := ha c
      rw [e0]
      exact (final7 m c).symm

end Cert.Attn
-- ==== Proof.RetMath.lean ====
module

public import Idealize.ShloMosaic.Lib.Pointwise
public import proofs.«01_k».proof.Proof.AttnMath

@[expose] public section

noncomputable section

namespace Cert.RetMath

open Finset

/-- A sum over the positions up to `L`, as a sum over all positions. -/
theorem sum_upto (f : ℕ → ℝ) (N L : ℕ) (h : L < N) : ∑ n ∈ range N, (if n ≤ L then f n else 0) = ∑ n ∈ range (L + 1), f n := by
  rw [← sum_filter]
  refine sum_congr (Finset.ext fun n => ?_) fun _ _ => rfl
  simp only [mem_filter, mem_range]
  omega

/-- The retention's state (one entry of it) after `c` chunks of 64 positions: the old state decayed over a chunk, plus the
    chunk's keys times values, each decayed to the chunk's end. -/
def st (γ : ℝ) (k v : ℕ → ℝ) : ℕ → ℝ
  | 0 => 0
  | c + 1 => st γ k v c * γ ^ 64 + ∑ m ∈ range 64, k (64 * c + m) * γ ^ (63 - m) * v (64 * c + m)

/-- The state after `c` chunks is the decayed sum over all positions before. -/
theorem st_eq (γ : ℝ) (k v : ℕ → ℝ) (c : ℕ) :
    st γ k v c = ∑ n ∈ range (64 * c), k n * γ ^ (64 * c - 1 - n) * v n := by
  induction c with
  | zero => simp [st]
  | succ c ih =>
    rw [st, ih, Nat.mul_succ, sum_range_add, sum_mul]
    refine congrArg₂ (· + ·) (sum_congr rfl fun n hn => ?_) (sum_congr rfl fun m hm => ?_)
    · have hn := mem_range.mp hn
      rw [show 64 * c + 64 - 1 - n = (64 * c - 1 - n) + 64 by omega, pow_add]
      ring
    · have hm := mem_range.mp hm
      rw [show 64 * c + 64 - 1 - (64 * c + m) = 63 - m by omega]

/-- A position's output from its chunk and the state before it. -/
def out (γ : ℝ) (q : Fin 128 → ℝ) (k : ℕ → Fin 128 → ℝ) (v : ℕ → ℝ) (c i : ℕ) : ℝ :=
  ∑ m ∈ range 64, v (64 * c + m) * ((∑ d, q d * k (64 * c + m) d) * (if m ≤ i then γ ^ (i - m) else 0))
    + ∑ d, st γ (fun n => k n d) v c * (q d * γ ^ (i + 1))

/-- A position's output is the decayed sum over the positions up to it. -/
theorem out_eq (γ : ℝ) (q : Fin 128 → ℝ) (k : ℕ → Fin 128 → ℝ) (v : ℕ → ℝ) (c i : ℕ) (hi : i < 64) :
    out γ q k v c i = ∑ n ∈ range (64 * c + i + 1), (∑ d, q d * k n d) * γ ^ (64 * c + i - n) * v n := by
  rw [out, add_assoc (64 * c), sum_range_add, add_comm]
  refine congrArg₂ (· + ·) ?_ ?_
  · simp only [st_eq, sum_mul]
    rw [sum_comm]
    refine sum_congr rfl fun n hn => sum_congr rfl fun d _ => ?_
    have hn := mem_range.mp hn
    rw [show 64 * c + i - n = (64 * c - 1 - n) + (i + 1) by omega, pow_add]
    ring
  · rw [← sum_upto _ 64 i hi]
    refine sum_congr rfl fun m _ => ?_
    split
    · rw [show 64 * c + i - (64 * c + m) = i - m by omega]
      ring
    · simp

/-- The two directions' outputs at a position add up to one decayed sum over all positions, the position itself counted
    twice. -/
theorem both (f b : ℝ) (q : Fin 128 → ℝ) (k : ℕ → Fin 128 → ℝ) (v : ℕ → ℝ) (L : ℕ) (hL : L < 256) :
    (∑ n ∈ range (L + 1), (∑ d, q d * k n d) * f ^ (L - n) * v n)
      + (∑ n ∈ range (255 - L + 1), (∑ d, q d * k (255 - n) d) * b ^ (255 - L - n) * v (255 - n))
      = ∑ n ∈ range 256, ((∑ d, q d * k n d) * ((if n < L then f ^ (L - n) else b ^ (n - L)) * (if n = L then 2 else 1))) * v n := by
  rw [← sum_upto _ 256 L hL, ← sum_upto _ 256 (255 - L) (by omega)]
  rw [← sum_range_reflect (fun n => if n ≤ 255 - L then _ else _) 256, ← sum_add_distrib]
  refine sum_congr rfl fun n hn => ?_
  have hn := mem_range.mp hn
  have e : 255 - (256 - 1 - n) = n := by omega
  rw [e]
  rcases lt_trichotomy n L with h | h | h
  · rw [if_pos h.le, if_neg (by omega), if_pos h, if_neg h.ne]
    ring
  · subst h
    rw [if_pos le_rfl, if_pos (by omega), if_neg (lt_irrefl _), if_pos rfl, show 255 - n - (256 - 1 - n) = 0 by omega, Nat.sub_self]
    ring
  · rw [if_neg (by omega), if_pos (by omega), if_neg (by omega), if_neg h.ne', show 255 - L - (256 - 1 - n) = n - L by omega]
    ring

end Cert.RetMath
-- ==== Proof.RetSpec.lean ====
module

public import Idealize.ShloMosaic.Lib.Pointwise
public import proofs.«01_k».proof.Proof.RetMath

@[expose] public section

set_option maxRecDepth 16384

noncomputable section

open Idealize.ShloMosaic Idealize.ShloMosaic.TcCoe Idealize.SL.Sem

namespace Cert.RetSpec

open Cert.RetMath Cert.AttnMath

/-- A decay factor below one: the exponential of a logarithm that is not plus infinity. -/
def gam (l : EReal) : ℝ := (Ideal.exp l).toReal

/-- A logarithm times a number of positions is the factor's power. -/
theorem exp_pow (l : EReal) (hl : l ≠ ⊤) (n : ℕ) : Ideal.exp (l * ((n : ℝ) : EReal)) = ((gam l ^ n : ℝ) : EReal) := by
  induction l with
  | top => exact absurd rfl hl
  | bot =>
    rcases Nat.eq_zero_or_pos n with rfl | h
    · rw [Nat.cast_zero, EReal.coe_zero, mul_zero, pow_zero, ← EReal.coe_zero, Ideal.exp_coe, Real.exp_zero]
    · rw [EReal.bot_mul_coe_of_pos (by exact_mod_cast h), gam, show Ideal.exp ⊥ = 0 from rfl, EReal.toReal_zero, zero_pow h.ne', EReal.coe_zero]
  | coe x =>
    rw [← EReal.coe_mul, Ideal.exp_coe, gam, Ideal.exp_coe, EReal.toReal_coe, mul_comm, Real.exp_nat_mul]

/-- The logarithm of one plus an exponential is not minus infinity. -/
theorem log1p_ne_bot (z : EReal) : Ideal.log1p (Ideal.exp z) ≠ ⊥ := by
  have h : ∀ x : ℝ, 0 < x → Ideal.log ((x : ℝ) : EReal) ≠ ⊥ := by
    intro x hx
    rw [Ideal.log_coe, if_neg (not_le.mpr hx)]
    exact EReal.coe_ne_bot _
  induction z with
  | top =>
    show Ideal.log (1 + ⊤) ≠ ⊥
    rw [show (1 + ⊤ : EReal) = ⊤ from EReal.coe_add_top 1]
    show (⊤ : EReal) ≠ ⊥
    exact top_ne_bot
  | bot =>
    show Ideal.log (1 + 0) ≠ ⊥
    rw [add_zero, ← EReal.coe_one]
    exact h 1 one_pos
  | coe x =>
    rw [Ideal.exp_coe, Ideal.log1p, ← EReal.coe_one, ← EReal.coe_add]
    exact h _ (by positivity)

/-- A log-sigmoid is not plus infinity. -/
theorem logsig_ne_top (x z : EReal) : -(max x 0 + Ideal.log1p (Ideal.exp z)) ≠ ⊤ := by
  rw [ne_eq, EReal.neg_eq_top_iff, EReal.add_eq_bot_iff, not_or]
  refine ⟨fun h => ?_, log1p_ne_bot z⟩
  have : (0 : EReal) ≤ ⊥ := h ▸ le_max_right x 0
  exact absurd this (by simp)

/-- The word of the keys' scale. -/
def ks : ℝ := (Ideal.ofBits .f32 0x3DB504F3#32).toReal

/-- The keys' scale is a real number. -/
theorem ks_eq : Ideal.ofBits .f32 0x3DB504F3#32 = (ks : EReal) := by
  refine (EReal.coe_toReal ?_ ?_).symm
  · simp [Ideal.ofBits, Ideal.ieee, -EReal.coe_mul]
  · simp [Ideal.ofBits, Ideal.ieee, -EReal.coe_mul]

/-- A head's output normalised over its 128 columns. -/
def normed (o : Fin 128 → EReal) (e : Fin 128) : EReal :=
  (o e - Ideal.div (∑ x, o x) (Ideal.ofBits .f32 0x43000000#32))
    * Ideal.rsqrt (Ideal.div (∑ x, (o x - Ideal.div (∑ x, o x) (Ideal.ofBits .f32 0x43000000#32)) * (o x - Ideal.div (∑ x, o x) (Ideal.ofBits .f32 0x43000000#32)))
      (Ideal.ofBits .f32 0x43000000#32) + Ideal.ofBits .f32 0x358637BD#32)

/-- A head's normalised output, times its gain, times the gate. -/
def retained (o : Fin 128 → EReal) (gn g : EReal) (e : Fin 128) : EReal :=
  normed o e * gn * (g * Ideal.div 1 (1 + Ideal.exp (-g)))

/-- The short convolution at a position: the position before, the position and the position after, nothing beyond the ends. -/
def conv (bg : EReal) (u : Fin 256 → EReal) (w0 w1 w2 : EReal) (L : Fin 256) : EReal :=
  bg * ((if L.val = 0 then 0 else u ⟨L.val - 1, by omega⟩) * w0 + u L * w1
    + (if h : L.val < 255 then u ⟨L.val + 1, by omega⟩ else 0) * w2)

/-- The projection's shape. -/
abbrev SP : Shape := ⟨2, ![12288, 3584]⟩

/-- A prompt sequence's entry of one of the projection's seven parts: position, head and column. -/
def cell (x : SP.Idx → EReal) (b : Fin 16) (j : Fin 7) (h : Fin 4) (L : Fin 256) (d : Fin 128) : EReal :=
  x (ix2 ⟨8192 + (256 * b.val + L.val), by omega⟩ ⟨512 * j.val + (128 * h.val + d.val), by omega⟩)

/-- The entry as a real number, nothing beyond the sequence. -/
def cr (x : SP.Idx → EReal) (b : Fin 16) (j : Fin 7) (h : Fin 4) (n : ℕ) (d : Fin 128) : ℝ :=
  if hn : n < 256 then (cell x b j h ⟨n, hn⟩ d).toReal else 0

/-- The scaled key as a real number. -/
def kr (x : SP.Idx → EReal) (b : Fin 16) (h : Fin 4) (n : ℕ) (d : Fin 128) : ℝ := cr x b 1 h n d * ks

/-- The queries, keys and values of the prompt are finite. -/
def Fin3 (x : SP.Idx → EReal) : Prop := ∀ (b : Fin 16) (j : Fin 7) (h : Fin 4) (L : Fin 256) (d : Fin 128), j.val < 3 → cell x b j h L d ≠ ⊤ ∧ cell x b j h L d ≠ ⊥

variable {x : SP.Idx → EReal} (hx : Fin3 x)
include hx

/-- A finite entry is its real number. -/
theorem cell_eq (b : Fin 16) (j : Fin 7) (h : Fin 4) (L : Fin 256) (d : Fin 128) (hj : j.val < 3) : cell x b j h L d = ((cr x b j h L.val d : ℝ) : EReal) := by
  obtain ⟨h1, h2⟩ := hx b j h L d hj
  rw [cr, dif_pos L.isLt]
  exact (EReal.coe_toReal h1 h2).symm

/-- A scaled key is its real number. -/
theorem key_eq (b : Fin 16) (h : Fin 4) (L : Fin 256) (d : Fin 128) : cell x b 1 h L d * Ideal.ofBits .f32 0x3DB504F3#32 = ((kr x b h L.val d : ℝ) : EReal) := by
  rw [cell_eq hx b 1 h L d (by decide), ks_eq, ← EReal.coe_mul, kr]

omit hx

/-- A position's output from all positions: a position before decays by the forward factor, a position after by the backward
    factor, and the position itself counts twice. -/
def oR (x : SP.Idx → EReal) (f b' : ℝ) (b : Fin 16) (h : Fin 4) (L : ℕ) (e : Fin 128) : ℝ :=
  ∑ n ∈ Finset.range 256, ((∑ d, cr x b 0 h L d * kr x b h n d) * ((if n < L then f ^ (L - n) else b' ^ (n - L)) * (if n = L then 2 else 1))) * cr x b 2 h n e

/-- The forward state after the sequence. -/
def sfR (x : SP.Idx → EReal) (f : ℝ) (b : Fin 16) (h : Fin 4) (d e : Fin 128) : ℝ :=
  ∑ n ∈ Finset.range 256, kr x b h n d * f ^ (255 - n) * cr x b 2 h n e

/-- The backward state after the sequence. -/
def sbR (x : SP.Idx → EReal) (f : ℝ) (b : Fin 16) (h : Fin 4) (d e : Fin 128) : ℝ :=
  ∑ n ∈ Finset.range 256, kr x b h n d * f ^ n * cr x b 2 h n e

/-- A sum over 256 positions of real numbers. -/
theorem sum_real {N : ℕ} (f : Fin N → EReal) (g : ℕ → ℝ) (h : ∀ i, f i = ((g i.val : ℝ) : EReal)) : ∑ i, f i = ((∑ n ∈ Finset.range N, g n : ℝ) : EReal) := by
  rw [Finset.sum_congr rfl fun i _ => h i, coe_sum (fun i : Fin N => g i.val), Fin.sum_univ_eq_sum_range g N]

end Cert.RetSpec
-- ==== Proof.RetPay.lean ====
module

public import proofs.«01_k».proof.Proof.Gen.Kernel4Ideal.Skeleton
public import Idealize.ShloMosaic.Lib.Pointwise
public import proofs.«01_k».proof.Proof.RetSpec

@[expose] public section

set_option maxRecDepth 16384

noncomputable section

open Idealize.ShloMosaic Idealize.ShloMosaic.TcCoe Idealize.SL.Sem

namespace Cert.Kernel4Ideal.Ret

open Cert.Kernel4Ideal Cert.Kernel4Ideal.Gen Cert.RetSpec Cert.RetMath Cert.AttnMath

variable (q k v g : FVec Ideal S256x128 .bf16) (dec : Vec Ideal S1x256x256 .f32) (gn : FVec Ideal S1x128 .f32)
  (cg xi bg : FVec Ideal S256x128 .bf16) (cw : FVec Ideal S3x128 .f32) (l l' : Ideal .f32)

/-- A head's attention-like product, before the norm. -/
def oPay : FVec Ideal S256x128 .f32 := k0_pay14 q k v dec

/-- What a head's retention columns hold. -/
def retPay : FVec Ideal S256x128 .bf16 := k0_pay19 (k0_pay18 (oPay q k v dec) gn) g

/-- What a head's convolution columns hold. -/
def convPay : FVec Ideal S256x128 .bf16 := k0_pay20 (iota Kind.tc S256x128 32 [0] iota_S256x128_d0_w32) cg xi cw bg

/-- What a head's forward state holds. -/
def sfPay : FVec Ideal S1x1x1x128x128 .f32 := k0_pay16 v (k0_pay15 l k)

/-- What a head's backward state holds. -/
def sbPay : FVec Ideal S1x1x1x128x128 .f32 := k0_pay17 k0_pay12 l (k0_pay13 k) v

/-- What a head's decay holds. -/
def decPay : FVec Ideal S1x256x256 .f32 := k0_pay5 l l'

/-- The second head computes what the first does: retention. -/
theorem ret1 : k0_pay29 (k0_pay27 (k0_pay22 q k v dec) gn g) = retPay q k v g dec gn := rfl
/-- The third head computes what the first does: retention. -/
theorem ret2 : k0_pay39 (k0_pay36 (k0_pay32 q k v dec) gn g) = retPay q k v g dec gn := rfl
/-- The fourth head computes what the first does: retention. -/
theorem ret3 : k0_pay1 (k0_pay48 (k0_pay44 (k0_pay41 q) (k0_pay42 k) v dec) (k0_pay47 (k0_pay41 q) (k0_pay42 k) v dec) (FloatOps.ofBits FTy.f32 0x43000000#32) gn g)
    = retPay q k v g dec gn := rfl
/-- The second head computes what the first does: convolution. -/
theorem conv1 : k0_pay30 (F := Ideal) (iota Kind.tc S256x128 32 [0] iota_S256x128_d0_w32) (k0_pay28 cg) xi cw bg = convPay cg xi bg cw := rfl
/-- The third head computes what the first does: convolution. -/
theorem conv2 : k0_pay40 (F := Ideal) (iota Kind.tc S256x128 32 [0] iota_S256x128_d0_w32) (k0_pay37 cg xi) (k0_pay38 (iota Kind.tc S256x128 32 [0] iota_S256x128_d0_w32) cg xi) cw bg
    = convPay cg xi bg cw := rfl
/-- The fourth head computes what the first does: convolution. -/
theorem conv3 : k0_pay2 (F := Ideal) (k0_pay49 cg xi) (k0_pay50 (iota Kind.tc S256x128 32 [0] iota_S256x128_d0_w32) cg xi) (k0_pay51 (iota Kind.tc S256x128 32 [0] iota_S256x128_d0_w32) cg xi) cw bg
    = convPay cg xi bg cw := rfl
/-- The second head computes what the first does: forward state. -/
theorem sf1 : k0_pay25 (k0_pay24 k0_pay12 l k v) = sfPay k v l := rfl
/-- The third head computes what the first does: forward state. -/
theorem sf2 : k0_pay33 k0_pay12 l k v = sfPay k v l := rfl
/-- The fourth head computes what the first does: forward state. -/
theorem sf3 : k0_pay45 k0_pay12 l (k0_pay42 k) v = sfPay k v l := rfl
/-- The second head computes what the first does: backward state. -/
theorem sb1 : k0_pay26 v (k0_pay23 k0_pay12 l k) = sbPay k v l := rfl
/-- The third head computes what the first does: backward state. -/
theorem sb2 : k0_pay35 (k0_pay34 k0_pay12 l k v) = sbPay k v l := rfl
/-- The fourth head computes what the first does: backward state. -/
theorem sb3 : k0_pay46 k0_pay12 l (k0_pay42 k) v = sbPay k v l := rfl
/-- The second head computes what the first does: decay. -/
theorem dec1 : k0_pay6 (F := Ideal) k0_pay3 k0_pay4 l l' = decPay l l' := rfl
/-- The third head computes what the first does: decay. -/
theorem dec2 : k0_pay10 (F := Ideal) (k0_pay7 k0_pay3 k0_pay4 l l') (k0_pay8 k0_pay3) (FloatOps.ofBits FTy.f32 1065353216#32) k0_pay9 = decPay l l' := rfl
/-- The fourth head computes what the first does: decay. -/
theorem dec3 : k0_pay11 (F := Ideal) k0_pay3 k0_pay4 l l' = decPay l l' := rfl

/-- One entry of a head's product. -/
theorem oPay_at (r : Fin 256) (e : Fin 128) :
    oPay q k v dec (ix2 r e) = ∑ m : Fin 256, (∑ d : Fin 128, q (ix2 r d) * (k (ix2 m d) * Ideal.ofBits .f32 0x3DB504F3#32)) * dec (ix3 0 r m) * v (ix2 m e) := by
  pointwise [oPay, k0_pay14, k0_pay13]

/-- One entry of a head's retention columns. -/
theorem retPay_at (r : Fin 256) (e : Fin 128) :
    retPay q k v g dec gn (ix2 r e) = retained (fun e => oPay q k v dec (ix2 r e)) (gn (ix2 0 e)) (g (ix2 r e)) e := by
  unfold retPay
  generalize oPay q k v dec = o
  pointwise [k0_pay18, k0_pay19, retained, normed]
  rfl

/-- A 32-bit word of a position compares equal to another's only if it is the same position. -/
theorem eq_word (r c : ℕ) (hr : r < 256) (hc : c < 256) : (BitVec.ofNat 32 r == BitVec.ofNat 32 c) = decide (r = c) := by
  by_cases h : r = c
  · subst h
    simp
  · rw [decide_eq_false h, beq_eq_false_iff_ne]
    intro e
    have := congrArg BitVec.toNat e
    simp only [BitVec.toNat_ofNat] at this
    omega

/-- One entry of a head's convolution columns. -/
theorem convPay_at (r : Fin 256) (e : Fin 128) :
    convPay cg xi bg cw (ix2 r e)
      = conv (bg (ix2 r e)) (fun r => cg (ix2 r e) * xi (ix2 r e)) (cw (ix2 0 e)) (cw (ix2 1 e)) (cw (ix2 2 e)) r := by
  pointwise [convPay, k0_pay20, conv]
  have hr := r.isLt
  have e0 : IntOp.cmpi CmpIPredicate.eq (BitVec.ofNat 32 r.val) 0#32 = BitVec.ofBool (decide (r.val = 0)) := congrArg BitVec.ofBool (eq_word r.val 0 hr (by decide))
  have e1 : IntOp.cmpi CmpIPredicate.eq (BitVec.ofNat 32 r.val) 255#32 = BitVec.ofBool (decide (r.val = 255)) := congrArg BitVec.ofBool (eq_word r.val 255 hr (by decide))
  rw [e0, e1]
  refine congrArg _ (congrArg₂ (· + ·) (congrArg (· + _) ?_) ?_)
  · by_cases h : r.val = 0
    · rw [if_pos h, decide_eq_true h, zero_mul]
      rfl
    · rw [if_neg h, decide_eq_false h]
      have : (⟨(r.val + 256 - 1) % 256, Nat.mod_lt _ (by decide)⟩ : Fin 256) = ⟨r.val - 1, by omega⟩ := Fin.ext (by simp only []; omega)
      simp only [this]
      rfl
  · by_cases h : r.val = 255
    · rw [dif_neg (by omega), decide_eq_true h, zero_mul]
      rfl
    · rw [dif_pos (by omega), decide_eq_false h]
      have : (⟨(r.val + 256 - 255) % 256, Nat.mod_lt _ (by decide)⟩ : Fin 256) = ⟨r.val + 1, by omega⟩ := Fin.ext (by simp only []; omega)
      simp only [this]
      rfl

/-- A position's number as a float. -/
theorem pos_at (r : Fin 256) : FloatOps.sitofp (F := Ideal) FTy.f32 (BitVec.ofNat 32 r.val) = ((r.val : ℝ) : EReal) := by
  have e : (BitVec.ofNat 32 r.val).toInt = (r.val : ℤ) := by
    rw [BitVec.toInt_eq_toNat_of_lt (by rw [BitVec.toNat_ofNat]; omega), BitVec.toNat_ofNat, Nat.mod_eq_of_lt (by omega)]
  show (((BitVec.ofNat 32 r.val).toInt : ℝ) : EReal) = _
  rw [e, Int.cast_natCast]

/-- One entry of a head's forward state. -/
theorem sfPay_at (d e : Fin 128) : sfPay k v l (ix5 0 0 0 d e)
    = ∑ m : Fin 256, k (ix2 m d) * Ideal.ofBits .f32 0x3DB504F3#32 * Ideal.exp (l * (Ideal.ofBits .f32 0x437F0000#32 - ((m.val : ℝ) : EReal))) * v (ix2 m e) := by
  pointwise [sfPay, k0_pay16, k0_pay15, k0_pay12, k0_pay13]
  simp only [pos_at]

/-- One entry of a head's backward state. -/
theorem sbPay_at (d e : Fin 128) : sbPay k v l (ix5 0 0 0 d e)
    = ∑ m : Fin 256, k (ix2 m d) * Ideal.ofBits .f32 0x3DB504F3#32 * Ideal.exp (l * ((m.val : ℝ) : EReal)) * v (ix2 m e) := by
  pointwise [sbPay, k0_pay17, k0_pay12, k0_pay13]
  simp only [pos_at]

/-- The difference of two positions as a word. -/
theorem diff_word (r n : Fin 256) : (IntOp.subi (BitVec.ofNat 32 r.val) (BitVec.ofNat 32 n.val)).toInt = (r.val : ℤ) - n.val := by
  have h : ∀ r : Fin 256, (BitVec.ofNat 32 r.val).toInt = (r.val : ℤ) := fun r => by
    rw [BitVec.toInt_eq_toNat_of_lt (by rw [BitVec.toNat_ofNat]; omega), BitVec.toNat_ofNat, Nat.mod_eq_of_lt (by omega)]
  show (BitVec.ofNat 32 r.val - BitVec.ofNat 32 n.val).toInt = _
  rw [BitVec.toInt_sub, h, h]
  exact Int.bmod_eq_of_le (by omega) (by omega)

/-- One entry of a head's decay: a power of the forward factor before, of the backward factor after, doubled at the position. -/
theorem decPay_at (hl : l ≠ ⊤) (hl' : l' ≠ ⊤) (r n : Fin 256) :
    decPay l l' (ix3 0 r n) = (((if n.val < r.val then gam l ^ (r.val - n.val) else gam l' ^ (n.val - r.val)) * (if n.val = r.val then 2 else 1) : ℝ) : EReal) := by
  pointwise [decPay, k0_pay5, k0_pay4, k0_pay3]
  have hI := diff_word r n
  have h2 : Ideal.ofBits FTy.f32 1073741824#32 = ((2 : ℝ) : EReal) := by
    simp [Ideal.ofBits, Ideal.ieee, -EReal.coe_mul]; norm_num
  rw [h2]
  generalize IntOp.subi (BitVec.ofNat 32 r.val) (BitVec.ofNat 32 n.val) = I at hI ⊢
  have hs : FloatOps.sitofp (F := Ideal) FTy.f32 I = (((r.val : ℝ) - (n.val : ℝ) : ℝ) : EReal) := by
    show ((I.toInt : ℝ) : EReal) = _
    rw [hI]; push_cast; rfl
  have hgt : IntOp.cmpi CmpIPredicate.sgt I 0#32 = BitVec.ofBool (decide (n.val < r.val)) := by
    refine congrArg BitVec.ofBool ?_
    show decide ((0#32).toInt < I.toInt) = _
    rw [hI, show (0#32 : BitVec 32).toInt = 0 from rfl]
    exact decide_eq_decide.mpr (by omega)
  have heq : IntOp.cmpi CmpIPredicate.eq I 0#32 = BitVec.ofBool (decide (n.val = r.val)) := by
    refine congrArg BitVec.ofBool ?_
    by_cases h : n.val = r.val
    · have : I = 0#32 := BitVec.eq_of_toInt_eq (by rw [hI, h, sub_self]; rfl)
      rw [this, decide_eq_true h]; rfl
    · rw [decide_eq_false h, beq_eq_false_iff_ne]
      rintro rfl
      have : (0#32 : BitVec 32).toInt = 0 := rfl
      omega
  rw [hs, hgt, heq, EReal.coe_mul]
  refine congrArg₂ (· * ·) ?_ ?_
  · by_cases h : n.val < r.val
    · rw [if_pos h, decide_eq_true h, ← exp_pow l hl, Nat.cast_sub h.le]
      rfl
    · rw [if_neg h, decide_eq_false h, ← exp_pow l' hl', Nat.cast_sub (by omega)]
      refine congrArg (fun z => Ideal.exp (l' * z)) ?_
      rw [zero_sub, ← EReal.coe_neg, neg_sub]
  · by_cases h : n.val = r.val
    · rw [if_pos h, decide_eq_true h]; rfl
    · rw [if_neg h, decide_eq_false h]; rfl

end Cert.Kernel4Ideal.Ret
-- ==== Proof.RetBody.lean ====
module

public import proofs.«01_k».proof.Proof.Gen.Kernel4Ideal.Value
public import Idealize.ShloMosaic.Lib.Pipeline.ValueKit
public import Idealize.ShloMosaic.Lib.Pipeline.ReadBack
public import proofs.«01_k».proof.Proof.RetPay

@[expose] public section

set_option maxRecDepth 16384

noncomputable section

open Idealize.ShloMosaic Idealize.ShloMosaic.TcCoe Idealize.SL.Sem

namespace Cert.Kernel4Ideal.Ret

open Cert.Kernel4Ideal Cert.Kernel4Ideal.Gen Cert.RetSpec Cert.RetMath Cert.AttnMath

variable (m : (ℓ : Loc nD τ sig) → Buf (Elt Ideal) ℓ)

/-- A head's 128 columns of a block. -/
def cs (X : FVec Ideal S256x512 .bf16) (h : Fin 4) : FVec Ideal S256x128 .bf16 :=
  fun i => X (ix2 (i 0) ⟨128 * h.val + (i 1).val, by have := (i 1).isLt; change (i 1).val < 128 at this; omega⟩)

/-- A head's 128 columns of the gains. -/
def c1 (X : FVec Ideal S1x512 .f32) (h : Fin 4) : FVec Ideal S1x128 .f32 :=
  fun i => X (ix2 (i 0) ⟨128 * h.val + (i 1).val, by have := (i 1).isLt; change (i 1).val < 128 at this; omega⟩)

/-- A head's 128 columns of the convolution's weights. -/
def c3 (X : FVec Ideal S3x512 .f32) (h : Fin 4) : FVec Ideal S3x128 .f32 :=
  fun i => X (ix2 (i 0) ⟨128 * h.val + (i 1).val, by have := (i 1).isLt; change (i 1).val < 128 at this; omega⟩)

/-- A head's decay in the scratch. -/
def dsl (X : FVec Ideal S4x256x256 .f32) (h : Fin 4) : Vec Ideal S1x256x256 .f32 := fun i => X (ix3 h (i 1) (i 2))

/-- Loading a head's columns: `cs`. -/
theorem ld_cs (X : FVec Ideal S256x512 .bf16) (h : Fin 4) (o : ℕ) (hb : ∀ a, (![0, o] : Fin 2 → ℕ) a + (![256, 128] : Fin 2 → ℕ) a ≤ S256x512.size a)
    (e : o = 128 * h.val) :
    (View.ld (e' := EltTy.bf16) (Val := Elt Ideal) X (Rect.unit (s := S256x512) ![0, o] ![256, 128] hb) : FVec Ideal S256x128 .bf16) = cs X h := by
  subst e
  funext i
  refine congrArg X (funext fun a => ?_)
  fin_cases a
  · exact Fin.ext (by simp [Rect.unit])
  · exact Fin.ext (by simp [Rect.unit])

/-- Loading a head's columns: `c1`. -/
theorem ld_c1 (X : FVec Ideal S1x512 .f32) (h : Fin 4) (o : ℕ) (hb : ∀ a, (![0, o] : Fin 2 → ℕ) a + (![1, 128] : Fin 2 → ℕ) a ≤ S1x512.size a)
    (e : o = 128 * h.val) :
    (View.ld (e' := EltTy.f32) (Val := Elt Ideal) X (Rect.unit (s := S1x512) ![0, o] ![1, 128] hb) : FVec Ideal S1x128 .f32) = c1 X h := by
  subst e
  funext i
  refine congrArg X (funext fun a => ?_)
  fin_cases a
  · exact Fin.ext (by simp [Rect.unit])
  · exact Fin.ext (by simp [Rect.unit])

/-- Loading a head's columns: `c3`. -/
theorem ld_c3 (X : FVec Ideal S3x512 .f32) (h : Fin 4) (o : ℕ) (hb : ∀ a, (![0, o] : Fin 2 → ℕ) a + (![3, 128] : Fin 2 → ℕ) a ≤ S3x512.size a)
    (e : o = 128 * h.val) :
    (View.ld (e' := EltTy.f32) (Val := Elt Ideal) X (Rect.unit (s := S3x512) ![0, o] ![3, 128] hb) : FVec Ideal S3x128 .f32) = c3 X h := by
  subst e
  funext i
  refine congrArg X (funext fun a => ?_)
  fin_cases a
  · exact Fin.ext (by simp [Rect.unit])
  · exact Fin.ext (by simp [Rect.unit])

/-- Loading a head's decay. -/
theorem ld_dsl (X : FVec Ideal S4x256x256 .f32) (h : Fin 4) (o : ℕ) (hb : ∀ a, (![o, 0, 0] : Fin 3 → ℕ) a + (![1, 256, 256] : Fin 3 → ℕ) a ≤ S4x256x256.size a)
    (e : o = h.val) :
    (View.ld (e' := EltTy.f32) (Val := Elt Ideal) X (Rect.unit (s := S4x256x256) ![o, 0, 0] ![1, 256, 256] hb) : Vec Ideal S1x256x256 .f32) = dsl X h := by
  subst e
  funext i
  idx_vars i
  obtain rfl : i0 = 0 := Subsingleton.elim _ _
  refine congrArg X (funext fun a => ?_)
  fin_cases a
  · exact Fin.ext (by simp [Rect.unit])
  · exact Fin.ext (by simp [Rect.unit])
  · exact Fin.ext (by simp [Rect.unit])

/-- Loading one decay logarithm. -/
theorem lg_ld {X : FVec Ideal S2x4 .f32} {off : Fin 2 → ℕ} {hb : ∀ a, off a + (![1, 1] : Fin 2 → ℕ) a ≤ S2x4.size a} {hp} (d : Fin 2) (h : Fin 4)
    (e : off = ![d.val, h.val]) :
    View.ld (e' := EltTy.f32) (Val := Elt Ideal) X (Rect.unit (s := S2x4) off ![1, 1] hb) (Shape.Idx.first hp) = X (ix2 d h) := by
  subst e
  refine congrArg X (funext fun a => ?_)
  fin_cases a
  · exact Fin.ext (by simp [Rect.unit])
  · exact Fin.ext (by simp [Rect.unit])

/-- Where the four heads load the forward logarithms, for the decay. -/
theorem o1 : ∀ t : Fin cfg0.N, k0_off1 (grid0.coords t) 0#32 = ![0, 0] ∧ k0_off1 (grid0.coords t) 1#32 = ![0, 1]
    ∧ k0_off1 (grid0.coords t) 2#32 = ![0, 2] ∧ k0_off1 (grid0.coords t) 3#32 = ![0, 3] :=
  (by decide +kernel : ∀ t : Fin grid0.N, _)

/-- Where the four heads load the backward logarithms, for the decay. -/
theorem o2 : ∀ t : Fin cfg0.N, k0_off2 (grid0.coords t) 0#32 = ![1, 0] ∧ k0_off2 (grid0.coords t) 1#32 = ![1, 1]
    ∧ k0_off2 (grid0.coords t) 2#32 = ![1, 2] ∧ k0_off2 (grid0.coords t) 3#32 = ![1, 3] :=
  (by decide +kernel : ∀ t : Fin grid0.N, _)

/-- Where the four heads load the forward logarithms, for the state. -/
theorem o3 : ∀ t : Fin cfg0.N, k0_off3 (grid0.coords t) 0#32 = ![0, 0] ∧ k0_off3 (grid0.coords t) 1#32 = ![0, 1]
    ∧ k0_off3 (grid0.coords t) 2#32 = ![0, 2] ∧ k0_off3 (grid0.coords t) 3#32 = ![0, 3] :=
  (by decide +kernel : ∀ t : Fin grid0.N, _)

/-- Where the four heads load the backward logarithms, for the state. -/
theorem o4 : ∀ t : Fin cfg0.N, k0_off4 (grid0.coords t) 0#32 = ![1, 0] ∧ k0_off4 (grid0.coords t) 1#32 = ![1, 1]
    ∧ k0_off4 (grid0.coords t) 2#32 = ![1, 2] ∧ k0_off4 (grid0.coords t) 3#32 = ![1, 3] :=
  (by decide +kernel : ∀ t : Fin grid0.N, _)

/-- The first point leaves the decays in the scratch. -/
theorem decA (c : Dev nD) (t : Fin cfg0.N) (h0 : t.val % 16 = 0) (h : Fin 4) (r n : Fin 256) :
    (outsAt0 m c t.val t.isLt).2.2.2 (ix3 h r n) = decPay (iblk m c 0 t (ix2 0 h)) (iblk m c 0 t (ix2 1 h)) (ix3 0 r n) := by
  rw [outsAt0_A m c t h0]
  frame_out
  canon_tiles x h
  all_goals
    idx_vars x
    obtain rfl : r = x1 := Fin.ext h1
    obtain rfl : n = x2 := Fin.ext h2
    obtain rfl : x0 = 0 := Subsingleton.elim _ _
  · obtain rfl : h = 3 := Fin.ext (by show h.val = 3; omega)
    rw [lg_ld 0 3 (o1 t).2.2.2, lg_ld 1 3 (o2 t).2.2.2]
    rfl
  · obtain rfl : h = 2 := Fin.ext (by show h.val = 2; omega)
    rw [lg_ld 0 2 (o1 t).2.2.1, lg_ld 1 2 (o2 t).2.2.1]
    rfl
  · obtain rfl : h = 1 := Fin.ext (by show h.val = 1; omega)
    rw [lg_ld 0 1 (o1 t).2.1, lg_ld 1 1 (o2 t).2.1]
    rfl
  · obtain rfl : h = 0 := Fin.ext (by show h.val = 0; omega)
    rw [lg_ld 0 0 (o1 t).1, lg_ld 1 0 (o2 t).1]
    rfl

/-- Every other point leaves the scratch as it was. -/
theorem decB (c : Dev nD) (t : Fin cfg0.N) (h0 : ¬t.val % 16 = 0) :
    (outsAt0 m c t.val t.isLt).2.2.2 = (outsAt0 m c (t.val - 1) (by omega)).2.2.2 := by
  rw [outsAt0_B m c t h0]
  rfl

/-- The first point: the retention columns of the first output. -/
theorem retA (c : Dev nD) (t : Fin cfg0.N) (h0 : t.val % 16 = 0) (h : Fin 4) (r : Fin 256) (e : Fin 128) :
    (outsAt0 m c t.val t.isLt).1 (ix2 r ⟨256 * h.val + e.val, by omega⟩)
      = retPay (cs (iblk m c 1 t) h) (cs (iblk m c 2 t) h) (cs (iblk m c 3 t) h) (cs (iblk m c 4 t) h) (decPay (iblk m c 0 t (ix2 0 h)) (iblk m c 0 t (ix2 1 h)))
        (c1 (iblk m c 8 t) h) (ix2 r e) := by
  have e1 := ld_cs (iblk m c 1 t) h
  have e2 := ld_cs (iblk m c 2 t) h
  have e3 := ld_cs (iblk m c 3 t) h
  have e4 := ld_cs (iblk m c 4 t) h
  have e8 := ld_c1 (iblk m c 8 t) h
  rw [outsAt0_A m c t h0]
  frame_out
  canon_tiles x h
  all_goals
    idx_vars x
    first
    | (exfalso; omega)
    | skip
  all_goals
    rw [e1 _ _ (by omega), e2 _ _ (by omega), e3 _ _ (by omega), e4 _ _ (by omega), e8 _ _ (by omega)]
    obtain rfl : r = x0 := Fin.ext h0
    obtain rfl : e = x1 := Fin.ext (by omega)
    simp (disch := first | rfl | decide) only [↓View.readCov_skip, View.readCov_cons_toLoadRect]
  · obtain rfl : h = 3 := Fin.ext (by show h.val = 3; omega)
    rw [lg_ld 0 3 (o1 t).2.2.2, lg_ld 1 3 (o2 t).2.2.2]
    rfl
  · obtain rfl : h = 2 := Fin.ext (by show h.val = 2; omega)
    rw [lg_ld 0 2 (o1 t).2.2.1, lg_ld 1 2 (o2 t).2.2.1]
    rfl
  · obtain rfl : h = 1 := Fin.ext (by show h.val = 1; omega)
    rw [lg_ld 0 1 (o1 t).2.1, lg_ld 1 1 (o2 t).2.1]
    rfl
  · obtain rfl : h = 0 := Fin.ext (by show h.val = 0; omega)
    rw [lg_ld 0 0 (o1 t).1, lg_ld 1 0 (o2 t).1]
    rfl

/-- The first point: the convolution columns of the first output. -/
theorem convA (c : Dev nD) (t : Fin cfg0.N) (h0 : t.val % 16 = 0) (h : Fin 4) (r : Fin 256) (e : Fin 128) :
    (outsAt0 m c t.val t.isLt).1 (ix2 r ⟨256 * h.val + (128 + e.val), by omega⟩)
      = convPay (cs (iblk m c 6 t) h) (cs (iblk m c 7 t) h) (cs (iblk m c 5 t) h) (c3 (iblk m c 9 t) h) (ix2 r e) := by
  have e5 := ld_cs (iblk m c 5 t) h
  have e6 := ld_cs (iblk m c 6 t) h
  have e7 := ld_cs (iblk m c 7 t) h
  have e9 := ld_c3 (iblk m c 9 t) h
  rw [outsAt0_A m c t h0]
  frame_out
  canon_tiles x h
  all_goals
    idx_vars x
    first
    | (exfalso; omega)
    | skip
  all_goals
    rw [e5 _ _ (by omega), e6 _ _ (by omega), e7 _ _ (by omega), e9 _ _ (by omega)]
    obtain rfl : r = x0 := Fin.ext h0
    obtain rfl : e = x1 := Fin.ext (by omega)
    rfl

/-- The first point: the forward state. -/
theorem sfA (c : Dev nD) (t : Fin cfg0.N) (h0 : t.val % 16 = 0) (h : Fin 4) (d e : Fin 128) :
    (outsAt0 m c t.val t.isLt).2.1 (ix5 0 0 h d e)
      = sfPay (cs (iblk m c 2 t) h) (cs (iblk m c 3 t) h) (iblk m c 0 t (ix2 0 h)) (ix5 0 0 0 d e) := by
  have e2 := ld_cs (iblk m c 2 t) h
  have e3 := ld_cs (iblk m c 3 t) h
  rw [outsAt0_A m c t h0]
  frame_out
  canon_tiles x h
  all_goals
    idx_vars x
    rw [e2 _ _ (by omega), e3 _ _ (by omega)]
    obtain rfl : d = x3 := Fin.ext h3
    obtain rfl : e = x4 := Fin.ext h4
    obtain rfl : x0 = 0 := Subsingleton.elim _ _
    obtain rfl : x1 = 0 := Subsingleton.elim _ _
    obtain rfl : x2 = 0 := Subsingleton.elim _ _
  · obtain rfl : h = 3 := Fin.ext (by show h.val = 3; omega)
    rw [lg_ld 0 3 (o3 t).2.2.2]
    rfl
  · obtain rfl : h = 2 := Fin.ext (by show h.val = 2; omega)
    rw [lg_ld 0 2 (o3 t).2.2.1]
    rfl
  · obtain rfl : h = 1 := Fin.ext (by show h.val = 1; omega)
    rw [lg_ld 0 1 (o3 t).2.1]
    rfl
  · obtain rfl : h = 0 := Fin.ext (by show h.val = 0; omega)
    rw [lg_ld 0 0 (o3 t).1]
    rfl

/-- The first point: the backward state. -/
theorem sbA (c : Dev nD) (t : Fin cfg0.N) (h0 : t.val % 16 = 0) (h : Fin 4) (d e : Fin 128) :
    (outsAt0 m c t.val t.isLt).2.2.1 (ix5 0 0 h d e)
      = sbPay (cs (iblk m c 2 t) h) (cs (iblk m c 3 t) h) (iblk m c 0 t (ix2 1 h)) (ix5 0 0 0 d e) := by
  have e2 := ld_cs (iblk m c 2 t) h
  have e3 := ld_cs (iblk m c 3 t) h
  rw [outsAt0_A m c t h0]
  frame_out
  canon_tiles x h
  all_goals
    idx_vars x
    rw [e2 _ _ (by omega), e3 _ _ (by omega)]
    obtain rfl : d = x3 := Fin.ext h3
    obtain rfl : e = x4 := Fin.ext h4
    obtain rfl : x0 = 0 := Subsingleton.elim _ _
    obtain rfl : x1 = 0 := Subsingleton.elim _ _
    obtain rfl : x2 = 0 := Subsingleton.elim _ _
  · obtain rfl : h = 3 := Fin.ext (by show h.val = 3; omega)
    rw [lg_ld 1 3 (o4 t).2.2.2]
    rfl
  · obtain rfl : h = 2 := Fin.ext (by show h.val = 2; omega)
    rw [lg_ld 1 2 (o4 t).2.2.1]
    rfl
  · obtain rfl : h = 1 := Fin.ext (by show h.val = 1; omega)
    rw [lg_ld 1 1 (o4 t).2.1]
    rfl
  · obtain rfl : h = 0 := Fin.ext (by show h.val = 0; omega)
    rw [lg_ld 1 0 (o4 t).1]
    rfl

/-- Every other point: the retention columns of the first output. -/
theorem retB (c : Dev nD) (t : Fin cfg0.N) (h0 : ¬t.val % 16 = 0) (h : Fin 4) (r : Fin 256) (e : Fin 128) :
    (outsAt0 m c t.val t.isLt).1 (ix2 r ⟨256 * h.val + e.val, by omega⟩)
      = retPay (cs (iblk m c 1 t) h) (cs (iblk m c 2 t) h) (cs (iblk m c 3 t) h) (cs (iblk m c 4 t) h) (dsl (outsAt0 m c (t.val - 1) (by omega)).2.2.2 h)
        (c1 (iblk m c 8 t) h) (ix2 r e) := by
  have e1 := ld_cs (iblk m c 1 t) h
  have e2 := ld_cs (iblk m c 2 t) h
  have e3 := ld_cs (iblk m c 3 t) h
  have e4 := ld_cs (iblk m c 4 t) h
  have e8 := ld_c1 (iblk m c 8 t) h
  rw [outsAt0_B m c t h0]
  frame_out
  canon_tiles x h
  all_goals
    idx_vars x
    first
    | (exfalso; omega)
    | skip
  all_goals
    rw [e1 _ _ (by omega), e2 _ _ (by omega), e3 _ _ (by omega), e4 _ _ (by omega), e8 _ _ (by omega)]
    obtain rfl : r = x0 := Fin.ext h0
    obtain rfl : e = x1 := Fin.ext (by omega)
    simp only [read_unread_whole]
    rw [ld_dsl _ h _ _ (by omega)]
    rfl

/-- Every other point: the convolution columns of the first output. -/
theorem convB (c : Dev nD) (t : Fin cfg0.N) (h0 : ¬t.val % 16 = 0) (h : Fin 4) (r : Fin 256) (e : Fin 128) :
    (outsAt0 m c t.val t.isLt).1 (ix2 r ⟨256 * h.val + (128 + e.val), by omega⟩)
      = convPay (cs (iblk m c 6 t) h) (cs (iblk m c 7 t) h) (cs (iblk m c 5 t) h) (c3 (iblk m c 9 t) h) (ix2 r e) := by
  have e5 := ld_cs (iblk m c 5 t) h
  have e6 := ld_cs (iblk m c 6 t) h
  have e7 := ld_cs (iblk m c 7 t) h
  have e9 := ld_c3 (iblk m c 9 t) h
  rw [outsAt0_B m c t h0]
  frame_out
  canon_tiles x h
  all_goals
    idx_vars x
    first
    | (exfalso; omega)
    | skip
  all_goals
    rw [e5 _ _ (by omega), e6 _ _ (by omega), e7 _ _ (by omega), e9 _ _ (by omega)]
    obtain rfl : r = x0 := Fin.ext h0
    obtain rfl : e = x1 := Fin.ext (by omega)
    rfl

/-- Every other point: the forward state. -/
theorem sfB (c : Dev nD) (t : Fin cfg0.N) (h0 : ¬t.val % 16 = 0) (h : Fin 4) (d e : Fin 128) :
    (outsAt0 m c t.val t.isLt).2.1 (ix5 0 0 h d e)
      = sfPay (cs (iblk m c 2 t) h) (cs (iblk m c 3 t) h) (iblk m c 0 t (ix2 0 h)) (ix5 0 0 0 d e) := by
  have e2 := ld_cs (iblk m c 2 t) h
  have e3 := ld_cs (iblk m c 3 t) h
  rw [outsAt0_B m c t h0]
  frame_out
  canon_tiles x h
  all_goals
    idx_vars x
    rw [e2 _ _ (by omega), e3 _ _ (by omega)]
    obtain rfl : d = x3 := Fin.ext h3
    obtain rfl : e = x4 := Fin.ext h4
    obtain rfl : x0 = 0 := Subsingleton.elim _ _
    obtain rfl : x1 = 0 := Subsingleton.elim _ _
    obtain rfl : x2 = 0 := Subsingleton.elim _ _
  · obtain rfl : h = 3 := Fin.ext (by show h.val = 3; omega)
    rw [lg_ld 0 3 (o3 t).2.2.2]
    rfl
  · obtain rfl : h = 2 := Fin.ext (by show h.val = 2; omega)
    rw [lg_ld 0 2 (o3 t).2.2.1]
    rfl
  · obtain rfl : h = 1 := Fin.ext (by show h.val = 1; omega)
    rw [lg_ld 0 1 (o3 t).2.1]
    rfl
  · obtain rfl : h = 0 := Fin.ext (by show h.val = 0; omega)
    rw [lg_ld 0 0 (o3 t).1]
    rfl

/-- Every other point: the backward state. -/
theorem sbB (c : Dev nD) (t : Fin cfg0.N) (h0 : ¬t.val % 16 = 0) (h : Fin 4) (d e : Fin 128) :
    (outsAt0 m c t.val t.isLt).2.2.1 (ix5 0 0 h d e)
      = sbPay (cs (iblk m c 2 t) h) (cs (iblk m c 3 t) h) (iblk m c 0 t (ix2 1 h)) (ix5 0 0 0 d e) := by
  have e2 := ld_cs (iblk m c 2 t) h
  have e3 := ld_cs (iblk m c 3 t) h
  rw [outsAt0_B m c t h0]
  frame_out
  canon_tiles x h
  all_goals
    idx_vars x
    rw [e2 _ _ (by omega), e3 _ _ (by omega)]
    obtain rfl : d = x3 := Fin.ext h3
    obtain rfl : e = x4 := Fin.ext h4
    obtain rfl : x0 = 0 := Subsingleton.elim _ _
    obtain rfl : x1 = 0 := Subsingleton.elim _ _
    obtain rfl : x2 = 0 := Subsingleton.elim _ _
  · obtain rfl : h = 3 := Fin.ext (by show h.val = 3; omega)
    rw [lg_ld 1 3 (o4 t).2.2.2]
    rfl
  · obtain rfl : h = 2 := Fin.ext (by show h.val = 2; omega)
    rw [lg_ld 1 2 (o4 t).2.2.1]
    rfl
  · obtain rfl : h = 1 := Fin.ext (by show h.val = 1; omega)
    rw [lg_ld 1 1 (o4 t).2.1]
    rfl
  · obtain rfl : h = 0 := Fin.ext (by show h.val = 0; omega)
    rw [lg_ld 1 0 (o4 t).1]
    rfl

end Cert.Kernel4Ideal.Ret
-- ==== Proof.RetChunk.lean ====
module

public import proofs.«01_k».proof.Proof.Gen.Reference4Ideal.Read
public import Idealize.ShloMosaic.Lib.Pointwise
public import proofs.«01_k».proof.Proof.RetSpec

@[expose] public section

set_option maxRecDepth 16384

noncomputable section

open Idealize.ShloMosaic Idealize.ShloMosaic.TcCoe Idealize.SL.Sem

namespace Cert.Reference4Ideal.Ret

open Cert.RetMath Cert.RetSpec Cert.AttnMath Cert.Reference4Ideal Cert.Reference4Ideal.Gen Cert.Reference4Ideal.Read

/-- The decay inside a chunk, from every position to every position before it. -/
def maskArr (lg : FVec Ideal S4 .f32) : FVec Ideal S4x64x64 .f32 :=
  select (val_main_call1_v1 (F := Ideal)) (Host.exp (mulf (broadcastInDim S4x64x64 ![0, 1, 2] bcast_S4x1x1_S4x64x64_0_1_2
    (broadcastInDim S4x1x1 ![0] bcast_S4_S4x1x1_0 lg)) (val_main_v33 (F := Ideal)))) (val_main_call1_v2 (F := Ideal))

/-- The decay from the chunk's start to each position. -/
def qdArr (lg : FVec Ideal S4 .f32) : FVec Ideal S64x4 .f32 :=
  Host.exp (mulf (broadcastInDim S64x4 ![0, 1] bcast_S1x4_S64x4_0_1 (broadcastInDim S1x4 ![1] bcast_S4_S1x4_1 lg)) (val_main_v42 (F := Ideal)))

/-- The decay from each position to the chunk's end. -/
def kdArr (lg : FVec Ideal S4 .f32) : FVec Ideal S64x4 .f32 :=
  Host.exp (mulf (broadcastInDim S64x4 ![0, 1] bcast_S1x4_S64x4_0_1 (broadcastInDim S1x4 ![1] bcast_S4_S1x4_1 lg)) (val_main_v50 (F := Ideal)))

/-- The decay over a chunk. -/
def cdArr (lg : FVec Ideal S4 .f32) : FVec Ideal S4 .f32 := Host.exp (mulf lg (val_main_v53 (F := Ideal)))

/-- The state after a chunk, from the state before it and the chunk's keys and values. -/
def stepArr (S : FVec Ideal S16x4x128x128 .f32) (K V : FVec Ideal S16x64x4x128 .f32) (lg : FVec Ideal S4 .f32) : FVec Ideal S16x4x128x128 .f32 :=
  addf (mulf S (broadcastInDim S16x4x128x128 ![0, 1, 2, 3] bcast_S1x4x1x1_S16x4x128x128_0_1_2_3 (broadcastInDim S1x4x1x1 ![1] bcast_S4_S1x4x1x1_1 (cdArr lg))))
    (Host.dotGeneral dot_S16x64x4x128_S16x64x4x128_S16x4x128x128_1_1_3_3_02_02 none
      (mulf K (broadcastInDim S16x64x4x128 ![0, 1, 2, 3] bcast_S1x64x4x1_S16x64x4x128_0_1_2_3 (broadcastInDim S1x64x4x1 ![1, 2] bcast_S64x4_S1x64x4x1_1_2 (kdArr lg)))) V)

/-- A chunk's output, from the state before it and the chunk's queries, keys and values. -/
def outArr (S : FVec Ideal S16x4x128x128 .f32) (Q K V : FVec Ideal S16x64x4x128 .f32) (lg : FVec Ideal S4 .f32) : FVec Ideal S16x64x4x128 .f32 :=
  addf
    (transpose S16x64x4x128 [0, 3, 1, 2] (Host.dotGeneral dot_S16x64x4x128_S16x4x64x64_S16x4x128x64_1_3_3_2_02_01 none V
      (mulf (Host.dotGeneral dot_S16x64x4x128_S16x64x4x128_S16x4x64x64_3_3_1_1_02_02 none Q K)
        (broadcastInDim S16x4x64x64 ![0, 1, 2, 3] bcast_S1x4x64x64_S16x4x64x64_0_1_2_3 (broadcastInDim S1x4x64x64 ![1, 2, 3] bcast_S4x64x64_S1x4x64x64_1_2_3 (maskArr lg)))))
      transposes_S16x4x128x64_S16x64x4x128_0_3_1_2)
    (transpose S16x64x4x128 [0, 3, 1, 2] (Host.dotGeneral dot_S16x4x128x128_S16x64x4x128_S16x4x128x64_2_3_3_1_01_02 none S
      (mulf Q (broadcastInDim S16x64x4x128 ![0, 1, 2, 3] bcast_S1x64x4x1_S16x64x4x128_0_1_2_3 (broadcastInDim S1x64x4x1 ![1, 2] bcast_S64x4_S1x64x4x1_1_2 (qdArr lg)))))
      transposes_S16x4x128x64_S16x64x4x128_0_3_1_2)

/-- The position's number as a float. -/
theorem v20_at (i : Fin 64) : val_main_v20 (F := Ideal) (ix1 i) = ((i.val : ℝ) : EReal) := by
  pointwise [val_main_v20, val_main_v19]
  have e : (BitVec.ofNat 32 i.val).toInt = (i.val : ℤ) := by revert i; decide
  show (((BitVec.ofNat 32 i.val).toInt : ℝ) : EReal) = _
  rw [e, Int.cast_natCast]

/-- Which positions a chunk's decay reaches: those not after it. -/
theorem v27_at (i m : Fin 64) : val_main_v27 (F := Ideal) (ix2 i m) = if m.val ≤ i.val then 1#1 else 0#1 := by
  pointwise [val_main_v27, val_main_v26, val_main_v25, val_main_v24, val_main_v23, val_main_v22, val_main_v21, val_main_cst_0]
  simp only [v20_at]
  have e : ((0 : EReal) ≤ ((i.val : ℝ) : EReal) - ((m.val : ℝ) : EReal)) ↔ m.val ≤ i.val := by
    rw [← EReal.coe_sub, ← EReal.coe_zero, EReal.coe_le_coe_iff, sub_nonneg, Nat.cast_le]
  by_cases hm : m.val ≤ i.val
  · rw [decide_eq_true (e.2 hm), if_pos hm]; rfl
  · rw [decide_eq_false (fun x => hm (e.1 x)), if_neg hm]; rfl

variable (lg : FVec Ideal S4 .f32) (h : Fin 4) (hl : lg (ix1 h) ≠ ⊤)
include hl

/-- The decay from the chunk's start is a power of the factor. -/
theorem qd_at (i : Fin 64) : qdArr lg (ix2 i h) = ((gam (lg (ix1 h)) ^ (i.val + 1) : ℝ) : EReal) := by
  pointwise [qdArr, val_main_v42, val_main_v40, val_main_v39, val_main_v38, val_main_cst_3]
  rw [v20_at]
  have e : ((i.val : ℝ) : EReal) + 1 = (((i.val + 1 : ℕ) : ℝ) : EReal) := by rw [Nat.cast_add, Nat.cast_one, EReal.coe_add, EReal.coe_one]
  rw [e, exp_pow _ hl]

/-- The decay to the chunk's end is a power of the factor. -/
theorem kd_at (i : Fin 64) : kdArr lg (ix2 i h) = ((gam (lg (ix1 h)) ^ (63 - i.val) : ℝ) : EReal) := by
  pointwise [kdArr, val_main_v50, val_main_v48, val_main_v47, val_main_v46, val_main_cst_4]
  rw [v20_at]
  have c : Ideal.ofBits FTy.f32 (1115422720#32) = ((63 : ℝ) : EReal) := by
    simp [Ideal.ofBits, Ideal.ieee, -EReal.coe_mul]; norm_num
  have e : ((63 : ℝ) : EReal) - ((i.val : ℝ) : EReal) = (((63 - i.val : ℕ) : ℝ) : EReal) := by
    rw [← EReal.coe_sub, Nat.cast_sub (by have := i.isLt; omega)]; norm_num
  rw [c, e, exp_pow _ hl]

/-- The decay over a chunk is the factor's 64th power. -/
theorem cd_at : cdArr lg (ix1 h) = ((gam (lg (ix1 h)) ^ 64 : ℝ) : EReal) := by
  pointwise [cdArr, val_main_v53, val_main_cst_5]
  have c : Ideal.ofBits FTy.f32 (1115684864#32) = (((64 : ℕ) : ℝ) : EReal) := by
    simp [Ideal.ofBits, Ideal.ieee, -EReal.coe_mul]; norm_num
  rw [c, exp_pow _ hl]

/-- The decay inside a chunk is a power of the factor, and nothing after the position. -/
theorem mask_at (i m : Fin 64) : maskArr lg (ix3 h i m) = (((if m.val ≤ i.val then gam (lg (ix1 h)) ^ (i.val - m.val) else 0) : ℝ) : EReal) := by
  pointwise [maskArr, val_main_call1_v1, val_main_call1_v2, val_main_call1_v0, val_main_cst_2, val_main_v33, val_main_v31, val_main_v30, val_main_v29, val_main_cst_1, val_main_v25, val_main_v24, val_main_v23, val_main_v22, val_main_v21]
  rw [v27_at, v20_at, v20_at]
  by_cases hm : m.val ≤ i.val
  · have e : max (((i.val : ℝ) : EReal) - ((m.val : ℝ) : EReal)) 0 = (((i.val - m.val : ℕ) : ℝ) : EReal) := by
      rw [← EReal.coe_sub, Nat.cast_sub hm, max_eq_left]
      rw [← EReal.coe_zero, EReal.coe_le_coe_iff, sub_nonneg, Nat.cast_le]; exact hm
    rw [if_pos hm, if_pos hm, e, exp_pow _ hl]; rfl
  · rw [if_neg hm, if_neg hm]
    show Ideal.ofBits FTy.f32 (0#32) = _
    simp [Ideal.ofBits, Ideal.ieee, -EReal.coe_mul]

/-- One entry of the state after a chunk. -/
theorem step_at (S : FVec Ideal S16x4x128x128 .f32) (K V : FVec Ideal S16x64x4x128 .f32) (b : Fin 16) (d e : Fin 128) :
    stepArr S K V lg (ix4 b h d e) = S (ix4 b h d e) * ((gam (lg (ix1 h)) ^ 64 : ℝ) : EReal)
      + ∑ m : Fin 64, K (ix4 b m h d) * ((gam (lg (ix1 h)) ^ (63 - m.val) : ℝ) : EReal) * V (ix4 b m h e) := by
  have h1 : ∀ (C : FVec Ideal S4 .f32) (D : FVec Ideal S64x4 .f32), addf (mulf S (broadcastInDim S16x4x128x128 ![0, 1, 2, 3] bcast_S1x4x1x1_S16x4x128x128_0_1_2_3 (broadcastInDim S1x4x1x1 ![1] bcast_S4_S1x4x1x1_1 C)))
    (Host.dotGeneral dot_S16x64x4x128_S16x64x4x128_S16x4x128x128_1_1_3_3_02_02 none
      (mulf K (broadcastInDim S16x64x4x128 ![0, 1, 2, 3] bcast_S1x64x4x1_S16x64x4x128_0_1_2_3 (broadcastInDim S1x64x4x1 ![1, 2] bcast_S64x4_S1x64x4x1_1_2 D))) V) (ix4 b h d e)
      = S (ix4 b h d e) * C (ix1 h) + ∑ m : Fin 64, K (ix4 b m h d) * D (ix2 m h) * V (ix4 b m h e) := by
    intro C D
    pointwise
  refine (h1 _ _).trans ?_
  simp only [cd_at lg h hl, kd_at lg h hl]

/-- One entry of a chunk's output. -/
theorem out_at (S : FVec Ideal S16x4x128x128 .f32) (Q K V : FVec Ideal S16x64x4x128 .f32) (b : Fin 16) (i : Fin 64) (e : Fin 128) :
    outArr S Q K V lg (ix4 b i h e)
      = ∑ m : Fin 64, V (ix4 b m h e) * ((∑ d, Q (ix4 b i h d) * K (ix4 b m h d))
          * (((if m.val ≤ i.val then gam (lg (ix1 h)) ^ (i.val - m.val) else 0) : ℝ) : EReal))
        + ∑ d, S (ix4 b h d e) * (Q (ix4 b i h d) * ((gam (lg (ix1 h)) ^ (i.val + 1) : ℝ) : EReal)) := by
  unfold outArr
  have h1 : ∀ (C : FVec Ideal S4x64x64 .f32) (D : FVec Ideal S64x4 .f32), addf
    (transpose S16x64x4x128 [0, 3, 1, 2] (Host.dotGeneral dot_S16x64x4x128_S16x4x64x64_S16x4x128x64_1_3_3_2_02_01 none V
      (mulf (Host.dotGeneral dot_S16x64x4x128_S16x64x4x128_S16x4x64x64_3_3_1_1_02_02 none Q K)
        (broadcastInDim S16x4x64x64 ![0, 1, 2, 3] bcast_S1x4x64x64_S16x4x64x64_0_1_2_3 (broadcastInDim S1x4x64x64 ![1, 2, 3] bcast_S4x64x64_S1x4x64x64_1_2_3 C))))
      transposes_S16x4x128x64_S16x64x4x128_0_3_1_2)
    (transpose S16x64x4x128 [0, 3, 1, 2] (Host.dotGeneral dot_S16x4x128x128_S16x64x4x128_S16x4x128x64_2_3_3_1_01_02 none S
      (mulf Q (broadcastInDim S16x64x4x128 ![0, 1, 2, 3] bcast_S1x64x4x1_S16x64x4x128_0_1_2_3 (broadcastInDim S1x64x4x1 ![1, 2] bcast_S64x4_S1x64x4x1_1_2 D))))
      transposes_S16x4x128x64_S16x64x4x128_0_3_1_2) (ix4 b i h e)
      = ∑ m : Fin 64, V (ix4 b m h e) * ((∑ d, Q (ix4 b i h d) * K (ix4 b m h d)) * C (ix3 h i m))
        + ∑ d, S (ix4 b h d e) * (Q (ix4 b i h d) * D (ix2 i h)) := by
    intro C D
    pointwise
  refine (h1 _ _).trans ?_
  simp only [mask_at lg h hl, qd_at lg h hl]

end Cert.Reference4Ideal.Ret
-- ==== Proof.RetRef.lean ====
module

public import proofs.«01_k».proof.Proof.RetChunk

@[expose] public section

set_option maxRecDepth 16384

noncomputable section

open Idealize.ShloMosaic Idealize.ShloMosaic.TcCoe Idealize.SL.Sem

namespace Cert.Reference4Ideal.Ret

open Cert.RetMath Cert.RetSpec Cert.AttnMath Cert.Reference4Ideal Cert.Reference4Ideal.Gen Cert.Reference4Ideal.Read

/-- A chunk of 64 positions. -/
def sl (X : FVec Ideal S16x256x4x128 .f32) (c : Fin 4) : FVec Ideal S16x64x4x128 .f32 :=
  fun i => X (ix4 (i 0) ⟨64 * c.val + (i 1).val, by have := (i 1).isLt; change (i 1).val < 64 at this; omega⟩ (i 2) (i 3))

/-- The state after each chunk. -/
def stArr (K V : FVec Ideal S16x256x4x128 .f32) (lg : FVec Ideal S4 .f32) : ℕ → FVec Ideal S16x4x128x128 .f32
  | 0 => val_main_v56 (F := Ideal)
  | n + 1 => stepArr (stArr K V lg n) (sl K (Fin.ofNat 4 n)) (sl V (Fin.ofNat 4 n)) lg

/-- A chunk's output from the state before it. -/
def chArr (Q K V : FVec Ideal S16x256x4x128 .f32) (lg : FVec Ideal S4 .f32) (c : Fin 4) : FVec Ideal S16x64x4x128 .f32 :=
  outArr (stArr K V lg c.val) (sl Q c) (sl K c) (sl V c) lg

/-- The four chunks' outputs. -/
def retArr (Q K V : FVec Ideal S16x256x4x128 .f32) (lg : FVec Ideal S4 .f32) : FVec Ideal S16x256x4x128 .f32 :=
  concatenate S16x256x4x128 1 [⟨S16x64x4x128, chArr Q K V lg 0⟩, ⟨S16x64x4x128, chArr Q K V lg 1⟩, ⟨S16x64x4x128, chArr Q K V lg 2⟩,
    ⟨S16x64x4x128, chArr Q K V lg 3⟩] concatenates_S16x64x4x128_S16x64x4x128_S16x64x4x128_S16x64x4x128_S16x256x4x128_d1

/-- A slice of 64 positions from 0 is chunk 0. -/
theorem sl0 (X : FVec Ideal S16x256x4x128 .f32) : (extractStridedSlice S16x64x4x128 ![0, 0, 0, 0] X slices_S16x256x4x128_S16x64x4x128_0_0_0_0 : FVec Ideal S16x64x4x128 .f32) = sl X 0 := by
  funext i
  idx_vars i
  unfold sl
  pointwise

/-- A slice of 64 positions from 64 is chunk 1. -/
theorem sl1 (X : FVec Ideal S16x256x4x128 .f32) : (extractStridedSlice S16x64x4x128 ![0, 64, 0, 0] X slices_S16x256x4x128_S16x64x4x128_0_64_0_0 : FVec Ideal S16x64x4x128 .f32) = sl X 1 := by
  funext i
  idx_vars i
  unfold sl
  pointwise

/-- A slice of 64 positions from 128 is chunk 2. -/
theorem sl2 (X : FVec Ideal S16x256x4x128 .f32) : (extractStridedSlice S16x64x4x128 ![0, 128, 0, 0] X slices_S16x256x4x128_S16x64x4x128_0_128_0_0 : FVec Ideal S16x64x4x128 .f32) = sl X 2 := by
  funext i
  idx_vars i
  unfold sl
  pointwise

/-- A slice of 64 positions from 192 is chunk 3. -/
theorem sl3 (X : FVec Ideal S16x256x4x128 .f32) : (extractStridedSlice S16x64x4x128 ![0, 192, 0, 0] X slices_S16x256x4x128_S16x64x4x128_0_192_0_0 : FVec Ideal S16x64x4x128 .f32) = sl X 3 := by
  funext i
  idx_vars i
  unfold sl
  pointwise

variable (x0 : FVec Ideal S12288x3584 .bf16) (x1 : FVec Ideal S1x2x4 .f32) (x2 : FVec Ideal S1x512 .f32) (x3 : FVec Ideal S1x3x512 .f32)

/-- The forward state after 1 chunks. -/
theorem st_v78 : val_main_v78 (F := Ideal) x0 x1 = stArr (val_main_v13 (F := Ideal) x0) (val_main_v14 (F := Ideal) x0) (val_main_v18 (F := Ideal) x1) 1 := by
  rw [show stArr (val_main_v13 (F := Ideal) x0) (val_main_v14 (F := Ideal) x0) (val_main_v18 (F := Ideal) x1) 1 = stepArr (stArr (val_main_v13 (F := Ideal) x0) (val_main_v14 (F := Ideal) x0) (val_main_v18 (F := Ideal) x1) 0) (sl _ 0) (sl _ 0) _ from rfl, ← sl0, ← sl0]
  rfl

/-- The forward state after 2 chunks. -/
theorem st_v101 : val_main_v101 (F := Ideal) x0 x1 = stArr (val_main_v13 (F := Ideal) x0) (val_main_v14 (F := Ideal) x0) (val_main_v18 (F := Ideal) x1) 2 := by
  rw [show stArr (val_main_v13 (F := Ideal) x0) (val_main_v14 (F := Ideal) x0) (val_main_v18 (F := Ideal) x1) 2 = stepArr (stArr (val_main_v13 (F := Ideal) x0) (val_main_v14 (F := Ideal) x0) (val_main_v18 (F := Ideal) x1) 1) (sl _ 1) (sl _ 1) _ from rfl, ← sl1, ← sl1, ← st_v78]
  rfl

/-- The forward state after 3 chunks. -/
theorem st_v124 : val_main_v124 (F := Ideal) x0 x1 = stArr (val_main_v13 (F := Ideal) x0) (val_main_v14 (F := Ideal) x0) (val_main_v18 (F := Ideal) x1) 3 := by
  rw [show stArr (val_main_v13 (F := Ideal) x0) (val_main_v14 (F := Ideal) x0) (val_main_v18 (F := Ideal) x1) 3 = stepArr (stArr (val_main_v13 (F := Ideal) x0) (val_main_v14 (F := Ideal) x0) (val_main_v18 (F := Ideal) x1) 2) (sl _ 2) (sl _ 2) _ from rfl, ← sl2, ← sl2, ← st_v101]
  rfl

/-- The forward state after 4 chunks. -/
theorem st_v147 : val_main_v147 (F := Ideal) x0 x1 = stArr (val_main_v13 (F := Ideal) x0) (val_main_v14 (F := Ideal) x0) (val_main_v18 (F := Ideal) x1) 4 := by
  rw [show stArr (val_main_v13 (F := Ideal) x0) (val_main_v14 (F := Ideal) x0) (val_main_v18 (F := Ideal) x1) 4 = stepArr (stArr (val_main_v13 (F := Ideal) x0) (val_main_v14 (F := Ideal) x0) (val_main_v18 (F := Ideal) x1) 3) (sl _ 3) (sl _ 3) _ from rfl, ← sl3, ← sl3, ← st_v124]
  rfl

/-- The forward output of chunk 0. -/
theorem ch_v79 : val_main_v79 (F := Ideal) x0 x1 = chArr (val_main_v10 (F := Ideal) x0) (val_main_v13 (F := Ideal) x0) (val_main_v14 (F := Ideal) x0) (val_main_v18 (F := Ideal) x1) 0 := by
  rw [show chArr (val_main_v10 (F := Ideal) x0) (val_main_v13 (F := Ideal) x0) (val_main_v14 (F := Ideal) x0) (val_main_v18 (F := Ideal) x1) 0 = outArr (stArr (val_main_v13 (F := Ideal) x0) (val_main_v14 (F := Ideal) x0) (val_main_v18 (F := Ideal) x1) 0) (sl _ 0) (sl _ 0) (sl _ 0) _ from rfl, ← sl0, ← sl0, ← sl0]
  rfl

/-- The forward output of chunk 1. -/
theorem ch_v102 : val_main_v102 (F := Ideal) x0 x1 = chArr (val_main_v10 (F := Ideal) x0) (val_main_v13 (F := Ideal) x0) (val_main_v14 (F := Ideal) x0) (val_main_v18 (F := Ideal) x1) 1 := by
  rw [show chArr (val_main_v10 (F := Ideal) x0) (val_main_v13 (F := Ideal) x0) (val_main_v14 (F := Ideal) x0) (val_main_v18 (F := Ideal) x1) 1 = outArr (stArr (val_main_v13 (F := Ideal) x0) (val_main_v14 (F := Ideal) x0) (val_main_v18 (F := Ideal) x1) 1) (sl _ 1) (sl _ 1) (sl _ 1) _ from rfl, ← sl1, ← sl1, ← sl1, ← st_v78]
  rfl

/-- The forward output of chunk 2. -/
theorem ch_v125 : val_main_v125 (F := Ideal) x0 x1 = chArr (val_main_v10 (F := Ideal) x0) (val_main_v13 (F := Ideal) x0) (val_main_v14 (F := Ideal) x0) (val_main_v18 (F := Ideal) x1) 2 := by
  rw [show chArr (val_main_v10 (F := Ideal) x0) (val_main_v13 (F := Ideal) x0) (val_main_v14 (F := Ideal) x0) (val_main_v18 (F := Ideal) x1) 2 = outArr (stArr (val_main_v13 (F := Ideal) x0) (val_main_v14 (F := Ideal) x0) (val_main_v18 (F := Ideal) x1) 2) (sl _ 2) (sl _ 2) (sl _ 2) _ from rfl, ← sl2, ← sl2, ← sl2, ← st_v101]
  rfl

/-- The forward output of chunk 3. -/
theorem ch_v148 : val_main_v148 (F := Ideal) x0 x1 = chArr (val_main_v10 (F := Ideal) x0) (val_main_v13 (F := Ideal) x0) (val_main_v14 (F := Ideal) x0) (val_main_v18 (F := Ideal) x1) 3 := by
  rw [show chArr (val_main_v10 (F := Ideal) x0) (val_main_v13 (F := Ideal) x0) (val_main_v14 (F := Ideal) x0) (val_main_v18 (F := Ideal) x1) 3 = outArr (stArr (val_main_v13 (F := Ideal) x0) (val_main_v14 (F := Ideal) x0) (val_main_v18 (F := Ideal) x1) 3) (sl _ 3) (sl _ 3) (sl _ 3) _ from rfl, ← sl3, ← sl3, ← sl3, ← st_v124]
  rfl

/-- The forward output. -/
theorem all_v149 : val_main_v149 (F := Ideal) x0 x1 = retArr (val_main_v10 (F := Ideal) x0) (val_main_v13 (F := Ideal) x0) (val_main_v14 (F := Ideal) x0) (val_main_v18 (F := Ideal) x1) := by
  rw [retArr, ← ch_v79, ← ch_v102, ← ch_v125, ← ch_v148]
  rfl

/-- The backward state after 1 chunks. -/
theorem st_v214 : val_main_v214 (F := Ideal) x0 x1 = stArr (val_main_v151 (F := Ideal) x0) (val_main_v152 (F := Ideal) x0) (val_main_v154 (F := Ideal) x1) 1 := by
  rw [show stArr (val_main_v151 (F := Ideal) x0) (val_main_v152 (F := Ideal) x0) (val_main_v154 (F := Ideal) x1) 1 = stepArr (stArr (val_main_v151 (F := Ideal) x0) (val_main_v152 (F := Ideal) x0) (val_main_v154 (F := Ideal) x1) 0) (sl _ 0) (sl _ 0) _ from rfl, ← sl0, ← sl0]
  rfl

/-- The backward state after 2 chunks. -/
theorem st_v237 : val_main_v237 (F := Ideal) x0 x1 = stArr (val_main_v151 (F := Ideal) x0) (val_main_v152 (F := Ideal) x0) (val_main_v154 (F := Ideal) x1) 2 := by
  rw [show stArr (val_main_v151 (F := Ideal) x0) (val_main_v152 (F := Ideal) x0) (val_main_v154 (F := Ideal) x1) 2 = stepArr (stArr (val_main_v151 (F := Ideal) x0) (val_main_v152 (F := Ideal) x0) (val_main_v154 (F := Ideal) x1) 1) (sl _ 1) (sl _ 1) _ from rfl, ← sl1, ← sl1, ← st_v214]
  rfl

/-- The backward state after 3 chunks. -/
theorem st_v260 : val_main_v260 (F := Ideal) x0 x1 = stArr (val_main_v151 (F := Ideal) x0) (val_main_v152 (F := Ideal) x0) (val_main_v154 (F := Ideal) x1) 3 := by
  rw [show stArr (val_main_v151 (F := Ideal) x0) (val_main_v152 (F := Ideal) x0) (val_main_v154 (F := Ideal) x1) 3 = stepArr (stArr (val_main_v151 (F := Ideal) x0) (val_main_v152 (F := Ideal) x0) (val_main_v154 (F := Ideal) x1) 2) (sl _ 2) (sl _ 2) _ from rfl, ← sl2, ← sl2, ← st_v237]
  rfl

/-- The backward state after 4 chunks. -/
theorem st_v283 : val_main_v283 (F := Ideal) x0 x1 = stArr (val_main_v151 (F := Ideal) x0) (val_main_v152 (F := Ideal) x0) (val_main_v154 (F := Ideal) x1) 4 := by
  rw [show stArr (val_main_v151 (F := Ideal) x0) (val_main_v152 (F := Ideal) x0) (val_main_v154 (F := Ideal) x1) 4 = stepArr (stArr (val_main_v151 (F := Ideal) x0) (val_main_v152 (F := Ideal) x0) (val_main_v154 (F := Ideal) x1) 3) (sl _ 3) (sl _ 3) _ from rfl, ← sl3, ← sl3, ← st_v260]
  rfl

/-- The backward output of chunk 0. -/
theorem ch_v215 : val_main_v215 (F := Ideal) x0 x1 = chArr (val_main_v150 (F := Ideal) x0) (val_main_v151 (F := Ideal) x0) (val_main_v152 (F := Ideal) x0) (val_main_v154 (F := Ideal) x1) 0 := by
  rw [show chArr (val_main_v150 (F := Ideal) x0) (val_main_v151 (F := Ideal) x0) (val_main_v152 (F := Ideal) x0) (val_main_v154 (F := Ideal) x1) 0 = outArr (stArr (val_main_v151 (F := Ideal) x0) (val_main_v152 (F := Ideal) x0) (val_main_v154 (F := Ideal) x1) 0) (sl _ 0) (sl _ 0) (sl _ 0) _ from rfl, ← sl0, ← sl0, ← sl0]
  rfl

/-- The backward output of chunk 1. -/
theorem ch_v238 : val_main_v238 (F := Ideal) x0 x1 = chArr (val_main_v150 (F := Ideal) x0) (val_main_v151 (F := Ideal) x0) (val_main_v152 (F := Ideal) x0) (val_main_v154 (F := Ideal) x1) 1 := by
  rw [show chArr (val_main_v150 (F := Ideal) x0) (val_main_v151 (F := Ideal) x0) (val_main_v152 (F := Ideal) x0) (val_main_v154 (F := Ideal) x1) 1 = outArr (stArr (val_main_v151 (F := Ideal) x0) (val_main_v152 (F := Ideal) x0) (val_main_v154 (F := Ideal) x1) 1) (sl _ 1) (sl _ 1) (sl _ 1) _ from rfl, ← sl1, ← sl1, ← sl1, ← st_v214]
  rfl

/-- The backward output of chunk 2. -/
theorem ch_v261 : val_main_v261 (F := Ideal) x0 x1 = chArr (val_main_v150 (F := Ideal) x0) (val_main_v151 (F := Ideal) x0) (val_main_v152 (F := Ideal) x0) (val_main_v154 (F := Ideal) x1) 2 := by
  rw [show chArr (val_main_v150 (F := Ideal) x0) (val_main_v151 (F := Ideal) x0) (val_main_v152 (F := Ideal) x0) (val_main_v154 (F := Ideal) x1) 2 = outArr (stArr (val_main_v151 (F := Ideal) x0) (val_main_v152 (F := Ideal) x0) (val_main_v154 (F := Ideal) x1) 2) (sl _ 2) (sl _ 2) (sl _ 2) _ from rfl, ← sl2, ← sl2, ← sl2, ← st_v237]
  rfl

/-- The backward output of chunk 3. -/
theorem ch_v284 : val_main_v284 (F := Ideal) x0 x1 = chArr (val_main_v150 (F := Ideal) x0) (val_main_v151 (F := Ideal) x0) (val_main_v152 (F := Ideal) x0) (val_main_v154 (F := Ideal) x1) 3 := by
  rw [show chArr (val_main_v150 (F := Ideal) x0) (val_main_v151 (F := Ideal) x0) (val_main_v152 (F := Ideal) x0) (val_main_v154 (F := Ideal) x1) 3 = outArr (stArr (val_main_v151 (F := Ideal) x0) (val_main_v152 (F := Ideal) x0) (val_main_v154 (F := Ideal) x1) 3) (sl _ 3) (sl _ 3) (sl _ 3) _ from rfl, ← sl3, ← sl3, ← sl3, ← st_v260]
  rfl

/-- The backward output. -/
theorem all_v285 : val_main_v285 (F := Ideal) x0 x1 = retArr (val_main_v150 (F := Ideal) x0) (val_main_v151 (F := Ideal) x0) (val_main_v152 (F := Ideal) x0) (val_main_v154 (F := Ideal) x1) := by
  rw [retArr, ← ch_v215, ← ch_v238, ← ch_v261, ← ch_v284]
  rfl

/-- Four joined chunks, read at a position. -/
theorem cat_at (A B C D : FVec Ideal S16x64x4x128 .f32) (b : Fin 16) (h : Fin 4) (e : Fin 128) (f : ℕ → EReal)
    (hA : ∀ i : Fin 64, A (ix4 b i h e) = f (64 * 0 + i.val)) (hB : ∀ i : Fin 64, B (ix4 b i h e) = f (64 * 1 + i.val))
    (hC : ∀ i : Fin 64, C (ix4 b i h e) = f (64 * 2 + i.val)) (hD : ∀ i : Fin 64, D (ix4 b i h e) = f (64 * 3 + i.val)) (L : Fin 256) :
    (concatenate S16x256x4x128 1 [⟨S16x64x4x128, A⟩, ⟨S16x64x4x128, B⟩, ⟨S16x64x4x128, C⟩, ⟨S16x64x4x128, D⟩]
      concatenates_S16x64x4x128_S16x64x4x128_S16x64x4x128_S16x64x4x128_S16x256x4x128_d1 : FVec Ideal S16x256x4x128 .f32) (ix4 b L h e) = f L.val := by
  pointwise
  split_ifs
  all_goals first
    | exact (hA _).trans (congrArg f (by simp only []; omega))
    | exact (hB _).trans (congrArg f (by simp only []; omega))
    | exact (hC _).trans (congrArg f (by simp only []; omega))
    | exact (hD _).trans (congrArg f (by simp only []; omega))

section Chain

variable (Q K V : FVec Ideal S16x256x4x128 .f32) (lg : FVec Ideal S4 .f32) (b : Fin 16) (h : Fin 4) (hl : lg (ix1 h) ≠ ⊤) (q k v : ℕ → Fin 128 → ℝ)
  (hQ : ∀ (L : Fin 256) (d : Fin 128), Q (ix4 b L h d) = ((q L.val d : ℝ) : EReal)) (hK : ∀ (L : Fin 256) (d : Fin 128), K (ix4 b L h d) = ((k L.val d : ℝ) : EReal))
  (hV : ∀ (L : Fin 256) (d : Fin 128), V (ix4 b L h d) = ((v L.val d : ℝ) : EReal))

/-- A chunk of real entries. -/
theorem sl_real (X : FVec Ideal S16x256x4x128 .f32) (x : ℕ → Fin 128 → ℝ) (hX : ∀ (L : Fin 256) (d : Fin 128), X (ix4 b L h d) = ((x L.val d : ℝ) : EReal))
    (c : Fin 4) (n : ℕ) (hn : n = c.val) (i : Fin 64) (d : Fin 128) : sl X c (ix4 b i h d) = ((x (64 * n + i.val) d : ℝ) : EReal) := by
  subst hn
  exact hX ⟨64 * c.val + i.val, by omega⟩ d

include hl hK hV in
/-- The state after `n` chunks is the real recurrence's. -/
theorem stArr_at (d e : Fin 128) (n : ℕ) (hn : n ≤ 4) :
    stArr K V lg n (ix4 b h d e) = ((st (gam (lg (ix1 h))) (fun m => k m d) (fun m => v m e) n : ℝ) : EReal) := by
  induction n with
  | zero =>
    show val_main_v56 (F := Ideal) (ix4 b h d e) = ((0 : ℝ) : EReal)
    pointwise [val_main_v56, val_main_cst_6]
    exact EReal.coe_zero.symm
  | succ n ih =>
    have hc : n = (Fin.ofNat 4 n).val := (Nat.mod_eq_of_lt (by omega)).symm
    rw [stArr, step_at lg h hl, ih (by omega), st, EReal.coe_add, EReal.coe_mul,
      sum_real _ (fun m => k (64 * n + m) d * gam (lg (ix1 h)) ^ (63 - m) * v (64 * n + m) e) fun m => by
        rw [sl_real b h K k hK _ n hc, sl_real b h V v hV _ n hc, ← EReal.coe_mul, ← EReal.coe_mul]]

include hl hQ hK hV in
/-- A chunk's output is the real recurrence's: the decayed sum over the positions up to it. -/
theorem chArr_at (c : Fin 4) (i : Fin 64) (e : Fin 128) :
    chArr Q K V lg c (ix4 b i h e) = ((∑ n ∈ Finset.range (64 * c.val + i.val + 1),
      (∑ d, q (64 * c.val + i.val) d * k n d) * gam (lg (ix1 h)) ^ (64 * c.val + i.val - n) * v n e : ℝ) : EReal) := by
  rw [← out_eq (gam (lg (ix1 h))) (q (64 * c.val + i.val)) k (fun n => v n e) c.val i.val i.isLt, chArr, out_at lg h hl, out, EReal.coe_add,
    sum_real _ (fun m => v (64 * c.val + m) e * ((∑ d, q (64 * c.val + i.val) d * k (64 * c.val + m) d) * (if m ≤ i.val then gam (lg (ix1 h)) ^ (i.val - m) else 0)))
      fun m => by
        rw [sl_real b h V v hV _ _ rfl, EReal.coe_mul, EReal.coe_mul, ← coe_sum]
        refine congrArg _ (congrArg (· * _) (Finset.sum_congr rfl fun d _ => ?_))
        rw [sl_real b h Q q hQ _ _ rfl, sl_real b h K k hK _ _ rfl, EReal.coe_mul],
    ← coe_sum]
  refine congrArg _ (Finset.sum_congr rfl fun d _ => ?_)
  rw [stArr_at K V lg b h hl k v hK hV d e _ (by omega), sl_real b h Q q hQ _ _ rfl, ← EReal.coe_mul, ← EReal.coe_mul]

include hl hQ hK hV in
/-- The chunked retention's output is the decayed sum over the positions up to it. -/
theorem retArr_at (L : Fin 256) (e : Fin 128) :
    retArr Q K V lg (ix4 b L h e) = ((∑ n ∈ Finset.range (L.val + 1), (∑ d, q L.val d * k n d) * gam (lg (ix1 h)) ^ (L.val - n) * v n e : ℝ) : EReal) :=
  cat_at _ _ _ _ b h e (fun L => ((∑ n ∈ Finset.range (L + 1), (∑ d, q L d * k n d) * gam (lg (ix1 h)) ^ (L - n) * v n e : ℝ) : EReal))
    (fun i => chArr_at Q K V lg b h hl q k v hQ hK hV 0 i e) (fun i => chArr_at Q K V lg b h hl q k v hQ hK hV 1 i e)
    (fun i => chArr_at Q K V lg b h hl q k v hQ hK hV 2 i e) (fun i => chArr_at Q K V lg b h hl q k v hQ hK hV 3 i e) L

end Chain

/-- The decay's logarithm is not plus infinity. -/
theorem lg_ne_top (d : Fin 2) (h : Fin 4) : val_main_v16 (F := Ideal) x1 (ix2 d h) ≠ ⊤ := by
  pointwise [val_main_v16, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v15]
  rw [if_neg (by simp)]
  exact logsig_ne_top _ _

/-- The forward decay. -/
theorem lgf_at (h : Fin 4) : val_main_v18 (F := Ideal) x1 (ix1 h) = val_main_v16 (F := Ideal) x1 (ix2 0 h) := by
  pointwise [val_main_v18, val_main_v17]

/-- The backward decay. -/
theorem lgb_at (h : Fin 4) : val_main_v154 (F := Ideal) x1 (ix1 h) = val_main_v16 (F := Ideal) x1 (ix2 1 h) := by
  pointwise [val_main_v154, val_main_v153]

/-- The same projection entry, at an equal place. -/
theorem at_cell (b : Fin 16) (j : Fin 7) (h : Fin 4) (L : Fin 256) (d : Fin 128) (r : Fin 12288) (c : Fin 3584) (hr : r.val = 8192 + (256 * b.val + L.val))
    (hc : c.val = 512 * j.val + (128 * h.val + d.val)) : x0 (ix2 r c) = cell x0 b j h L d := by
  rw [cell, show r = ⟨8192 + (256 * b.val + L.val), by omega⟩ from Fin.ext hr, show c = ⟨512 * j.val + (128 * h.val + d.val), by omega⟩ from Fin.ext hc]

/-- A query of the reference. -/
theorem v10_at (b : Fin 16) (L : Fin 256) (h : Fin 4) (e : Fin 128) : val_main_v10 (F := Ideal) x0 (ix4 b L h e) = cell x0 b 0 h L e := by
  pointwise [val_main_v10, val_main_v3, val_main_v2, val_main_v1, val_main_v0]
  exact at_cell x0 b 0 h L e _ _ (by simp only []; omega) (by simp only [Fin.isValue]; omega)

/-- A value of the reference. -/
theorem v14_at (b : Fin 16) (L : Fin 256) (h : Fin 4) (e : Fin 128) : val_main_v14 (F := Ideal) x0 (ix4 b L h e) = cell x0 b 2 h L e := by
  pointwise [val_main_v14, val_main_v5, val_main_v2, val_main_v1, val_main_v0]
  exact at_cell x0 b 2 h L e _ _ (by simp only []; omega) (by simp only [Fin.isValue]; omega)

/-- A scaled key of the reference. -/
theorem v13_at (b : Fin 16) (L : Fin 256) (h : Fin 4) (e : Fin 128) :
    val_main_v13 (F := Ideal) x0 (ix4 b L h e) = cell x0 b 1 h L e * Ideal.ofBits .f32 0x3DB504F3#32 := by
  pointwise [val_main_v13, val_main_v12, val_main_v11, val_main_v4, val_main_v2, val_main_v1, val_main_v0, val_main_cst]
  exact congrArg (· * _) (at_cell x0 b 1 h L e _ _ (by simp only []; omega) (by simp only [Fin.isValue]; omega))

/-- An array reversed along its positions. -/
theorem rev_at (X : FVec Ideal S16x256x4x128 .f32) (b : Fin 16) (L : Fin 256) (h : Fin 4) (e : Fin 128) :
    (Host.reverse [1] X : FVec Ideal S16x256x4x128 .f32) (ix4 b L h e) = X (ix4 b ⟨255 - L.val, by omega⟩ h e) := by
  pointwise
  have e1 : L.rev = ⟨255 - L.val, by omega⟩ := Fin.ext (by rw [Fin.val_rev]; simp only []; omega)
  rw [← e1]
  rfl

section Real

variable {x0} (hx : Fin3 x0)
include hx

/-- A head's output before the norm is the sum over all positions, decayed both ways. -/
theorem o_at (b : Fin 16) (L : Fin 256) (h : Fin 4) (e : Fin 128) : val_main_v287 (F := Ideal) x0 x1 (ix4 b L h e)
    = ((oR x0 (gam (val_main_v16 (F := Ideal) x1 (ix2 0 h))) (gam (val_main_v16 (F := Ideal) x1 (ix2 1 h))) b h L.val e : ℝ) : EReal) := by
  show val_main_v149 (F := Ideal) x0 x1 (ix4 b L h e) + (Host.reverse [1] (val_main_v285 (F := Ideal) x0 x1) : FVec Ideal S16x256x4x128 .f32) (ix4 b L h e) = _
  rw [rev_at, all_v149, all_v285,
    retArr_at _ _ _ _ b h (by rw [lgf_at]; exact lg_ne_top x1 0 h) (cr x0 b 0 h) (kr x0 b h) (cr x0 b 2 h)
      (fun L d => by rw [v10_at, cell_eq hx _ _ _ _ _ (by decide)]) (fun L d => by rw [v13_at, key_eq hx])
      (fun L d => by rw [v14_at, cell_eq hx _ _ _ _ _ (by decide)]),
    retArr_at _ _ _ _ b h (by rw [lgb_at]; exact lg_ne_top x1 1 h) (fun n => cr x0 b 0 h (255 - n)) (fun n => kr x0 b h (255 - n)) (fun n => cr x0 b 2 h (255 - n))
      (fun L d => by rw [val_main_v150, rev_at, v10_at, cell_eq hx _ _ _ _ _ (by decide)]) (fun L d => by rw [val_main_v151, rev_at, v13_at, key_eq hx])
      (fun L d => by rw [val_main_v152, rev_at, v14_at, cell_eq hx _ _ _ _ _ (by decide)]),
    ← EReal.coe_add, lgf_at, lgb_at]
  have := L.isLt
  refine congrArg _ (Eq.trans ?_ (both (gam (val_main_v16 (F := Ideal) x1 (ix2 0 h))) (gam (val_main_v16 (F := Ideal) x1 (ix2 1 h))) (cr x0 b 0 h L.val) (kr x0 b h)
    (fun n => cr x0 b 2 h n e) L.val L.isLt))
  simp only [show 255 - (255 - L.val) = L.val by omega]

/-- The forward state. -/
theorem sf_at (b : Fin 16) (h : Fin 4) (d e : Fin 128) : val_main_v342 (F := Ideal) x0 x1 (ix5 b 0 h d e)
    = ((sfR x0 (gam (val_main_v16 (F := Ideal) x1 (ix2 0 h))) b h d e : ℝ) : EReal) := by
  have e1 : val_main_v342 (F := Ideal) x0 x1 (ix5 b 0 h d e) = val_main_v147 (F := Ideal) x0 x1 (ix4 b h d e) := by
    pointwise [val_main_v342]
  rw [e1, st_v147, stArr_at _ _ _ b h (by rw [lgf_at]; exact lg_ne_top x1 0 h) (kr x0 b h) (cr x0 b 2 h) (fun L d => by rw [v13_at, key_eq hx])
      (fun L d => by rw [v14_at, cell_eq hx _ _ _ _ _ (by decide)]) d e 4 (by decide), st_eq, lgf_at]
  rfl

/-- The backward state. -/
theorem sb_at (b : Fin 16) (h : Fin 4) (d e : Fin 128) : val_main_v343 (F := Ideal) x0 x1 (ix5 b 0 h d e)
    = ((sbR x0 (gam (val_main_v16 (F := Ideal) x1 (ix2 1 h))) b h d e : ℝ) : EReal) := by
  have e1 : val_main_v343 (F := Ideal) x0 x1 (ix5 b 0 h d e) = val_main_v283 (F := Ideal) x0 x1 (ix4 b h d e) := by
    pointwise [val_main_v343]
  rw [e1, st_v283, stArr_at _ _ _ b h (by rw [lgb_at]; exact lg_ne_top x1 1 h) (fun n => kr x0 b h (255 - n)) (fun n => cr x0 b 2 h (255 - n))
      (fun L d => by rw [val_main_v151, rev_at, v13_at, key_eq hx])
      (fun L d => by rw [val_main_v152, rev_at, v14_at, cell_eq hx _ _ _ _ _ (by decide)]) d e 4 (by decide), st_eq, lgb_at]
  refine congrArg _ (Eq.trans ?_ (Finset.sum_range_reflect (fun n => kr x0 b h n d * gam (val_main_v16 (F := Ideal) x1 (ix2 1 h)) ^ n * cr x0 b 2 h n e) 256))
  exact Finset.sum_congr rfl fun n _ => rfl

end Real

/-- A head's normalised output. -/
theorem v305_at (b : Fin 16) (L : Fin 256) (h : Fin 4) (e : Fin 128) :
    val_main_v305 (F := Ideal) x0 x1 (ix4 b L h e) = normed (fun e => val_main_v287 (F := Ideal) x0 x1 (ix4 b L h e)) e := by
  pointwise [val_main_v305, val_main_v304, val_main_v303, val_main_v302, val_main_v301, val_main_v300, val_main_v299, val_main_v298, val_main_v297, val_main_v296, val_main_v295, val_main_v294, val_main_v293, val_main_v292, val_main_v291, val_main_v290, val_main_v289, val_main_v288, val_main_cst_14, val_main_cst_15, val_main_cst_16, val_main_cst_17, val_main_cst_18, normed]

/-- The retention's columns. -/
theorem v312_at (b : Fin 16) (L : Fin 256) (h : Fin 4) (e : Fin 128) : val_main_v312 (F := Ideal) x0 x1 x2 (ix3 b L ⟨128 * h.val + e.val, by omega⟩)
    = retained (fun e => val_main_v287 (F := Ideal) x0 x1 (ix4 b L h e)) (x2 (ix2 0 ⟨128 * h.val + e.val, by omega⟩)) (cell x0 b 3 h L e) e := by
  rw [← at_cell x0 b 3 h L e ⟨8192 + (b.val * 256 + L.val), by omega⟩ ⟨1536 + (128 * h.val + e.val), by omega⟩ (by simp only []; omega) rfl, retained, ← v305_at]
  pointwise [val_main_v312, val_main_v311, val_main_v310, val_main_v309, val_main_v308, val_main_v307, val_main_v306, val_main_call3_v5, val_main_call3_v4, val_main_call3_cst_0, val_main_call3_v3, val_main_call3_v2, val_main_call3_v1, val_main_call3_v0, val_main_call3_cst, val_main_v6, val_main_v2, val_main_v1, val_main_v0]

/-- The convolution's input, before the padding. -/
theorem v314_at (b : Fin 16) (L : Fin 256) (h : Fin 4) (e : Fin 128) : val_main_v314 (F := Ideal) x0 (ix3 b L ⟨128 * h.val + e.val, by omega⟩)
    = cell x0 b 5 h L e * cell x0 b 6 h L e := by
  rw [← at_cell x0 b 5 h L e ⟨8192 + (b.val * 256 + L.val), by omega⟩ ⟨2560 + (128 * h.val + e.val), by omega⟩ (by simp only []; omega) rfl,
    ← at_cell x0 b 6 h L e ⟨8192 + (b.val * 256 + L.val), by omega⟩ ⟨3072 + (128 * h.val + e.val), by omega⟩ (by simp only []; omega) rfl]
  pointwise [val_main_v314, val_main_v8, val_main_v9, val_main_v2, val_main_v1, val_main_v0]

/-- The padded input, one position on. -/
theorem v315_at (b : Fin 16) (L : Fin 258) (h : Fin 512) : val_main_v315 (F := Ideal) x0 (ix3 b L h)
    = if g : 1 ≤ L.val ∧ L.val ≤ 256 then val_main_v314 (F := Ideal) x0 (ix3 b ⟨L.val - 1, by omega⟩ h) else 0 := by
  unfold val_main_v315
  generalize val_main_v314 (F := Ideal) x0 = u
  pointwise [val_main_call4_v0, val_main_c]
  by_cases g : 1 ≤ L.val ∧ L.val ≤ 256
  · rw [dif_pos g, dif_pos ⟨g.1, by omega⟩]
  · rw [dif_neg g, dif_neg (by omega)]
    show (((0 : ℤ) : ℝ) : EReal) = 0
    simp

/-- The convolution's columns. -/
theorem v336_at (b : Fin 16) (L : Fin 256) (h : Fin 4) (e : Fin 128) : val_main_v336 (F := Ideal) x0 x3 (ix3 b L ⟨128 * h.val + e.val, by omega⟩)
    = conv (cell x0 b 4 h L e) (fun r => cell x0 b 5 h r e * cell x0 b 6 h r e) (x3 (ix3 0 0 ⟨128 * h.val + e.val, by omega⟩))
      (x3 (ix3 0 1 ⟨128 * h.val + e.val, by omega⟩)) (x3 (ix3 0 2 ⟨128 * h.val + e.val, by omega⟩)) L := by
  rw [conv, ← at_cell x0 b 4 h L e ⟨8192 + (b.val * 256 + L.val), by omega⟩ ⟨2048 + (128 * h.val + e.val), by omega⟩ (by simp only []; omega) rfl]
  have e0 : val_main_v315 (F := Ideal) x0 (ix3 b ⟨L.val, by omega⟩ ⟨128 * h.val + e.val, by omega⟩)
      = if L.val = 0 then 0 else cell x0 b 5 h ⟨L.val - 1, by omega⟩ e * cell x0 b 6 h ⟨L.val - 1, by omega⟩ e := by
    rw [v315_at]
    by_cases g : L.val = 0
    · rw [dif_neg (by simp only []; omega), if_pos g]
    · rw [dif_pos (by simp only []; omega), if_neg g, ← v314_at]
  have e1 : val_main_v315 (F := Ideal) x0 (ix3 b ⟨1 + L.val, by omega⟩ ⟨128 * h.val + e.val, by omega⟩) = cell x0 b 5 h L e * cell x0 b 6 h L e := by
    rw [v315_at, dif_pos (by simp only []; omega), ← v314_at]
    refine congrArg (fun r => val_main_v314 (F := Ideal) x0 (ix3 b r _)) (Fin.ext ?_)
    simp only []; omega
  have e2 : val_main_v315 (F := Ideal) x0 (ix3 b ⟨2 + L.val, by omega⟩ ⟨128 * h.val + e.val, by omega⟩)
      = if g : L.val < 255 then cell x0 b 5 h ⟨L.val + 1, by omega⟩ e * cell x0 b 6 h ⟨L.val + 1, by omega⟩ e else 0 := by
    rw [v315_at]
    by_cases g : L.val < 255
    · rw [dif_pos (by simp only []; omega), dif_pos g, ← v314_at]
      refine congrArg (fun r => val_main_v314 (F := Ideal) x0 (ix3 b r _)) (Fin.ext ?_)
      simp only []; omega
    · rw [dif_neg (by simp only []; omega), dif_neg g]
  rw [← e0, ← e1, ← e2]
  pointwise [val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v313, val_main_v7, val_main_v2, val_main_v1, val_main_v0]

/-- The first output's retention half. -/
theorem mix_ret (b : Fin 16) (L : Fin 256) (h : Fin 4) (e : Fin 128) (p : Fin 4096) (c : Fin 1024) (hp : p.val = 256 * b.val + L.val) (hc : c.val = 256 * h.val + e.val) :
    val_main_v341 (F := Ideal) x0 x1 x2 x3 (ix2 p c) = val_main_v312 (F := Ideal) x0 x1 x2 (ix3 b L ⟨128 * h.val + e.val, by clear hp hc; omega⟩) := by
  rw [show p = ⟨256 * b.val + L.val, by omega⟩ from Fin.ext hp, show c = ⟨256 * h.val + e.val, by omega⟩ from Fin.ext hc]
  unfold val_main_v341 val_main_v340 val_main_v339 val_main_v337
  generalize val_main_v312 (F := Ideal) x0 x1 x2 = A
  generalize val_main_v338 (F := Ideal) x0 x3 = B
  pointwise
  rw [dif_pos (by omega)]
  exact congrArg (fun q : Fin 512 => A (ix3 b L q)) (Fin.ext (by simp only []; omega))

/-- The first output's convolution half. -/
theorem mix_conv (b : Fin 16) (L : Fin 256) (h : Fin 4) (e : Fin 128) (p : Fin 4096) (c : Fin 1024) (hp : p.val = 256 * b.val + L.val) (hc : c.val = 256 * h.val + (128 + e.val)) :
    val_main_v341 (F := Ideal) x0 x1 x2 x3 (ix2 p c) = val_main_v336 (F := Ideal) x0 x3 (ix3 b L ⟨128 * h.val + e.val, by clear hp hc; omega⟩) := by
  rw [show p = ⟨256 * b.val + L.val, by omega⟩ from Fin.ext hp, show c = ⟨256 * h.val + (128 + e.val), by omega⟩ from Fin.ext hc]
  unfold val_main_v341 val_main_v340 val_main_v339 val_main_v338
  generalize val_main_v336 (F := Ideal) x0 x3 = A
  generalize val_main_v337 (F := Ideal) x0 x1 x2 = B
  pointwise
  rw [dif_neg (by omega)]
  exact congrArg (fun q : Fin 512 => A (ix3 b L q)) (Fin.ext (by simp only []; omega))

end Cert.Reference4Ideal.Ret
-- ==== Proof.RetBlocks.lean ====
module

public import proofs.«01_k».proof.Proof.RetBody
public import proofs.«01_k».proof.Proof.RetRef
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.Kernel4Ideal.Ret

open Cert.Kernel4Ideal Cert.Kernel4Ideal.Gen Cert.RetSpec Cert.RetMath Cert.AttnMath Cert.Reference4Ideal.Ret

variable (m : (ℓ : Loc nD τ sig) → Buf (Elt Ideal) ℓ)

/-- The projection. -/
abbrev X0 (c : Dev nD) : FVec Ideal S12288x3584 .bf16 := m ((c : Thread nD τ).loc main_arg0)
/-- The decays' logits. -/
abbrev X1 (c : Dev nD) : FVec Ideal S1x2x4 .f32 := m ((c : Thread nD τ).loc main_arg1)
/-- The norm's gains. -/
abbrev X2 (c : Dev nD) : FVec Ideal S1x512 .f32 := m ((c : Thread nD τ).loc main_arg2)
/-- The convolution's weights. -/
abbrev X3 (c : Dev nD) : FVec Ideal S1x3x512 .f32 := m ((c : Thread nD τ).loc main_arg3)

/-- A decay's logarithm: the log-sigmoid of its logit. -/
def lgs (c : Dev nD) (d : Fin 2) (h : Fin 4) : EReal := Reference4Ideal.Read.val_main_v16 (F := Ideal) (X1 m c) (ix2 d h)

/-- A decay's logarithm is not plus infinity. -/
theorem lgs_ne (c : Dev nD) (d : Fin 2) (h : Fin 4) : lgs m c d h ≠ ⊤ := lg_ne_top (X1 m c) d h

/-- The decays' logarithms the kernel is given are the reference's. -/
theorem v1_eq (c : Dev nD) : (V m c main_v1 : FVec Ideal S2x4 .f32) = Reference4Ideal.Read.val_main_v16 (F := Ideal) (X1 m c) := by
  unfold V
  after_reads_simp
  rfl

/-- The gains the kernel is given. -/
theorem v4_at (c : Dev nD) (j : Fin 512) : (V m c main_v4 : FVec Ideal S1x512 .f32) (ix2 0 j) = X2 m c (ix2 0 j) := by
  have e : (V m c main_v4 : FVec Ideal S1x512 .f32) = shapeCast S1x512 (shapeCast S512 (X2 m c) shapeCasts_S1x512_S512) shapeCasts_S512_S1x512 := by
    unfold V
    after_reads_simp
    rfl
  rw [e]
  have h : ∀ X : FVec Ideal S1x512 .f32, shapeCast S1x512 (shapeCast S512 X shapeCasts_S1x512_S512) shapeCasts_S512_S1x512 (ix2 0 j) = X (ix2 0 j) := by
    intro X
    pointwise
  exact h _

/-- The weights the kernel is given. -/
theorem v3_at (c : Dev nD) (k : Fin 3) (j : Fin 512) : (V m c main_v3 : FVec Ideal S3x512 .f32) (ix2 k j) = X3 m c (ix3 0 k j) := by
  have e : (V m c main_v3 : FVec Ideal S3x512 .f32) = shapeCast S3x512 (X3 m c) shapeCasts_S1x3x512_S3x512 := by
    unfold V
    after_reads_simp
    rfl
  rw [e]
  have h : ∀ X : FVec Ideal S1x3x512 .f32, shapeCast S3x512 X shapeCasts_S1x3x512_S3x512 (ix2 k j) = X (ix3 0 k j) := by
    intro X
    pointwise
  exact h _

/-- The windows' block indices: point `t` is sequence `t`. -/
theorem idx : ∀ t : Fin cfg0.N, win0_0.index t = ![0, 0] ∧ win0_1.index t = ![32 + t.val, 0] ∧ win0_2.index t = ![32 + t.val, 1] ∧ win0_3.index t = ![32 + t.val, 2] ∧ win0_4.index t = ![32 + t.val, 3] ∧ win0_5.index t = ![32 + t.val, 4] ∧ win0_6.index t = ![32 + t.val, 5] ∧ win0_7.index t = ![32 + t.val, 6]
    ∧ win0_8.index t = ![0, 0] ∧ win0_9.index t = ![0, 0]
    ∧ win0_10.index t = ![t.val, 0] ∧ win0_11.index t = ![t.val, 0, 0, 0, 0] ∧ win0_12.index t = ![t.val, 0, 0, 0, 0] ∧ t.val < 16 :=
  (by decide +kernel : ∀ t : Fin grid0.N, _)

/-- The sequence of a grid point. -/
def sq (t : Fin cfg0.N) : Fin 16 := ⟨t.val, (idx t).2.2.2.2.2.2.2.2.2.2.2.2.2⟩

variable (c : Dev nD) (t : Fin cfg0.N)

/-- The logarithms' block. -/
theorem blk0 (d : Fin 2) (h : Fin 4) : (iblk m c 0 t : FVec Ideal S2x4 .f32) (ix2 d h) = lgs m c d h := by
  refine Eq.trans ?_ (congrFun (v1_eq m c) (ix2 d h))
  blk_ext [iblk, idx t]

/-- A head's columns of the block of the queries. -/
theorem blk1 (h : Fin 4) (r : Fin 256) (d : Fin 128) : cs (iblk m c 1 t) h (ix2 r d) = cell (X0 m c) (sq t) 0 h r d := by
  blk_ext [cs, iblk, V, idx t, sq, cell, X0]

/-- A head's columns of the block of the keys. -/
theorem blk2 (h : Fin 4) (r : Fin 256) (d : Fin 128) : cs (iblk m c 2 t) h (ix2 r d) = cell (X0 m c) (sq t) 1 h r d := by
  blk_ext [cs, iblk, V, idx t, sq, cell, X0]

/-- A head's columns of the block of the values. -/
theorem blk3 (h : Fin 4) (r : Fin 256) (d : Fin 128) : cs (iblk m c 3 t) h (ix2 r d) = cell (X0 m c) (sq t) 2 h r d := by
  blk_ext [cs, iblk, V, idx t, sq, cell, X0]

/-- A head's columns of the block of the gates. -/
theorem blk4 (h : Fin 4) (r : Fin 256) (d : Fin 128) : cs (iblk m c 4 t) h (ix2 r d) = cell (X0 m c) (sq t) 3 h r d := by
  blk_ext [cs, iblk, V, idx t, sq, cell, X0]

/-- A head's columns of the block of the convolution's outer gates. -/
theorem blk5 (h : Fin 4) (r : Fin 256) (d : Fin 128) : cs (iblk m c 5 t) h (ix2 r d) = cell (X0 m c) (sq t) 4 h r d := by
  blk_ext [cs, iblk, V, idx t, sq, cell, X0]

/-- A head's columns of the block of the convolution's inner gates. -/
theorem blk6 (h : Fin 4) (r : Fin 256) (d : Fin 128) : cs (iblk m c 6 t) h (ix2 r d) = cell (X0 m c) (sq t) 5 h r d := by
  blk_ext [cs, iblk, V, idx t, sq, cell, X0]

/-- A head's columns of the block of the convolution's inputs. -/
theorem blk7 (h : Fin 4) (r : Fin 256) (d : Fin 128) : cs (iblk m c 7 t) h (ix2 r d) = cell (X0 m c) (sq t) 6 h r d := by
  blk_ext [cs, iblk, V, idx t, sq, cell, X0]

/-- A head's columns of the gains' block. -/
theorem blk8 (h : Fin 4) (e : Fin 128) : c1 (iblk m c 8 t) h (ix2 0 e) = X2 m c (ix2 0 ⟨128 * h.val + e.val, by omega⟩) := by
  refine Eq.trans ?_ (v4_at m c _)
  blk_ext [c1, iblk, idx t]

/-- A head's columns of the weights' block. -/
theorem blk9 (k : Fin 3) (h : Fin 4) (e : Fin 128) : c3 (iblk m c 9 t) h (ix2 k e) = X3 m c (ix3 0 k ⟨128 * h.val + e.val, by omega⟩) := by
  refine Eq.trans ?_ (v3_at m c k _)
  blk_ext [c3, iblk, idx t]

/-- After every point the scratch holds the decays. -/
theorem scr (h : Fin 4) (r n : Fin 256) : ∀ (k : ℕ) (hk : k < cfg0.N),
    (outsAt0 m c k hk).2.2.2 (ix3 h r n) = decPay (lgs m c 0 h) (lgs m c 1 h) (ix3 0 r n) := by
  intro k
  induction k with
  | zero =>
    intro hk
    rw [decA m c ⟨0, hk⟩ rfl, blk0, blk0]
  | succ k ih =>
    intro hk
    by_cases h0 : (k + 1) % 16 = 0
    · rw [decA m c ⟨k + 1, hk⟩ h0, blk0, blk0]
    · exact (congrFun (decB m c ⟨k + 1, hk⟩ h0) (ix3 h r n)).trans (ih (by omega))

/-- The decay a point multiplies by. -/
def dec (h : Fin 4) : Vec Ideal S1x256x256 .f32 := if t.val % 16 = 0 then decPay (iblk m c 0 t (ix2 0 h)) (iblk m c 0 t (ix2 1 h)) else dsl (outsAt0 m c (t.val - 1) (by omega)).2.2.2 h

/-- The decay a point multiplies by is the same at every point. -/
theorem dec_at (h : Fin 4) (r n : Fin 256) : dec m c t h (ix3 0 r n) = decPay (lgs m c 0 h) (lgs m c 1 h) (ix3 0 r n) := by
  unfold dec
  split_ifs with h0
  · rw [blk0, blk0]
  · exact scr m c h r n _ _

/-- A point's retention columns. -/
theorem outs_ret (h : Fin 4) (r : Fin 256) (e : Fin 128) : (outsAt0 m c t.val t.isLt).1 (ix2 r ⟨256 * h.val + e.val, by omega⟩)
    = retPay (cs (iblk m c 1 t) h) (cs (iblk m c 2 t) h) (cs (iblk m c 3 t) h) (cs (iblk m c 4 t) h) (dec m c t h) (c1 (iblk m c 8 t) h) (ix2 r e) := by
  unfold dec
  split_ifs with h0
  · exact retA m c t h0 h r e
  · exact retB m c t h0 h r e

/-- A point's convolution columns. -/
theorem outs_conv (h : Fin 4) (r : Fin 256) (e : Fin 128) : (outsAt0 m c t.val t.isLt).1 (ix2 r ⟨256 * h.val + (128 + e.val), by omega⟩)
    = convPay (cs (iblk m c 6 t) h) (cs (iblk m c 7 t) h) (cs (iblk m c 5 t) h) (c3 (iblk m c 9 t) h) (ix2 r e) := by
  by_cases h0 : t.val % 16 = 0
  · exact convA m c t h0 h r e
  · exact convB m c t h0 h r e

/-- A point's forward state. -/
theorem outs_sf (h : Fin 4) (d e : Fin 128) : (outsAt0 m c t.val t.isLt).2.1 (ix5 0 0 h d e)
    = sfPay (cs (iblk m c 2 t) h) (cs (iblk m c 3 t) h) (iblk m c 0 t (ix2 0 h)) (ix5 0 0 0 d e) := by
  by_cases h0 : t.val % 16 = 0
  · exact sfA m c t h0 h d e
  · exact sfB m c t h0 h d e

/-- A point's backward state. -/
theorem outs_sb (h : Fin 4) (d e : Fin 128) : (outsAt0 m c t.val t.isLt).2.2.1 (ix5 0 0 h d e)
    = sbPay (cs (iblk m c 2 t) h) (cs (iblk m c 3 t) h) (iblk m c 0 t (ix2 1 h)) (ix5 0 0 0 d e) := by
  by_cases h0 : t.val % 16 = 0
  · exact sbA m c t h0 h d e
  · exact sbB m c t h0 h d e

/-- The convolution columns a point writes are the reference's. -/
theorem conv_eq (h : Fin 4) (r : Fin 256) (e : Fin 128) : (outsAt0 m c t.val t.isLt).1 (ix2 r ⟨256 * h.val + (128 + e.val), by omega⟩)
    = Reference4Ideal.Read.val_main_v336 (F := Ideal) (X0 m c) (X3 m c) (ix3 (sq t) r ⟨128 * h.val + e.val, by omega⟩) := by
  refine (outs_conv m c t h r e).trans ((convPay_at _ _ _ _ r e).trans (Eq.trans ?_ (v336_at (X0 m c) (X3 m c) (sq t) r h e).symm))
  simp only [blk5, blk6, blk7, blk9]

variable (hx : Fin3 (X0 m c))
include hx

/-- A head's output before the norm is the real sum over all positions. -/
theorem o_real (h : Fin 4) (r : Fin 256) (e : Fin 128) :
    oPay (cs (iblk m c 1 t) h) (cs (iblk m c 2 t) h) (cs (iblk m c 3 t) h) (dec m c t h) (ix2 r e)
      = ((oR (X0 m c) (gam (lgs m c 0 h)) (gam (lgs m c 1 h)) (sq t) h r.val e : ℝ) : EReal) := by
  rw [oPay_at, oR]
  refine sum_real _ _ fun n => ?_
  have hs : ∑ d : Fin 128, cs (iblk m c 1 t) h (ix2 r d) * (cs (iblk m c 2 t) h (ix2 n d) * Ideal.ofBits .f32 0x3DB504F3#32)
      = ((∑ d, cr (X0 m c) (sq t) 0 h r.val d * kr (X0 m c) (sq t) h n.val d : ℝ) : EReal) := by
    rw [← coe_sum]
    refine Finset.sum_congr rfl fun d _ => ?_
    rw [blk1, blk2, cell_eq hx _ _ _ _ _ (by decide), key_eq hx, EReal.coe_mul]
  rw [hs, dec_at, decPay_at _ _ (lgs_ne m c 0 h) (lgs_ne m c 1 h), blk3, cell_eq hx _ _ _ _ _ (by decide), ← EReal.coe_mul, ← EReal.coe_mul]

/-- The retention columns a point writes are the reference's, when the queries, keys and values are finite. -/
theorem ret_eq (h : Fin 4) (r : Fin 256) (e : Fin 128) : (outsAt0 m c t.val t.isLt).1 (ix2 r ⟨256 * h.val + e.val, by omega⟩)
    = Reference4Ideal.Read.val_main_v312 (F := Ideal) (X0 m c) (X1 m c) (X2 m c) (ix3 (sq t) r ⟨128 * h.val + e.val, by omega⟩) := by
  refine (outs_ret m c t h r e).trans ((retPay_at _ _ _ _ _ _ r e).trans (Eq.trans ?_ (v312_at (X0 m c) (X1 m c) (X2 m c) (sq t) r h e).symm))
  rw [blk4, blk8]
  refine congrArg (fun o => retained o _ _ e) (funext fun e => ?_)
  exact (o_real m c t hx h r e).trans (o_at (X1 m c) hx (sq t) r h e).symm

/-- The forward state a point writes is the reference's, when the keys and values are finite. -/
theorem sf_eq (h : Fin 4) (d e : Fin 128) : (outsAt0 m c t.val t.isLt).2.1 (ix5 0 0 h d e)
    = Reference4Ideal.Read.val_main_v342 (F := Ideal) (X0 m c) (X1 m c) (ix5 (sq t) 0 h d e) := by
  refine (outs_sf m c t h d e).trans ((sfPay_at _ _ _ d e).trans (Eq.trans ?_ (sf_at (X1 m c) hx (sq t) h d e).symm))
  rw [sfR]
  refine sum_real _ _ fun n => ?_
  have hc : Ideal.ofBits .f32 0x437F0000#32 = ((255 : ℝ) : EReal) := by
    simp [Ideal.ofBits, Ideal.ieee, -EReal.coe_mul]; norm_num
  have hs : (255 : ℝ) - (n.val : ℝ) = ((255 - n.val : ℕ) : ℝ) := by
    rw [Nat.cast_sub (by omega)]; norm_num
  rw [blk0, blk2, blk3, key_eq hx, cell_eq hx _ _ _ _ _ (by decide), hc, ← EReal.coe_sub, hs, exp_pow _ (lgs_ne m c 0 h), ← EReal.coe_mul, ← EReal.coe_mul]
  rfl

/-- The backward state a point writes is the reference's, when the keys and values are finite. -/
theorem sb_eq (h : Fin 4) (d e : Fin 128) : (outsAt0 m c t.val t.isLt).2.2.1 (ix5 0 0 h d e)
    = Reference4Ideal.Read.val_main_v343 (F := Ideal) (X0 m c) (X1 m c) (ix5 (sq t) 0 h d e) := by
  refine (outs_sb m c t h d e).trans ((sbPay_at _ _ _ d e).trans (Eq.trans ?_ (sb_at (X1 m c) hx (sq t) h d e).symm))
  rw [sbR]
  refine sum_real _ _ fun n => ?_
  rw [blk0, blk2, blk3, key_eq hx, cell_eq hx _ _ _ _ _ (by decide), exp_pow _ (lgs_ne m c 1 h), ← EReal.coe_mul, ← EReal.coe_mul]
  rfl

omit hx in
/-- Every column of the first output is a column of a head's retention or of its convolution. -/
theorem col_cases (j : Fin 1024) : ∃ (h : Fin 4) (e : Fin 128), j = ⟨256 * h.val + e.val, by omega⟩ ∨ j = ⟨256 * h.val + (128 + e.val), by omega⟩ := by
  refine ⟨⟨j.val / 256, by omega⟩, ⟨j.val % 128, by omega⟩, ?_⟩
  by_cases g : j.val % 256 < 128
  · exact .inl (Fin.ext (by simp only []; omega))
  · exact .inr (Fin.ext (by simp only []; omega))

/-- The first output's array after the run is the reference's. -/
theorem final10 : (dats m 0 c).arrAt 10 cfg0.N
    = Reference4Ideal.Read.val_main_v341 (F := Ideal) (X0 m c) (X1 m c) (X2 m c) (X3 m c) := by
  refine (dats m 0 c).arrAt_eq_of_covers 10 _ (by decide +kernel) fun t _ y => ?_
  blk_simp
  rw [after0_10]
  idx_vars y
  obtain ⟨h, e, rfl | rfl⟩ := col_cases y1
  · refine (ret_eq m c t hx h y0 e).trans (((mix_ret (X0 m c) (X1 m c) (X2 m c) (X3 m c) (sq t) y0 h e ⟨256 * (sq t).val + y0.val, by omega⟩ ⟨256 * h.val + e.val, by omega⟩
      rfl rfl).symm).trans (congrArg (Reference4Ideal.Read.val_main_v341 (F := Ideal) _ _ _ _) ?_))
    blk_ext [idx t, sq]
  · refine (conv_eq m c t h y0 e).trans (((mix_conv (X0 m c) (X1 m c) (X2 m c) (X3 m c) (sq t) y0 h e ⟨256 * (sq t).val + y0.val, by omega⟩ ⟨256 * h.val + (128 + e.val), by omega⟩
      rfl rfl).symm).trans (congrArg (Reference4Ideal.Read.val_main_v341 (F := Ideal) _ _ _ _) ?_))
    blk_ext [idx t, sq]

/-- The forward states' array after the run is the reference's. -/
theorem final11 : (dats m 0 c).arrAt 11 cfg0.N = Reference4Ideal.Read.val_main_v342 (F := Ideal) (X0 m c) (X1 m c) := by
  refine (dats m 0 c).arrAt_eq_of_covers 11 _ (by decide +kernel) fun t _ y => ?_
  blk_simp
  rw [after0_11]
  idx_vars y
  obtain rfl : y0 = 0 := Subsingleton.elim _ _
  obtain rfl : y1 = 0 := Subsingleton.elim _ _
  refine (sf_eq m c t hx y2 y3 y4).trans (congrArg (Reference4Ideal.Read.val_main_v342 (F := Ideal) _ _) ?_)
  blk_ext [idx t, sq]

/-- The backward states' array after the run is the reference's. -/
theorem final12 : (dats m 0 c).arrAt 12 cfg0.N = Reference4Ideal.Read.val_main_v343 (F := Ideal) (X0 m c) (X1 m c) := by
  refine (dats m 0 c).arrAt_eq_of_covers 12 _ (by decide +kernel) fun t _ y => ?_
  blk_simp
  rw [after0_12]
  idx_vars y
  obtain rfl : y0 = 0 := Subsingleton.elim _ _
  obtain rfl : y1 = 0 := Subsingleton.elim _ _
  refine (sb_eq m c t hx y2 y3 y4).trans (congrArg (Reference4Ideal.Read.val_main_v343 (F := Ideal) _ _) ?_)
  blk_ext [idx t, sq]

end Cert.Kernel4Ideal.Ret
-- ==== Proof.Ret.lean ====
module

public import proofs.«01_k».proof.Proof.RetBlocks
public import proofs.«01_k».proof.Proof.Finite
public import proofs.«01_k».proof.Defs
public import proofs.«01_k».proof.Proof.Gen.Reference4Ideal.Run
public import proofs.«01_k».proof.Proof.Gen.Pre_finite_rows

@[expose] public section

set_option maxRecDepth 16384

noncomputable section

open Idealize.ShloMosaic Idealize.ShloMosaic.TcCoe Idealize.SL.Sem

namespace Cert.Ret

open Cert.Kernel4Ideal Cert.Kernel4Ideal.Gen Cert.Kernel4Ideal.Ret Cert.RetSpec

/-- The precondition says that the prompt's queries, keys and values are finite. -/
theorem rows (x0 : FVec Ideal S12288x3584 .bf16) (x1 : FVec Ideal S1x2x4 .f32) (x2 : FVec Ideal S1x512 .f32) (x3 : FVec Ideal S1x3x512 .f32)
    (h : Cert.Pre_finite_rows.fn (F := Ideal) x0 x1 x2 x3 = fun _ => 1#1) : Fin3 x0 := by
  intro b j hd L d hj
  have h' := congrFun h (fun a => a.elim0)
  have k := Finite.ne_of_abs_lt _ (Finite.reduce_and _ _ _ _ _ h' (ix2 ⟨256 * b.val + L.val, by omega⟩ ⟨512 * j.val + (128 * hd.val + d.val), by omega⟩))
  have e : ∀ X : FVec Ideal S12288x3584 .bf16, (extractStridedSlice Pre_finite_rows.S4096x1536 ![8192, 0] X Pre_finite_rows.Facts.slices_S12288x3584_S4096x1536_8192_0 : FVec Ideal Pre_finite_rows.S4096x1536 .bf16)
      (ix2 ⟨256 * b.val + L.val, by omega⟩ ⟨512 * j.val + (128 * hd.val + d.val), by omega⟩) = cell X b j hd L d := by
    intro X
    unfold cell
    pointwise
  have e0 := e x0
  rw [← e0]
  exact k

/-- Over the extended reals the retention kernel and the reference end with the same mixed rows and the same states of both
    directions, from equal arguments whose prompt queries, keys and values are finite. -/
theorem algebraic : algebraic_Kernel4Ideal_Reference4Ideal_pre_finite_rows
    (hKernel4Ideal := Kernel4Ideal.Gen.facts) (hReference4Ideal := Reference4Ideal.Gen.facts) (hPre_finite_rows := Pre_finite_rows.Gen.facts) := by
  intro m g m' g' hp ha
  refine ⟨fun c => (dats m 0 c).arrAt 10 cfg0.N, fun c => (dats m 0 c).arrAt 11 cfg0.N, fun c => (dats m 0 c).arrAt 12 cfg0.N, ?_, ?_⟩
  · exact (θ_run _ _ _).mono (fun r h c => h c) (Kernel4Ideal.Value.run_blocks m g)
  · refine (θ_run _ _ _).mono (fun r h c => ⟨(h c).1.trans ?_, (h c).2.1.trans ?_, (h c).2.2.1.trans ?_, (h c).2.2.2⟩) (Reference4Ideal.Value.run m' g')
    · rw [Reference4Ideal.Read.val_main_v341_eq]
      obtain ⟨e0, e1, e2, e3⟩ := ha c
      refine (congr (congr (congrArg₂ (Reference4Ideal.Read.val_main_v341 (F := Ideal)) e0 e1) e2) e3).trans ?_
      exact (final10 m c (rows _ _ _ _ (hp c))).symm
    · rw [Reference4Ideal.Read.val_main_v342_eq]
      obtain ⟨e0, e1, e2, e3⟩ := ha c
      exact (congrArg₂ (Reference4Ideal.Read.val_main_v342 (F := Ideal)) e0 e1).trans (final11 m c (rows _ _ _ _ (hp c))).symm
    · rw [Reference4Ideal.Read.val_main_v343_eq]
      obtain ⟨e0, e1, e2, e3⟩ := ha c
      exact (congrArg₂ (Reference4Ideal.Read.val_main_v343 (F := Ideal)) e0 e1).trans (final12 m c (rows _ _ _ _ (hp c))).symm

end Cert.Ret
-- ==== Proof.RouterMath.lean ====
module

public import proofs.«01_k».proof.Proof.AttnMath
public import proofs.«01_k».proof.Proof.ProjBody

@[expose] public section

noncomputable section

open Idealize.ShloMosaic

namespace Cert.Router

open Cert.AttnMath hiding nrm
open Cert.Proj

/-- A token's features `x` plus the gated projection of the mixer's row `a` by the weights `w`. -/
def mixRow (a : Fin 1024 → EReal) (w : Fin 1024 → Fin 1024 → EReal) (gate x : Fin 1024 → EReal) (j : Fin 1024) : EReal :=
  x j + gate j * ∑ k, a k * w k j

/-- The router's score of expert `e` for a normalised token. -/
def logit (h : Fin 1024 → EReal) (w : Fin 1024 → Fin 16 → EReal) (e : Fin 16) : EReal := ∑ k, h k * w k e

/-- The softmax of the sixteen scores, with their maximum subtracted. -/
def aff (L : Fin 16 → EReal) (e : Fin 16) : EReal :=
  Ideal.div (Ideal.exp (L e - Finset.univ.fold max ⊥ L)) (∑ e', Ideal.exp (L e' - Finset.univ.fold max ⊥ L))

/-- The score as the kernel sums it: the product of the high parts, the weights' remainder, the token's remainder. -/
def splitLogit (h : Fin 1024 → EReal) (w : Fin 1024 → Fin 16 → EReal) (e : Fin 16) : EReal :=
  ∑ k, w k e * h k + ∑ k, (w k e - w k e) * h k + ∑ k, w k e * (h k - h k)

/-- The word of 1024. -/
theorem w_1024 : Ideal.ofBits .f32 0x44800000#32 = ((1024 : ℝ) : EReal) := by
  simp [Ideal.ofBits, Ideal.ieee, -EReal.coe_mul]; norm_num

/-- A normalised token is finite when the gains, scales and shifts are, whatever the token holds. -/
theorem nrm_real (x : Fin 1024 → EReal) (g sc sh : Fin 1024 → ℝ) (d : Fin 1024) :
    ∃ y : ℝ, nrm x (fun l => (g l : EReal)) (fun l => (sc l : EReal)) (fun l => (sh l : EReal)) d = y := by
  obtain ⟨e, he, hw⟩ := w_eps
  have tail : ∀ z : ℝ, ∃ y : ℝ, (z : EReal) * (g d : EReal) * (1 + (sc d : EReal)) + (sh d : EReal) = y := fun z =>
    ⟨z * g d * (1 + sc d) + sh d, by simp only [EReal.coe_add, EReal.coe_mul, EReal.coe_one]⟩
  unfold nrm
  by_cases hx : ∃ i, x i = ⊤ ∨ x i = ⊥
  · obtain ⟨i, hi⟩ := hx
    rw [sq_sum_top x i hi, w_1024, Ideal.div_coe (by norm_num), EReal.top_mul_coe_of_pos (by norm_num), hw, EReal.top_add_coe]
    have h0 : x d * Ideal.rsqrt ⊤ = ((0 : ℝ) : EReal) := by
      show x d * 0 = _
      rw [mul_zero, EReal.coe_zero]
    rw [h0]
    exact tail 0
  · have hr : ∀ i, ∃ r : ℝ, x i = r := fun i => real_of ⟨fun h => hx ⟨i, .inl h⟩, fun h => hx ⟨i, .inr h⟩⟩
    choose r hr using hr
    obtain rfl : x = fun l => (r l : EReal) := funext hr
    have hs : 0 ≤ ∑ l, r l * r l := Finset.sum_nonneg fun l _ => mul_self_nonneg _
    have hp : 0 < (∑ l, r l * r l) * (1 / 1024) + e := by positivity
    simp only [← EReal.coe_mul]
    rw [coe_sum, w_1024, Ideal.div_coe (by norm_num), hw, ← EReal.coe_mul, ← EReal.coe_add, Ideal.rsqrt_coe, if_neg (not_lt.mpr hp.le), if_neg hp.ne', ← EReal.coe_mul]
    exact tail _

/-- For finite numbers the remainders are zero and the kernel's score is the router's. -/
theorem split_eq (h : Fin 1024 → ℝ) (w : Fin 1024 → Fin 16 → ℝ) :
    splitLogit (fun k => (h k : EReal)) (fun k e => (w k e : EReal)) = logit (fun k => (h k : EReal)) fun k e => (w k e : EReal) := by
  funext e
  unfold splitLogit logit
  have z : ∀ y : ℝ, (y : EReal) - y = 0 := fun y => EReal.sub_self (EReal.coe_ne_top y) (EReal.coe_ne_bot y)
  simp only [z, zero_mul, mul_zero, Finset.sum_const_zero, add_zero]
  exact Finset.sum_congr rfl fun k _ => mul_comm _ _

/-- The score of finite numbers is finite. -/
theorem logit_real (h : Fin 1024 → ℝ) (w : Fin 1024 → Fin 16 → ℝ) (e : Fin 16) :
    ∃ y : ℝ, logit (fun k => (h k : EReal)) (fun k e => (w k e : EReal)) e = y := by
  unfold logit
  simp only [← EReal.coe_mul, coe_sum]
  exact ⟨_, rfl⟩

/-- An affinity of finite scores less itself is zero. -/
theorem aff_sub (L : Fin 16 → ℝ) (e : Fin 16) : aff (fun e => (L e : EReal)) e - aff (fun e => (L e : EReal)) e = 0 := by
  obtain ⟨M, hM⟩ := fold_real (by decide) L
  unfold aff
  simp only [hM, ← EReal.coe_sub, Ideal.exp_coe, coe_sum]
  have hd : 0 < ∑ s, Real.exp (L s - M) := Finset.sum_pos (fun s _ => Real.exp_pos _) Finset.univ_nonempty
  rw [Ideal.div_coe hd.ne', ← EReal.coe_mul]
  exact EReal.sub_self (EReal.coe_ne_top _) (EReal.coe_ne_bot _)

end Cert.Router
-- ==== Proof.RouterBody.lean ====
module

public import proofs.«01_k».proof.Proof.Gen.Kernel5Ideal.Frame
public import proofs.«01_k».proof.Proof.RouterMath

@[expose] public section

set_option maxRecDepth 16384

noncomputable section

open Idealize.ShloMosaic Idealize.ShloMosaic.TcCoe Idealize.SL.Sem

namespace Cert.Kernel5Ideal.Router

open Cert.Kernel5Ideal Cert.Kernel5Ideal.Gen Cert.Router Cert.Proj

/-- The tile a grid point takes of two streams: the samples' before point 8, the prompt's from there on. -/
def tile {α : Type} (i : grid0.Coords) (xs xp : α) : α := if (i 0).val < 8 then xs else xp

/-- The select between the two streams is the tile. -/
theorem select_tile {α : Type} (i : grid0.Coords) (xs xp : α) :
    Scalar.select (Scalar.cmpi .slt (BitVec.ofNat 32 (i 0).val) 8#32) xs xp = tile i xs xp := by
  rw [Cert.Kernel3Ideal.Proj.lt8 (i 0), tile]
  split <;> rfl

/-- The mixed rows the body writes. -/
theorem pay2_at (i : grid0.Coords) (a b w : FVec Ideal S1024x1024 .bf16) (xs xp : FVec Ideal S1024x1024 .f32) (gt : FVec Ideal S1x1x1x1024 .f32)
    (r j : Fin 1024) :
    k0_pay2 (F := Ideal) i a b w xs xp gt (ix2 r j)
      = mixRow (fun k => tile i a b (ix2 r k)) (fun k j => w (ix2 k j)) (fun j => gt (ix4 0 0 0 j)) (fun j => tile i xs xp (ix2 r j)) j := by
  rw [← select_tile, ← select_tile]
  pointwise [k0_pay2]
  simp only [mixRow, zero_add]

/-- The sums of squares of the mixed rows. -/
theorem pay6_at (i : grid0.Coords) (a b w : FVec Ideal S1024x1024 .bf16) (xs xp : FVec Ideal S1024x1024 .f32) (gt : FVec Ideal S1x1x1x1024 .f32)
    (r : Fin 1024) :
    k0_pay6 (F := Ideal) i a b w xs xp gt (ix2 r 0)
      = ∑ k, k0_pay2 (F := Ideal) i a b w xs xp gt (ix2 r k) * k0_pay2 (F := Ideal) i a b w xs xp gt (ix2 r k) := by
  unfold k0_pay6
  generalize k0_pay2 (F := Ideal) i a b w xs xp gt = X
  pointwise

/-- The normalised rows, from the mixed rows and their sums of squares. -/
theorem pay8_at (X : FVec Ideal S1024x1024 .f32) (g : FVec Ideal S1x1024 .f32) (sc sh : FVec Ideal S1x1x1x1024 .f32) (V : FVec Ideal S1024x1 .f32)
    (hV : ∀ r, V (ix2 r 0) = ∑ k, X (ix2 r k) * X (ix2 r k)) (r j : Fin 1024) :
    k0_pay8 (F := Ideal) X (k0_pay3 g) (k0_pay4 sc) (k0_pay5 sh) V k0_pay7 (ix2 r j)
      = nrm (fun k => X (ix2 r k)) (fun k => g (ix2 0 k)) (fun k => sc (ix4 0 0 0 k)) (fun k => sh (ix4 0 0 0 k)) j := by
  pointwise [k0_pay8, k0_pay3, k0_pay4, k0_pay5, k0_pay7]
  simp only [hV, nrm]

/-- The normalised rows the body writes are those it scores. -/
theorem pay9_at (X : FVec Ideal S1024x1024 .f32) (g sc sh : FVec Ideal S1x1024 .f32) (V N : FVec Ideal S1024x1 .f32) (r j : Fin 1024) :
    k0_pay9 (F := Ideal) X g sc sh V N (ix2 r j) = k0_pay8 (F := Ideal) X g sc sh V N (ix2 r j) := by
  unfold k0_pay9
  generalize k0_pay8 (F := Ideal) X g sc sh V N = H
  pointwise

/-- The affinities the body writes, from the normalised rows and the router's weights. -/
theorem pay10_at (X : FVec Ideal S1024x1024 .f32) (g sc sh : FVec Ideal S1x1024 .f32) (V N : FVec Ideal S1024x1 .f32) (R : FVec Ideal S16x1024 .f32)
    (e : Fin 16) (r : Fin 1024) :
    k0_pay10 (F := Ideal) X g sc sh V N R (ix2 e r)
      = aff (splitLogit (fun k => k0_pay8 (F := Ideal) X g sc sh V N (ix2 r k)) fun k e => R (ix2 e k)) e := by
  unfold k0_pay10 k0_pay9
  generalize k0_pay8 (F := Ideal) X g sc sh V N = H
  pointwise
  simp only [zero_add, AttnMath.w_bot]
  rfl

/-- The affinities and their remainders side by side, then zeros. -/
theorem pay1_at (A B : FVec Ideal S16x1024 .f32) (r : Fin 1024) (l : Fin 128) :
    k0_pay1 (F := Ideal) A B k0_pay13 (ix2 r l)
      = if h : l.val < 16 then A (ix2 ⟨l.val, h⟩ r) else if h : l.val - 16 < 16 then B (ix2 ⟨l.val - 16, h⟩ r) else 0 := by
  pointwise [k0_pay1, k0_pay13]

end Cert.Kernel5Ideal.Router
-- ==== Proof.RouterRef.lean ====
module

public import proofs.«01_k».proof.Proof.Gen.Reference5Ideal.Read
public import proofs.«01_k».proof.Proof.RouterMath

@[expose] public section

set_option maxRecDepth 16384

noncomputable section

open Idealize.ShloMosaic Idealize.ShloMosaic.TcCoe Idealize.SL.Sem

namespace Cert.Reference5Ideal.Router

open Cert.Router Cert.Proj Cert.Reference5Ideal Cert.Reference5Ideal.Gen Cert.Reference5Ideal.Read

variable (x0 : FVec Ideal S8192x1024 .bf16) (x1 : FVec Ideal S4096x1024 .bf16) (x2 : FVec Ideal S12288x1024 .f32)
  (x3 : FVec Ideal S1x1024x1024 .f32) (x4 : FVec Ideal S2x1024 .f32) (x5 : FVec Ideal S2x16x6144 .f32) (x6 : FVec Ideal S2x1024x16 .f32)

/-- The part of the second layer's modulation that starts at column `o`: sequence `b` of the batch. -/
def part (o : Fin 6) (b : Fin 16) (k : Fin 1024) : EReal := x5 (ix3 1 b ⟨1024 * o.val + k.val, by omega⟩)

/-- The second layer's gains. -/
def gain (k : Fin 1024) : EReal := x4 (ix2 1 k)

/-- The weights of the mixer's projection. -/
def wOut (k j : Fin 1024) : EReal := x3 (ix3 0 k j)

/-- The second layer's router. -/
def wRouter (k : Fin 1024) (e : Fin 16) : EReal := x6 (ix3 1 k e)

/-- The row of the modulation's table a token takes: its sample's own, and row 0 for the prompt. -/
def seq (q : Fin 12288) : Fin 16 := if h : q.val < 8192 then ⟨1 + q.val / 1024, by omega⟩ else 0

/-- The mixer's row of a token. -/
def att (q : Fin 12288) (k : Fin 1024) : EReal :=
  if h : q.val < 8192 then x0 (ix2 ⟨q.val, h⟩ k) else x1 (ix2 ⟨q.val - 8192, by omega⟩ k)

/-- A token's new features. -/
def row (q : Fin 12288) : Fin 1024 → EReal := mixRow (att x0 x1 q) (wOut x3) (part x5 2 (seq q)) fun j => x2 (ix2 q j)

/-- A token's normalised features. -/
def hrow (q : Fin 12288) : Fin 1024 → EReal :=
  nrm (row x0 x1 x2 x3 x5 q) (gain x4) (part x5 4 (seq q)) (part x5 3 (seq q))

/-- A token's affinities. -/
def arow (q : Fin 12288) : Fin 16 → EReal := aff (logit (hrow x0 x1 x2 x3 x4 x5 q) (wRouter x6))

/-- A sample's new features. -/
theorem v17_at (b : Fin 8) (r j : Fin 1024) :
    val_main_v17 (F := Ideal) x0 x2 x3 x5 (ix3 b r j)
      = mixRow (fun k => x0 (ix2 ⟨b.val * 1024 + r.val, by omega⟩ k)) (wOut x3) (part x5 2 ⟨1 + b.val, by omega⟩)
          (fun j => x2 (ix2 ⟨b.val * 1024 + r.val, by omega⟩ j)) j := by
  pointwise [val_main_v8, val_main_v17, val_main_v16, val_main_v15, val_main_v14, val_main_v13, val_main_v12, val_main_v5, val_main_v4, val_main_v3, val_main_v2, val_main_v1, val_main_v0]
  rfl

/-- A sample's normalised features, from its new ones. -/
theorem v38_at (b : Fin 8) (r j : Fin 1024) :
    val_main_v38 (F := Ideal) x0 x2 x3 x4 x5 (ix3 b r j)
      = nrm (fun k => val_main_v17 (F := Ideal) x0 x2 x3 x5 (ix3 b r k)) (gain x4) (part x5 4 ⟨1 + b.val, by omega⟩)
          (part x5 3 ⟨1 + b.val, by omega⟩) j := by
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18
  generalize val_main_v17 (F := Ideal) x0 x2 x3 x5 = X
  pointwise [val_main_cst, val_main_cst_0, val_main_cst_1, val_main_cst_2, val_main_v5, val_main_v4, val_main_v3, val_main_v10, val_main_v9]
  rfl

/-- A prompt token's new features. -/
theorem v56_at (b : Fin 16) (r : Fin 256) (j : Fin 1024) :
    val_main_v56 (F := Ideal) x1 x2 x3 x5 (ix3 b r j)
      = mixRow (fun k => x1 (ix2 ⟨b.val * 256 + r.val, by omega⟩ k)) (wOut x3) (part x5 2 0)
          (fun j => x2 (ix2 ⟨8192 + (b.val * 256 + r.val), by omega⟩ j)) j := by
  pointwise [val_main_v56, val_main_v55, val_main_v54, val_main_v53, val_main_v52, val_main_v51, val_main_v44, val_main_v43, val_main_v42, val_main_v41, val_main_v40, val_main_v39, val_main_v47]
  rfl

/-- A prompt token's normalised features, from its new ones. -/
theorem v77_at (b : Fin 16) (r : Fin 256) (j : Fin 1024) :
    val_main_v77 (F := Ideal) x1 x2 x3 x4 x5 (ix3 b r j)
      = nrm (fun k => val_main_v56 (F := Ideal) x1 x2 x3 x5 (ix3 b r k)) (gain x4) (part x5 4 0) (part x5 3 0) j := by
  unfold val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57
  generalize val_main_v56 (F := Ideal) x1 x2 x3 x5 = X
  pointwise [val_main_cst_3, val_main_cst_4, val_main_cst_5, val_main_cst_6, val_main_v44, val_main_v43, val_main_v42, val_main_v49, val_main_v48]
  rfl

/-- The rows of both streams, one after the other: a sample's. -/
theorem join_lo (X : FVec Ideal S8x1024x1024 .f32) (Y : FVec Ideal S16x256x1024 .f32) (q : Fin 12288) (j : Fin 1024) (hq : q.val < 8192) :
    concatenate S12288x1024 0 [⟨S8192x1024, shapeCast S8192x1024 X shapeCasts_S8x1024x1024_S8192x1024⟩,
        ⟨S4096x1024, shapeCast S4096x1024 Y shapeCasts_S16x256x1024_S4096x1024⟩] concatenates_S8192x1024_S4096x1024_S12288x1024_d0 (ix2 q j)
      = X (ix3 ⟨q.val / 1024, by omega⟩ ⟨q.val % 1024, by omega⟩ j) := by
  pointwise
  exact dif_pos hq

/-- The rows of both streams, one after the other: a prompt token's. -/
theorem join_hi (X : FVec Ideal S8x1024x1024 .f32) (Y : FVec Ideal S16x256x1024 .f32) (q : Fin 12288) (j : Fin 1024) (hq : ¬ q.val < 8192) :
    concatenate S12288x1024 0 [⟨S8192x1024, shapeCast S8192x1024 X shapeCasts_S8x1024x1024_S8192x1024⟩,
        ⟨S4096x1024, shapeCast S4096x1024 Y shapeCasts_S16x256x1024_S4096x1024⟩] concatenates_S8192x1024_S4096x1024_S12288x1024_d0 (ix2 q j)
      = Y (ix3 ⟨(q.val - 8192) / 256, by omega⟩ ⟨(q.val - 8192) % 256, by omega⟩ j) := by
  pointwise
  exact dif_neg hq

/-- The new features the reference returns. -/
theorem v80_at (q : Fin 12288) (j : Fin 1024) : val_main_v80 (F := Ideal) x0 x1 x2 x3 x5 (ix2 q j) = row x0 x1 x2 x3 x5 q j := by
  unfold val_main_v80 val_main_v78 val_main_v79
  by_cases hq : q.val < 8192
  · rw [join_lo _ _ q j hq, v17_at]
    have e : q.val / 1024 * 1024 + q.val % 1024 = q.val := by omega
    have ha : att x0 x1 q = fun k => x0 (ix2 ⟨q.val, hq⟩ k) := funext fun k => dif_pos hq
    simp only [row, ha, seq, dif_pos hq, e]
  · rw [join_hi _ _ q j hq, v56_at]
    have e : (q.val - 8192) / 256 * 256 + (q.val - 8192) % 256 = q.val - 8192 := by omega
    have e' : 8192 + (q.val - 8192) = q.val := by omega
    have ha : att x0 x1 q = fun k => x1 (ix2 ⟨q.val - 8192, by omega⟩ k) := funext fun k => dif_neg hq
    simp only [row, ha, seq, dif_neg hq, e, e']

/-- The normalised features, before they are rounded. -/
theorem v83_at (q : Fin 12288) (j : Fin 1024) : val_main_v83 (F := Ideal) x0 x1 x2 x3 x4 x5 (ix2 q j) = hrow x0 x1 x2 x3 x4 x5 q j := by
  have h := fun k => v80_at x0 x1 x2 x3 x5 q k
  unfold val_main_v80 val_main_v78 val_main_v79 at h
  unfold val_main_v83 val_main_v81 val_main_v82
  by_cases hq : q.val < 8192
  · rw [join_lo _ _ q j hq, v38_at]
    have e := fun k => (join_lo _ _ q k hq).symm.trans (h k)
    simp only [e, hrow, seq, dif_pos hq]
  · rw [join_hi _ _ q j hq, v77_at]
    have e := fun k => (join_hi _ _ q k hq).symm.trans (h k)
    simp only [e, hrow, seq, dif_neg hq]

/-- The normalised features the reference returns. -/
theorem v99_at (q : Fin 12288) (j : Fin 1024) : val_main_v99 (F := Ideal) x0 x1 x2 x3 x4 x5 (ix2 q j) = hrow x0 x1 x2 x3 x4 x5 q j := by
  rw [← v83_at]
  unfold val_main_v99
  generalize val_main_v83 (F := Ideal) x0 x1 x2 x3 x4 x5 = X
  pointwise

/-- The router's scores. -/
theorem v86_at (q : Fin 12288) (e : Fin 16) :
    val_main_v86 (F := Ideal) x0 x1 x2 x3 x4 x5 x6 (ix2 q e) = logit (hrow x0 x1 x2 x3 x4 x5 q) (wRouter x6) e := by
  have h := fun k => v83_at x0 x1 x2 x3 x4 x5 q k
  unfold val_main_v86 val_main_v85 val_main_v84
  generalize val_main_v83 (F := Ideal) x0 x1 x2 x3 x4 x5 = X at h
  pointwise
  simp only [h, logit, wRouter]

/-- A maximum over the experts at a token. -/
theorem max_at (X : FVec Ideal S12288x16 .f32) (z : FVec Ideal S_ .f32) (q : Fin 12288) :
    Host.reduce FloatOps.maximumf X z reducesTo_S12288x16_S12288_d1 h_S_ (ix1 q)
      = Finset.fold max (z (Shape.Idx.first h_S_)) (fun s => X (ix2 q s)) Finset.univ := by
  simp only [pointwise]

/-- The scores' maxima, as they are subtracted. -/
theorem v89_at (q : Fin 12288) :
    val_main_v89 (F := Ideal) x0 x1 x2 x3 x4 x5 x6 (ix1 q)
      = Finset.univ.fold max ⊥ fun e => val_main_v86 (F := Ideal) x0 x1 x2 x3 x4 x5 x6 (ix2 q e) := by
  have hm : ∀ X : FVec Ideal S12288 .f32, maximumf (val_main_v88 (F := Ideal)) X (ix1 q) = max ⊥ (X (ix1 q)) := by
    intro X
    rw [← AttnMath.w_bot]
    pointwise [val_main_v88, val_main_cst_8]
  have hc : val_main_cst_7 (F := Ideal) (Shape.Idx.first h_S_) = (⊥ : EReal) := (val_main_cst_7_apply _).trans AttnMath.w_bot
  unfold val_main_v89 val_main_v87
  generalize val_main_v86 (F := Ideal) x0 x1 x2 x3 x4 x5 x6 = X
  rw [hm, max_at, hc]
  exact max_eq_right bot_le

/-- The affinities, token by token. -/
theorem v97_at (q : Fin 12288) (e : Fin 16) : val_main_v97 (F := Ideal) x0 x1 x2 x3 x4 x5 x6 (ix2 q e) = arow x0 x1 x2 x3 x4 x5 x6 q e := by
  have hl : (fun e => val_main_v86 (F := Ideal) x0 x1 x2 x3 x4 x5 x6 (ix2 q e)) = logit (hrow x0 x1 x2 x3 x4 x5 q) (wRouter x6) :=
    funext (v86_at x0 x1 x2 x3 x4 x5 x6 q)
  have hm := v89_at x0 x1 x2 x3 x4 x5 x6 q
  rw [hl] at hm
  have hl' := congrFun hl
  unfold val_main_v97 val_main_v96 val_main_v95 val_main_v94 val_main_v93 val_main_v92 val_main_v91 val_main_v90
  generalize val_main_v89 (F := Ideal) x0 x1 x2 x3 x4 x5 x6 = M at hm
  generalize val_main_v86 (F := Ideal) x0 x1 x2 x3 x4 x5 x6 = X at hl'
  pointwise [val_main_cst_9]
  dsimp only at hl'
  simp only [hm, hl', zero_add, arow, aff]

/-- The affinities the reference returns, expert by expert. -/
theorem v100_at (e : Fin 16) (q : Fin 12288) : val_main_v100 (F := Ideal) x0 x1 x2 x3 x4 x5 x6 (ix2 e q) = arow x0 x1 x2 x3 x4 x5 x6 q e := by
  rw [← v97_at]
  unfold val_main_v100
  generalize val_main_v97 (F := Ideal) x0 x1 x2 x3 x4 x5 x6 = X
  pointwise

/-- The affinities with zeros behind them. -/
theorem v101_at (q : Fin 12288) (l : Fin 128) :
    val_main_v101 (F := Ideal) x0 x1 x2 x3 x4 x5 x6 (ix2 q l)
      = if h : l.val < 16 then arow x0 x1 x2 x3 x4 x5 x6 q ⟨l.val, h⟩ else 0 := by
  simp only [← v97_at]
  unfold val_main_v101 val_main_v98
  generalize val_main_v97 (F := Ideal) x0 x1 x2 x3 x4 x5 x6 = X
  pointwise [val_main_call0_v0, val_main_c]
  rw [show FloatOps.sitofp (F := Ideal) .f32 0#32 = (0 : EReal) from by simp [FloatOps.sitofp]]

end Cert.Reference5Ideal.Router
-- ==== Proof.RouterBlocks.lean ====
module

public import proofs.«01_k».proof.Proof.RouterBody
public import proofs.«01_k».proof.Proof.RouterRef
public import proofs.«01_k».proof.Proof.Gen.Kernel5Ideal.Value
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.Kernel5Ideal.Router

open Cert.Kernel5Ideal Cert.Kernel5Ideal.Gen Cert.Router Cert.Proj Cert.Reference5Ideal.Router

/-- A row of the body's mixed rows, from the blocks. -/
def mixB (i : grid0.Coords) (x0 x1 x2 : FVec Ideal S1024x1024 .bf16) (x3 x4 : FVec Ideal S1024x1024 .f32) (x5 : FVec Ideal S1x1x1x1024 .f32)
    (r : Fin 1024) : Fin 1024 → EReal :=
  mixRow (fun k => tile i x0 x1 (ix2 r k)) (fun k j => x2 (ix2 k j)) (fun j => x5 (ix4 0 0 0 j)) fun j => tile i x3 x4 (ix2 r j)

/-- A row of the body's normalised rows, from the blocks. -/
def normB (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (r : Fin 1024) : Fin 1024 → EReal :=
  nrm (mixB i x0 x1 x2 x3 x4 x5 r) (fun k => x6 (ix2 0 k)) (fun k => x8 (ix4 0 0 0 k)) fun k => x7 (ix4 0 0 0 k)

/-- A token's affinities in the body, from the blocks. -/
def affB (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (r : Fin 1024) : Fin 16 → EReal :=
  aff (splitLogit (normB i x0 x1 x2 x3 x4 x5 x6 x7 x8 r) fun k e => x9 (ix2 e k))

/-- What the body writes to its first output: the mixed rows. -/
theorem out10_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (r j : Fin 1024) :
    out0_10 (F := Ideal) i x0 x1 x2 x3 x4 x5 x6 x7 x8 x9 (ix2 r j) = mixB i x0 x1 x2 x3 x4 x5 r j := by
  refine Eq.trans ?_ (pay2_at i x0 x1 x2 x3 x4 x5 r j)
  unfold_out out0_10
  frame_out

/-- The rows the body scores. -/
theorem norm_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (r j : Fin 1024) :
    k0_pay8 (F := Ideal) (k0_pay2 i x0 x1 x2 x3 x4 x5) (k0_pay3 x6) (k0_pay4 x8) (k0_pay5 x7) (k0_pay6 i x0 x1 x2 x3 x4 x5) k0_pay7 (ix2 r j)
      = normB i x0 x1 x2 x3 x4 x5 x6 x7 x8 r j := by
  refine (pay8_at _ _ _ _ _ (pay6_at i x0 x1 x2 x3 x4 x5) r j).trans ?_
  simp only [pay2_at]
  rfl

/-- What the body writes to its second output: the normalised rows. -/
theorem out11_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (r j : Fin 1024) :
    out0_11 (F := Ideal) i x0 x1 x2 x3 x4 x5 x6 x7 x8 x9 (ix2 r j) = normB i x0 x1 x2 x3 x4 x5 x6 x7 x8 r j := by
  refine Eq.trans ?_ ((pay9_at _ _ _ _ _ _ r j).trans (norm_at i x0 x1 x2 x3 x4 x5 x6 x7 x8 r j))
  unfold_out out0_11
  frame_out

/-- The affinities of the body's rows. -/
theorem score_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (e : Fin 16) (r : Fin 1024) :
    k0_pay10 (F := Ideal) (k0_pay2 i x0 x1 x2 x3 x4 x5) (k0_pay3 x6) (k0_pay4 x8) (k0_pay5 x7) (k0_pay6 i x0 x1 x2 x3 x4 x5) k0_pay7 x9 (ix2 e r)
      = affB i x0 x1 x2 x3 x4 x5 x6 x7 x8 x9 r e := by
  refine (pay10_at _ _ _ _ _ _ _ e r).trans ?_
  simp only [norm_at]
  rfl

/-- What the body writes to its third output: the affinities, expert by expert. -/
theorem out12_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (e : Fin 16) (r : Fin 1024) :
    out0_12 (F := Ideal) i x0 x1 x2 x3 x4 x5 x6 x7 x8 x9 (ix2 e r) = affB i x0 x1 x2 x3 x4 x5 x6 x7 x8 x9 r e := by
  refine Eq.trans ?_ (score_at i x0 x1 x2 x3 x4 x5 x6 x7 x8 x9 e r)
  unfold_out out0_12
  frame_out

/-- The affinities rounded and widened again are the affinities, ideally. -/
theorem pay11_at (X : FVec Ideal S1024x1024 .f32) (g sc sh : FVec Ideal S1x1024 .f32) (W N : FVec Ideal S1024x1 .f32) (R : FVec Ideal S16x1024 .f32)
    (e : Fin 16) (r : Fin 1024) : k0_pay11 (F := Ideal) X g sc sh W N R (ix2 e r) = k0_pay10 (F := Ideal) X g sc sh W N R (ix2 e r) := by
  unfold k0_pay11
  generalize k0_pay10 (F := Ideal) X g sc sh W N R = A
  pointwise

/-- The affinities' remainder: the affinities less themselves, ideally. -/
theorem pay12_at (X : FVec Ideal S1024x1024 .f32) (g sc sh : FVec Ideal S1x1024 .f32) (W N : FVec Ideal S1024x1 .f32) (R : FVec Ideal S16x1024 .f32)
    (e : Fin 16) (r : Fin 1024) :
    k0_pay12 (F := Ideal) X g sc sh W N R (ix2 e r) = k0_pay10 (F := Ideal) X g sc sh W N R (ix2 e r) - k0_pay10 (F := Ideal) X g sc sh W N R (ix2 e r) := by
  have h := pay11_at X g sc sh W N R e r
  unfold k0_pay12
  generalize k0_pay11 (F := Ideal) X g sc sh W N R = B at h
  generalize k0_pay10 (F := Ideal) X g sc sh W N R = A at h
  pointwise
  rw [h]

/-- What the body writes to its fourth output: a token's affinities, their remainders and zeros. -/
theorem out13_at (i : grid0.Coords) (x0 x1 x2 : FVec Ideal S1024x1024 .bf16) (x3 x4 : FVec Ideal S1024x1024 .f32) (x5 : FVec Ideal S1x1x1x1024 .f32)
    (x6 : FVec Ideal S1x1024 .f32) (x7 x8 : FVec Ideal S1x1x1x1024 .f32) (x9 : FVec Ideal S16x1024 .f32) (r : Fin 1024) (l : Fin 128) :
    out0_13 (F := Ideal) i x0 x1 x2 x3 x4 x5 x6 x7 x8 x9 (ix2 r l)
      = if h : l.val < 16 then affB i x0 x1 x2 x3 x4 x5 x6 x7 x8 x9 r ⟨l.val, h⟩
        else if h : l.val - 16 < 16 then
          affB i x0 x1 x2 x3 x4 x5 x6 x7 x8 x9 r ⟨l.val - 16, h⟩ - affB i x0 x1 x2 x3 x4 x5 x6 x7 x8 x9 r ⟨l.val - 16, h⟩
        else 0 := by
  have h := pay1_at (k0_pay11 (k0_pay2 i x0 x1 x2 x3 x4 x5) (k0_pay3 x6) (k0_pay4 x8) (k0_pay5 x7) (k0_pay6 i x0 x1 x2 x3 x4 x5) k0_pay7 x9)
    (k0_pay12 (k0_pay2 i x0 x1 x2 x3 x4 x5) (k0_pay3 x6) (k0_pay4 x8) (k0_pay5 x7) (k0_pay6 i x0 x1 x2 x3 x4 x5) k0_pay7 x9) r l
  simp only [pay11_at, pay12_at, score_at] at h
  refine Eq.trans ?_ h
  unfold_out out0_13
  frame_out

variable (m : (ℓ : Loc nD τ sig) → Buf (Elt Ideal) ℓ) (c : Dev nD)

/-- The samples' mixed rows. -/
abbrev ats := (m ((c : Thread nD τ).loc main_arg0) : FVec Ideal S8192x1024 .bf16)
/-- The prompt's mixed rows. -/
abbrev atp := (m ((c : Thread nD τ).loc main_arg1) : FVec Ideal S4096x1024 .bf16)
/-- The features. -/
abbrev xx := (m ((c : Thread nD τ).loc main_arg2) : FVec Ideal S12288x1024 .f32)
/-- The projection's weights. -/
abbrev wo := (m ((c : Thread nD τ).loc main_arg3) : FVec Ideal S1x1024x1024 .f32)
/-- The gains of both layers. -/
abbrev gs := (m ((c : Thread nD τ).loc main_arg4) : FVec Ideal S2x1024 .f32)
/-- The modulation's table. -/
abbrev tbl := (m ((c : Thread nD τ).loc main_arg5) : FVec Ideal S2x16x6144 .f32)
/-- The routers of both layers. -/
abbrev rs := (m ((c : Thread nD τ).loc main_arg6) : FVec Ideal S2x1024x16 .f32)

/-- The region finds the samples' rows as they were given. -/
theorem arg0_eq : (V m c main_arg0 : FVec Ideal S8192x1024 .bf16) = ats m c := by
  unfold V
  after_reads_simp

/-- The region finds the prompt's rows as they were given. -/
theorem arg1_eq : (V m c main_arg1 : FVec Ideal S4096x1024 .bf16) = atp m c := by
  unfold V
  after_reads_simp

/-- The region finds the features as they were given. -/
theorem arg2_eq : (V m c main_arg2 : FVec Ideal S12288x1024 .f32) = xx m c := by
  unfold V
  after_reads_simp

/-- The projection's weights. -/
theorem v2_at (k j : Fin 1024) : (V m c main_v2 : FVec Ideal S1024x1024 .bf16) (ix2 k j) = wo m c (ix3 0 k j) := by
  have e : (V m c main_v2 : FVec Ideal S1024x1024 .bf16) = (truncf .bf16 (shapeCast S1024x1024 (wo m c) shapeCasts_S1x1024x1024_S1024x1024) bitsLt_bf16_f32 : FVec Ideal S1024x1024 .bf16) := by
    unfold V
    after_reads_simp
    rfl
  rw [e]
  have h : ∀ X : FVec Ideal S1x1024x1024 .f32, (truncf .bf16 (shapeCast S1024x1024 X shapeCasts_S1x1024x1024_S1024x1024) bitsLt_bf16_f32 : FVec Ideal S1024x1024 .bf16) (ix2 k j) = X (ix3 0 k j) := by
    intro X
    pointwise
  exact h _

/-- The second layer's gains. -/
theorem v8_at (k : Fin 1024) : (V m c main_v8 : FVec Ideal S1x1024 .f32) (ix2 0 k) = gs m c (ix2 1 k) := by
  have e : (V m c main_v8 : FVec Ideal S1x1024 .f32) = (shapeCast S1x1024 (shapeCast S1024 (extractStridedSlice S1x1024 ![1, 0] (gs m c) slices_S2x1024_S1x1024_1_0) shapeCasts_S1x1024_S1024) shapeCasts_S1024_S1x1024 : FVec Ideal S1x1024 .f32) := by
    unfold V
    after_reads_simp
    rfl
  rw [e]
  have h : ∀ X : FVec Ideal S2x1024 .f32, (shapeCast S1x1024 (shapeCast S1024 (extractStridedSlice S1x1024 ![1, 0] X slices_S2x1024_S1x1024_1_0) shapeCasts_S1x1024_S1024) shapeCasts_S1024_S1x1024 : FVec Ideal S1x1024 .f32) (ix2 0 k) = X (ix2 1 k) := by
    intro X
    pointwise
  exact h _

/-- The modulation's table with its part axis. -/
theorem v0_at (l : Fin 2) (b : Fin 16) (k : Fin 6144) : (V m c main_v0 : FVec Ideal S2x16x1x6144 .f32) (ix4 l b 0 k) = tbl m c (ix3 l b k) := by
  have e : (V m c main_v0 : FVec Ideal S2x16x1x6144 .f32) = (shapeCast S2x16x1x6144 (tbl m c) shapeCasts_S2x16x6144_S2x16x1x6144 : FVec Ideal S2x16x1x6144 .f32) := by
    unfold V
    after_reads_simp
    rfl
  rw [e]
  have h : ∀ X : FVec Ideal S2x16x6144 .f32, (shapeCast S2x16x1x6144 X shapeCasts_S2x16x6144_S2x16x1x6144 : FVec Ideal S2x16x1x6144 .f32) (ix4 l b 0 k) = X (ix3 l b k) := by
    intro X
    pointwise
  exact h _

/-- The second layer's router, transposed. -/
theorem v7_at (j : Fin 16) (k : Fin 1024) : (V m c main_v7 : FVec Ideal S16x1024 .f32) (ix2 j k) = rs m c (ix3 1 k j) := by
  have e : (V m c main_v7 : FVec Ideal S16x1024 .f32) = (transpose S16x1024 [1, 0] (shapeCast S1024x16 (extractStridedSlice S1x1024x16 ![1, 0, 0] (rs m c) slices_S2x1024x16_S1x1024x16_1_0_0) shapeCasts_S1x1024x16_S1024x16) transposes_S1024x16_S16x1024_1_0 : FVec Ideal S16x1024 .f32) := by
    unfold V
    after_reads_simp
    rfl
  rw [e]
  have h : ∀ X : FVec Ideal S2x1024x16 .f32, (transpose S16x1024 [1, 0] (shapeCast S1024x16 (extractStridedSlice S1x1024x16 ![1, 0, 0] X slices_S2x1024x16_S1x1024x16_1_0_0) shapeCasts_S1x1024x16_S1024x16) transposes_S1024x16_S16x1024_1_0 : FVec Ideal S16x1024 .f32) (ix2 j k) = X (ix3 1 k j) := by
    intro X
    pointwise
  exact h _

/-- The windows' block indices. -/
theorem idx : ∀ t : Fin cfg0.N, win0_0.index t = ![min t.val 7, 0] ∧ win0_1.index t = ![t.val - 8, 0] ∧ win0_2.index t = ![0, 0]
    ∧ win0_3.index t = ![min t.val 7, 0] ∧ win0_4.index t = ![t.val - 8 + 8, 0] ∧ win0_5.index t = ![1, (if t.val < 8 then 1 + t.val else 0), 0, 2]
    ∧ win0_6.index t = ![0, 0] ∧ win0_7.index t = ![1, (if t.val < 8 then 1 + t.val else 0), 0, 3] ∧ win0_8.index t = ![1, (if t.val < 8 then 1 + t.val else 0), 0, 4]
    ∧ win0_9.index t = ![0, 0] ∧ win0_10.index t = ![t.val, 0] ∧ win0_11.index t = ![t.val, 0] ∧ win0_12.index t = ![0, t.val]
    ∧ win0_13.index t = ![t.val, 0] :=
  (by decide +kernel : ∀ t : Fin grid0.N, _)

/-- The grid has twelve points. -/
theorem idx_lt : ∀ t : Fin cfg0.N, t.val < 12 ∧ (grid0.coords t 0).val = t.val :=
  (by decide +kernel : ∀ t : Fin grid0.N, _)

/-- A sample's block of mixed rows. -/
theorem blk0 (t : Fin cfg0.N) (ht : t.val < 8) (r k : Fin 1024) :
    (iblk m c 0 t : FVec Ideal S1024x1024 .bf16) (ix2 r k) = ats m c (ix2 ⟨1024 * t.val + r.val, by omega⟩ k) := by
  refine Eq.trans ?_ (congrFun (arg0_eq m c) (ix2 ⟨1024 * t.val + r.val, by omega⟩ k))
  have e : min t.val 7 = t.val := by omega
  blk_ext [iblk, idx t, e]

/-- The prompt's block of mixed rows. -/
theorem blk1 (t : Fin cfg0.N) (ht : ¬ t.val < 8) (r k : Fin 1024) :
    (iblk m c 1 t : FVec Ideal S1024x1024 .bf16) (ix2 r k) = atp m c (ix2 ⟨1024 * (t.val - 8) + r.val, by have := (idx_lt t).1; omega⟩ k) := by
  have hN := (idx_lt t).1
  refine Eq.trans ?_ (congrFun (arg1_eq m c) (ix2 ⟨1024 * (t.val - 8) + r.val, by omega⟩ k))
  blk_ext [iblk, idx t]

/-- The weights' block. -/
theorem blk2 (t : Fin cfg0.N) (k j : Fin 1024) : (iblk m c 2 t : FVec Ideal S1024x1024 .bf16) (ix2 k j) = wOut (wo m c) k j := by
  refine Eq.trans ?_ (v2_at m c k j)
  blk_ext [iblk, idx t]

/-- A sample's block of features. -/
theorem blk3 (t : Fin cfg0.N) (ht : t.val < 8) (r k : Fin 1024) :
    (iblk m c 3 t : FVec Ideal S1024x1024 .f32) (ix2 r k) = xx m c (ix2 ⟨1024 * t.val + r.val, by omega⟩ k) := by
  refine Eq.trans ?_ (congrFun (arg2_eq m c) (ix2 ⟨1024 * t.val + r.val, by omega⟩ k))
  have e : min t.val 7 = t.val := by omega
  blk_ext [iblk, idx t, e]

/-- The prompt's block of features. -/
theorem blk4 (t : Fin cfg0.N) (ht : ¬ t.val < 8) (r k : Fin 1024) :
    (iblk m c 4 t : FVec Ideal S1024x1024 .f32) (ix2 r k) = xx m c (ix2 ⟨1024 * t.val + r.val, by have := (idx_lt t).1; omega⟩ k) := by
  have hN := (idx_lt t).1
  refine Eq.trans ?_ (congrFun (arg2_eq m c) (ix2 ⟨1024 * t.val + r.val, by omega⟩ k))
  have e : t.val - 8 + 8 = t.val := by omega
  blk_ext [iblk, idx t, e]

/-- The gates' block. -/
theorem blk5 (t : Fin cfg0.N) (b : Fin 16) (hb : b.val = if t.val < 8 then 1 + t.val else 0) (k : Fin 1024) :
    (iblk m c 5 t : FVec Ideal S1x1x1x1024 .f32) (ix4 0 0 0 k) = part (tbl m c) 2 b k := by
  refine Eq.trans ?_ (v0_at m c 1 b ⟨2048 + k.val, by omega⟩)
  blk_ext [iblk, idx t, hb]

/-- The gains' block. -/
theorem blk6 (t : Fin cfg0.N) (k : Fin 1024) : (iblk m c 6 t : FVec Ideal S1x1024 .f32) (ix2 0 k) = gain (gs m c) k := by
  refine Eq.trans ?_ (v8_at m c k)
  blk_ext [iblk, idx t]

/-- The shifts' block. -/
theorem blk7 (t : Fin cfg0.N) (b : Fin 16) (hb : b.val = if t.val < 8 then 1 + t.val else 0) (k : Fin 1024) :
    (iblk m c 7 t : FVec Ideal S1x1x1x1024 .f32) (ix4 0 0 0 k) = part (tbl m c) 3 b k := by
  refine Eq.trans ?_ (v0_at m c 1 b ⟨3072 + k.val, by omega⟩)
  blk_ext [iblk, idx t, hb]

/-- The scales' block. -/
theorem blk8 (t : Fin cfg0.N) (b : Fin 16) (hb : b.val = if t.val < 8 then 1 + t.val else 0) (k : Fin 1024) :
    (iblk m c 8 t : FVec Ideal S1x1x1x1024 .f32) (ix4 0 0 0 k) = part (tbl m c) 4 b k := by
  refine Eq.trans ?_ (v0_at m c 1 b ⟨4096 + k.val, by omega⟩)
  blk_ext [iblk, idx t, hb]

/-- The router's block. -/
theorem blk9 (t : Fin cfg0.N) (e : Fin 16) (k : Fin 1024) : (iblk m c 9 t : FVec Ideal S16x1024 .f32) (ix2 e k) = wRouter (rs m c) k e := by
  refine Eq.trans ?_ (v7_at m c e k)
  blk_ext [iblk, idx t]

/-- The row of the modulation's table a token takes is its grid point's. -/
theorem seq_val (t : Fin cfg0.N) (r : Fin 1024) (q : Fin 12288) (hq : q.val = 1024 * t.val + r.val) :
    (seq q).val = if t.val < 8 then 1 + t.val else 0 := by
  unfold seq
  by_cases ht : t.val < 8
  · rw [dif_pos (by omega), if_pos ht]
    show 1 + q.val / 1024 = 1 + t.val
    omega
  · rw [dif_neg (by omega), if_neg ht]
    rfl

/-- A grid point's mixed rows are the reference's. -/
theorem mix_eq (t : Fin cfg0.N) (r : Fin 1024) (q : Fin 12288) (hq : q.val = 1024 * t.val + r.val) :
    mixB (grid0.coords t) (iblk m c 0 t) (iblk m c 1 t) (iblk m c 2 t) (iblk m c 3 t) (iblk m c 4 t) (iblk m c 5 t) r
      = row (ats m c) (atp m c) (xx m c) (wo m c) (tbl m c) q := by
  have hi := (idx_lt t).2
  have e2 : (fun k j => (iblk m c 2 t : FVec Ideal S1024x1024 .bf16) (ix2 k j)) = wOut (wo m c) := funext fun k => funext (blk2 m c t k)
  have e5 := funext (blk5 m c t (seq q) (seq_val t r q hq))
  have ea : (fun k => tile (grid0.coords t) (iblk m c 0 t : FVec Ideal S1024x1024 .bf16) (iblk m c 1 t : FVec Ideal S1024x1024 .bf16) (ix2 r k))
      = att (ats m c) (atp m c) q := by
    funext k
    by_cases ht : t.val < 8
    · rw [tile, hi, if_pos ht, att, dif_pos (by omega)]
      refine (blk0 m c t ht r k).trans ?_
      simp only [hq]
    · rw [tile, hi, if_neg ht, att, dif_neg (by omega)]
      refine (blk1 m c t ht r k).trans ?_
      have e : 1024 * (t.val - 8) + r.val = q.val - 8192 := by omega
      simp only [e]
  have ex : (fun k => tile (grid0.coords t) (iblk m c 3 t : FVec Ideal S1024x1024 .f32) (iblk m c 4 t : FVec Ideal S1024x1024 .f32) (ix2 r k))
      = fun k => xx m c (ix2 q k) := by
    funext k
    by_cases ht : t.val < 8
    · rw [tile, hi, if_pos ht]
      refine (blk3 m c t ht r k).trans ?_
      simp only [← hq]
    · rw [tile, hi, if_neg ht]
      refine (blk4 m c t ht r k).trans ?_
      simp only [← hq]
  unfold mixB row
  rw [ea, e2, e5, ex]

/-- A grid point's normalised rows are the reference's. -/
theorem norm_eq (t : Fin cfg0.N) (r : Fin 1024) (q : Fin 12288) (hq : q.val = 1024 * t.val + r.val) :
    normB (grid0.coords t) (iblk m c 0 t) (iblk m c 1 t) (iblk m c 2 t) (iblk m c 3 t) (iblk m c 4 t) (iblk m c 5 t) (iblk m c 6 t)
        (iblk m c 7 t) (iblk m c 8 t) r
      = hrow (ats m c) (atp m c) (xx m c) (wo m c) (gs m c) (tbl m c) q := by
  have e6 := funext (blk6 m c t)
  have e7 := funext (blk7 m c t (seq q) (seq_val t r q hq))
  have e8 := funext (blk8 m c t (seq q) (seq_val t r q hq))
  unfold normB hrow
  rw [mix_eq m c t r q hq, e6, e7, e8]

/-- The second layer's gains, the first nine rows' shifts and scales and the router's weights are finite numbers. -/
def FinRouter (x4 : FVec Ideal S2x1024 .f32) (x5 : FVec Ideal S2x16x6144 .f32) (x6 : FVec Ideal S2x1024x16 .f32) : Prop :=
  (∀ k, ∃ y : ℝ, gain x4 k = y) ∧ (∀ b : Fin 16, b.val < 9 → ∀ k, (∃ y : ℝ, part x5 3 b k = y) ∧ ∃ y : ℝ, part x5 4 b k = y)
    ∧ ∀ k e, ∃ y : ℝ, wRouter x6 k e = y

variable (hx : FinRouter (gs m c) (tbl m c) (rs m c))
include hx

/-- A token's normalised features are finite. -/
theorem hrow_real (q : Fin 12288) (k : Fin 1024) : ∃ y : ℝ, hrow (ats m c) (atp m c) (xx m c) (wo m c) (gs m c) (tbl m c) q k = y := by
  have hb : (seq q).val < 9 := by
    unfold seq
    split
    · show 1 + q.val / 1024 < 9
      omega
    · exact Nat.zero_lt_succ _
  choose g hg using hx.1
  choose sh hsh using fun k => (hx.2.1 (seq q) hb k).1
  choose sc hsc using fun k => (hx.2.1 (seq q) hb k).2
  unfold hrow
  rw [show gain (gs m c) = fun k => ((g k : ℝ) : EReal) from funext hg, show part (tbl m c) 3 (seq q) = fun k => ((sh k : ℝ) : EReal) from funext hsh,
    show part (tbl m c) 4 (seq q) = fun k => ((sc k : ℝ) : EReal) from funext hsc]
  exact nrm_real _ g sc sh k

/-- A grid point's affinities are the reference's, and finite: one less itself is zero. -/
theorem aff_eq (t : Fin cfg0.N) (r : Fin 1024) (q : Fin 12288) (hq : q.val = 1024 * t.val + r.val) :
    affB (grid0.coords t) (iblk m c 0 t) (iblk m c 1 t) (iblk m c 2 t) (iblk m c 3 t) (iblk m c 4 t) (iblk m c 5 t) (iblk m c 6 t)
        (iblk m c 7 t) (iblk m c 8 t) (iblk m c 9 t) r
      = arow (ats m c) (atp m c) (xx m c) (wo m c) (gs m c) (tbl m c) (rs m c) q
    ∧ ∀ e, arow (ats m c) (atp m c) (xx m c) (wo m c) (gs m c) (tbl m c) (rs m c) q e
        - arow (ats m c) (atp m c) (xx m c) (wo m c) (gs m c) (tbl m c) (rs m c) q e = 0 := by
  choose h hh using hrow_real m c hx q
  choose w hw using fun p : Fin 1024 × Fin 16 => hx.2.2 p.1 p.2
  have e9 : (fun k e => (iblk m c 9 t : FVec Ideal S16x1024 .f32) (ix2 e k)) = wRouter (rs m c) := funext fun k => funext fun e => blk9 m c t e k
  have ew : wRouter (rs m c) = fun k e => ((w (k, e) : ℝ) : EReal) := funext fun k => funext fun e => hw (k, e)
  have eh : hrow (ats m c) (atp m c) (xx m c) (wo m c) (gs m c) (tbl m c) q = fun k => ((h k : ℝ) : EReal) := funext hh
  choose L hL using logit_real h fun k e => w (k, e)
  constructor
  · unfold affB arow
    rw [norm_eq m c t r q hq, e9, eh, ew, split_eq h fun k e => w (k, e)]
  · intro e
    unfold arow
    rw [eh, ew, show logit (fun k => ((h k : ℝ) : EReal)) (fun k e => ((w (k, e) : ℝ) : EReal)) = fun e => ((L e : ℝ) : EReal) from funext hL]
    exact aff_sub L e

omit hx

/-- The new features the kernel leaves are the reference's. -/
theorem final10 : (dats m 0 c).arrAt 10 cfg0.N = Reference5Ideal.Read.val_main_v80 (F := Ideal) (ats m c) (atp m c) (xx m c) (wo m c) (tbl m c) := by
  refine (dats m 0 c).arrAt_eq_of_covers 10 _ (by decide +kernel) fun t _ y => ?_
  blk_simp
  rw [after0_10]
  idx_vars y
  have hN := (idx_lt t).1
  refine Eq.trans ?_ ((v80_at (ats m c) (atp m c) (xx m c) (wo m c) (tbl m c) ⟨1024 * t.val + y0.val, by omega⟩ y1).symm.trans
    (congrArg (Reference5Ideal.Read.val_main_v80 (F := Ideal) (ats m c) (atp m c) (xx m c) (wo m c) (tbl m c)) ?_))
  · exact (out10_at _ _ _ _ _ _ _ _ _ _ _ y0 y1).trans (congrFun (mix_eq m c t y0 ⟨1024 * t.val + y0.val, by omega⟩ rfl) y1)
  · blk_ext [idx t]

/-- The normalised features the kernel leaves are the reference's. -/
theorem final11 : (dats m 0 c).arrAt 11 cfg0.N = Reference5Ideal.Read.val_main_v99 (F := Ideal) (ats m c) (atp m c) (xx m c) (wo m c) (gs m c) (tbl m c) := by
  refine (dats m 0 c).arrAt_eq_of_covers 11 _ (by decide +kernel) fun t _ y => ?_
  blk_simp
  rw [after0_11]
  idx_vars y
  have hN := (idx_lt t).1
  refine Eq.trans ?_ ((v99_at (ats m c) (atp m c) (xx m c) (wo m c) (gs m c) (tbl m c) ⟨1024 * t.val + y0.val, by omega⟩ y1).symm.trans
    (congrArg (Reference5Ideal.Read.val_main_v99 (F := Ideal) (ats m c) (atp m c) (xx m c) (wo m c) (gs m c) (tbl m c)) ?_))
  · exact (out11_at _ _ _ _ _ _ _ _ _ _ _ y0 y1).trans (congrFun (norm_eq m c t y0 ⟨1024 * t.val + y0.val, by omega⟩ rfl) y1)
  · blk_ext [idx t]

/-- The affinities the kernel leaves are the reference's. -/
theorem final12 (hx : FinRouter (gs m c) (tbl m c) (rs m c)) : (dats m 0 c).arrAt 12 cfg0.N = Reference5Ideal.Read.val_main_v100 (F := Ideal) (ats m c) (atp m c) (xx m c) (wo m c) (gs m c) (tbl m c) (rs m c) := by
  refine (dats m 0 c).arrAt_eq_of_covers 12 _ (by decide +kernel) fun t _ y => ?_
  blk_simp
  rw [after0_12]
  idx_vars y
  have hN := (idx_lt t).1
  refine Eq.trans ?_ ((v100_at (ats m c) (atp m c) (xx m c) (wo m c) (gs m c) (tbl m c) (rs m c) y0 ⟨1024 * t.val + y1.val, by omega⟩).symm.trans
    (congrArg (Reference5Ideal.Read.val_main_v100 (F := Ideal) (ats m c) (atp m c) (xx m c) (wo m c) (gs m c) (tbl m c) (rs m c)) ?_))
  · exact (out12_at _ _ _ _ _ _ _ _ _ _ _ y0 y1).trans (congrFun (aff_eq m c hx t y1 ⟨1024 * t.val + y1.val, by omega⟩ rfl).1 y0)
  · blk_ext [idx t]

/-- The affinities' lanes the kernel leaves are the reference's. -/
theorem final13 (hx : FinRouter (gs m c) (tbl m c) (rs m c)) : (dats m 0 c).arrAt 13 cfg0.N = Reference5Ideal.Read.val_main_v101 (F := Ideal) (ats m c) (atp m c) (xx m c) (wo m c) (gs m c) (tbl m c) (rs m c) := by
  refine (dats m 0 c).arrAt_eq_of_covers 13 _ (by decide +kernel) fun t _ y => ?_
  blk_simp
  rw [after0_13]
  idx_vars y
  have hN := (idx_lt t).1
  refine Eq.trans ?_ ((v101_at (ats m c) (atp m c) (xx m c) (wo m c) (gs m c) (tbl m c) (rs m c) ⟨1024 * t.val + y0.val, by omega⟩ y1).symm.trans
    (congrArg (Reference5Ideal.Read.val_main_v101 (F := Ideal) (ats m c) (atp m c) (xx m c) (wo m c) (gs m c) (tbl m c) (rs m c)) ?_))
  · obtain ⟨ea, ez⟩ := aff_eq m c hx t y0 ⟨1024 * t.val + y0.val, by omega⟩ rfl
    refine (out13_at _ _ _ _ _ _ _ _ _ _ _ y0 y1).trans ?_
    rw [ea]
    simp only [ez, dite_eq_ite, ite_self]
  · blk_ext [idx t]

end Cert.Kernel5Ideal.Router
-- ==== Proof.Router.lean ====
module

public import proofs.«01_k».proof.Proof.RouterBlocks
public import proofs.«01_k».proof.Proof.Finite
public import proofs.«01_k».proof.Defs
public import proofs.«01_k».proof.Proof.Gen.Reference5Ideal.Run
public import proofs.«01_k».proof.Proof.Gen.Pre_finite_router

@[expose] public section

set_option maxRecDepth 16384

noncomputable section

open Idealize.ShloMosaic Idealize.ShloMosaic.TcCoe Idealize.SL.Sem

namespace Cert.Router

open Cert.Kernel5Ideal Cert.Kernel5Ideal.Gen Cert.Kernel5Ideal.Router Cert.Reference5Ideal.Router

/-- The precondition says that the gains, the shifts and scales in use and the router's weights are finite. -/
theorem finite (x0 : FVec Ideal S8192x1024 .bf16) (x1 : FVec Ideal S4096x1024 .bf16) (x2 : FVec Ideal S12288x1024 .f32)
    (x3 : FVec Ideal S1x1024x1024 .f32) (x4 : FVec Ideal S2x1024 .f32) (x5 : FVec Ideal S2x16x6144 .f32) (x6 : FVec Ideal S2x1024x16 .f32)
    (h : Cert.Pre_finite_router.fn (F := Ideal) x0 x1 x2 x3 x4 x5 x6 = fun _ => 1#1) : FinRouter x4 x5 x6 := by
  have h' := congrFun h (fun a => a.elim0)
  obtain ⟨h12, h3⟩ := Finite.and_one _ _ h'
  obtain ⟨h1, h2⟩ := Finite.and_one _ _ h12
  have real : ∀ x : EReal, x ≠ ⊤ ∧ x ≠ ⊥ → ∃ y : ℝ, x = y := fun x k => ⟨x.toReal, (EReal.coe_toReal k.1 k.2).symm⟩
  have s4 : ∀ (X : FVec Ideal S2x1024 .f32) (k : Fin 1024), (shapeCast Pre_finite_router.S1024 (extractStridedSlice Pre_finite_router.S1x1024 ![1, 0] X
      Pre_finite_router.Facts.slices_S2x1024_S1x1024_1_0) Pre_finite_router.Facts.shapeCasts_S1x1024_S1024 : FVec Ideal Pre_finite_router.S1024 .f32) (ix1 k)
      = X (ix2 1 k) := by
    intro X k
    pointwise
  have s5 : ∀ (X : FVec Ideal S2x16x6144 .f32) (b : Fin 9) (k : Fin 2048), (shapeCast Pre_finite_router.S9x2048 (extractStridedSlice Pre_finite_router.S1x9x2048 ![1, 0, 3072] X
      Pre_finite_router.Facts.slices_S2x16x6144_S1x9x2048_1_0_3072) Pre_finite_router.Facts.shapeCasts_S1x9x2048_S9x2048 : FVec Ideal Pre_finite_router.S9x2048 .f32) (ix2 b k)
      = X (ix3 1 ⟨b.val, by omega⟩ ⟨3072 + k.val, by omega⟩) := by
    intro X b k
    pointwise
  have s6 : ∀ (X : FVec Ideal S2x1024x16 .f32) (k : Fin 1024) (e : Fin 16), (shapeCast Pre_finite_router.S1024x16 (extractStridedSlice Pre_finite_router.S1x1024x16 ![1, 0, 0] X
      Pre_finite_router.Facts.slices_S2x1024x16_S1x1024x16_1_0_0) Pre_finite_router.Facts.shapeCasts_S1x1024x16_S1024x16 : FVec Ideal Pre_finite_router.S1024x16 .f32) (ix2 k e)
      = X (ix3 1 k e) := by
    intro X k e
    pointwise
  have f5 : ∀ (b : Fin 9) (k : Fin 2048), ∃ y : ℝ, x5 (ix3 1 ⟨b.val, by omega⟩ ⟨3072 + k.val, by omega⟩) = y := by
    intro b k
    rw [← s5 x5 b k]
    exact real _ (Finite.ne_of_abs_lt _ (Finite.reduce_and _ _ _ _ _ h2 (ix2 b k)))
  refine ⟨fun k => ?_, fun b hb k => ⟨?_, ?_⟩, fun k e => ?_⟩
  · unfold gain
    rw [← s4 x4 k]
    exact real _ (Finite.ne_of_abs_lt _ (Finite.reduce_and _ _ _ _ _ h1 (ix1 k)))
  · exact f5 ⟨b.val, hb⟩ ⟨k.val, by omega⟩
  · have e : 3072 + (1024 + k.val) = 1024 * (4 : Fin 6).val + k.val := by
      show 3072 + (1024 + k.val) = 1024 * 4 + k.val
      omega
    have f := f5 ⟨b.val, hb⟩ ⟨1024 + k.val, by omega⟩
    simp only [e] at f
    exact f
  · unfold wRouter
    rw [← s6 x6 k e]
    exact real _ (Finite.ne_of_abs_lt _ (Finite.reduce_and _ _ _ _ _ h3 (ix2 k e)))

/-- Over the extended reals the kernel of the output projection and the router ends with the reference's new features, normalised
    features, affinities and affinity lanes, from equal arguments whose gains, shifts, scales and router weights are finite. -/
theorem algebraic : algebraic_Kernel5Ideal_Reference5Ideal_pre_finite_router
    (hKernel5Ideal := Kernel5Ideal.Gen.facts) (hReference5Ideal := Reference5Ideal.Gen.facts) (hPre_finite_router := Pre_finite_router.Gen.facts) := by
  intro m g m' g' hp ha
  refine ⟨fun c => (dats m 0 c).arrAt 10 cfg0.N, fun c => (dats m 0 c).arrAt 11 cfg0.N, fun c => (dats m 0 c).arrAt 12 cfg0.N,
    fun c => (dats m 0 c).arrAt 13 cfg0.N, ?_, ?_⟩
  · exact (θ_run _ _ _).mono (fun r h c => h c) (Kernel5Ideal.Value.run_blocks m g)
  · refine (θ_run _ _ _).mono (fun r h c => ⟨(h c).1.trans ?_, (h c).2.1.trans ?_, (h c).2.2.1.trans ?_, (h c).2.2.2.1.trans ?_, (h c).2.2.2.2⟩)
      (Reference5Ideal.Value.run m' g')
    · rw [Reference5Ideal.Read.val_main_v80_eq]
      obtain ⟨e0, e1, e2, e3, e4, e5, e6⟩ := ha c
      refine (congr (congr (congr (congrArg₂ (Reference5Ideal.Read.val_main_v80 (F := Ideal)) e0 e1) e2) e3) e5).trans ?_
      exact (final10 m c).symm
    · rw [Reference5Ideal.Read.val_main_v99_eq]
      obtain ⟨e0, e1, e2, e3, e4, e5, e6⟩ := ha c
      refine (congr (congr (congr (congr (congrArg₂ (Reference5Ideal.Read.val_main_v99 (F := Ideal)) e0 e1) e2) e3) e4) e5).trans ?_
      exact (final11 m c).symm
    · rw [Reference5Ideal.Read.val_main_v100_eq]
      obtain ⟨e0, e1, e2, e3, e4, e5, e6⟩ := ha c
      refine (congr (congr (congr (congr (congr (congrArg₂ (Reference5Ideal.Read.val_main_v100 (F := Ideal)) e0 e1) e2) e3) e4) e5) e6).trans ?_
      exact (final12 m c (finite _ _ _ _ _ _ _ (hp c))).symm
    · rw [Reference5Ideal.Read.val_main_v101_eq]
      obtain ⟨e0, e1, e2, e3, e4, e5, e6⟩ := ha c
      refine (congr (congr (congr (congr (congr (congrArg₂ (Reference5Ideal.Read.val_main_v101 (F := Ideal)) e0 e1) e2) e3) e4) e5) e6).trans ?_
      exact (final13 m c (finite _ _ _ _ _ _ _ (hp c))).symm

end Cert.Router
-- ==== Proof.ModRef.lean ====
module

public import proofs.«01_k».proof.Proof.Gen.Reference6Ideal.Read
public import Idealize.ShloMosaic.Lib.Pointwise

@[expose] public section

set_option maxRecDepth 16384

noncomputable section

open Idealize.ShloMosaic Idealize.ShloMosaic.TcCoe Idealize.SL.Sem

namespace Cert.Reference6Ideal.Mod

open Cert.Reference6Ideal Cert.Reference6Ideal.Gen Cert.Reference6Ideal.Read

variable (x0 : FVec Ideal S1024 .f32) (x1 : FVec Ideal S8x1024 .f32) (x2 : FVec Ideal S2x1024x6144 .f32) (x3 : FVec Ideal S2x6144 .f32)

/-- SiLU. -/
def silu (x : EReal) : EReal := x * Ideal.logistic x

/-- The conditions of the sequences: the prompt's, the samples', and zeros. -/
def cond (b : Fin 16) (k : Fin 1024) : EReal :=
  if h : b.val < 1 then x0 (ix1 k) else if h : b.val - 1 < 8 then x1 (ix2 ⟨b.val - 1, h⟩ k) else 0

/-- A column of the modulation: SiLU of a condition times a column of weights, plus a bias. -/
def lin (a w : Fin 1024 → EReal) (z : EReal) : EReal := ∑ k, silu (a k) * w k + z

/-- The modulation's columns: first layer, prompt. -/
theorem v9_at (b : Fin 1) (n : Fin 6144) :
    val_main_v9 (F := Ideal) x0 x2 x3 (ix2 b n) = lin (fun k => x0 (ix1 k)) (fun k => x2 (ix3 0 k n)) (x3 (ix2 0 n)) := by
  unfold lin silu
  pointwise [val_main_v9, val_main_v5, val_main_v2, val_main_v1, val_main_v4, val_main_v3, val_main_v8, val_main_v7, val_main_v6, val_main_call0_v5, val_main_call0_v4, val_main_call0_v3, val_main_call0_v2, val_main_call0_v1, val_main_call0_v0, val_main_call0_cst, val_main_call0_cst_0]
  rfl

/-- The modulation's columns: first layer, samples. -/
theorem v18_at (b : Fin 8) (n : Fin 6144) :
    val_main_v18 (F := Ideal) x1 x2 x3 (ix2 b n) = lin (fun k => x1 (ix2 b k)) (fun k => x2 (ix3 0 k n)) (x3 (ix2 0 n)) := by
  unfold lin silu
  pointwise [val_main_v18, val_main_v13, val_main_v10, val_main_v12, val_main_v11, val_main_v17, val_main_v16, val_main_v15, val_main_v14, val_main_call1_v5, val_main_call1_v4, val_main_call1_v3, val_main_call1_v2, val_main_call1_v1, val_main_call1_v0, val_main_call1_cst, val_main_call1_cst_0]
  rfl

/-- The modulation's columns: first layer, unused rows. -/
theorem v27_at (b : Fin 7) (n : Fin 6144) :
    val_main_v27 (F := Ideal) x2 x3 (ix2 b n) = lin (fun k => 0) (fun k => x2 (ix3 0 k n)) (x3 (ix2 0 n)) := by
  unfold lin silu
  pointwise [val_main_v27, val_main_v22, val_main_v19, val_main_v0, val_main_cst, val_main_v21, val_main_v20, val_main_v26, val_main_v25, val_main_v24, val_main_v23, val_main_call2_v5, val_main_call2_v4, val_main_call2_v3, val_main_call2_v2, val_main_call2_v1, val_main_call2_v0, val_main_call2_cst, val_main_call2_cst_0]
  rfl

/-- The modulation's columns: second layer, prompt. -/
theorem v37_at (b : Fin 1) (n : Fin 6144) :
    val_main_v37 (F := Ideal) x0 x2 x3 (ix2 b n) = lin (fun k => x0 (ix1 k)) (fun k => x2 (ix3 1 k n)) (x3 (ix2 1 n)) := by
  unfold lin silu
  pointwise [val_main_v37, val_main_v33, val_main_v30, val_main_v29, val_main_v32, val_main_v31, val_main_v36, val_main_v35, val_main_v34, val_main_call3_v5, val_main_call3_v4, val_main_call3_v3, val_main_call3_v2, val_main_call3_v1, val_main_call3_v0, val_main_call3_cst, val_main_call3_cst_0]
  rfl

/-- The modulation's columns: second layer, samples. -/
theorem v46_at (b : Fin 8) (n : Fin 6144) :
    val_main_v46 (F := Ideal) x1 x2 x3 (ix2 b n) = lin (fun k => x1 (ix2 b k)) (fun k => x2 (ix3 1 k n)) (x3 (ix2 1 n)) := by
  unfold lin silu
  pointwise [val_main_v46, val_main_v41, val_main_v38, val_main_v40, val_main_v39, val_main_v45, val_main_v44, val_main_v43, val_main_v42, val_main_call4_v5, val_main_call4_v4, val_main_call4_v3, val_main_call4_v2, val_main_call4_v1, val_main_call4_v0, val_main_call4_cst, val_main_call4_cst_0]
  rfl

/-- The modulation's columns: second layer, unused rows. -/
theorem v55_at (b : Fin 7) (n : Fin 6144) :
    val_main_v55 (F := Ideal) x2 x3 (ix2 b n) = lin (fun k => 0) (fun k => x2 (ix3 1 k n)) (x3 (ix2 1 n)) := by
  unfold lin silu
  pointwise [val_main_v55, val_main_v50, val_main_v47, val_main_v0, val_main_cst, val_main_v49, val_main_v48, val_main_v54, val_main_v53, val_main_v52, val_main_v51, val_main_call5_v5, val_main_call5_v4, val_main_call5_v3, val_main_call5_v2, val_main_call5_v1, val_main_call5_v0, val_main_call5_cst, val_main_call5_cst_0]
  rfl

/-- Three groups of rows, one after the other. -/
theorem join_at (X : FVec Ideal S1x6144 .f32) (Y : FVec Ideal S8x6144 .f32) (Z : FVec Ideal S7x6144 .f32) (b : Fin 16) (n : Fin 6144) :
    concatenate S16x6144 0 [⟨S1x6144, X⟩, ⟨S8x6144, Y⟩, ⟨S7x6144, Z⟩] concatenates_S1x6144_S8x6144_S7x6144_S16x6144_d0 (ix2 b n)
      = if h : b.val < 1 then X (ix2 ⟨b.val, h⟩ n) else if h : b.val - 1 < 8 then Y (ix2 ⟨b.val - 1, h⟩ n) else Z (ix2 ⟨b.val - 1 - 8, by omega⟩ n) := by
  pointwise

/-- The first layer's rows. -/
theorem v28_at (b : Fin 16) (n : Fin 6144) :
    val_main_v28 (F := Ideal) x0 x1 x2 x3 (ix2 b n) = lin (cond x0 x1 b) (fun k => x2 (ix3 0 k n)) (x3 (ix2 0 n)) := by
  unfold val_main_v28
  refine (join_at _ _ _ b n).trans ?_
  by_cases h : b.val < 1
  · have e : cond x0 x1 b = fun k => x0 (ix1 k) := funext fun k => dif_pos h
    rw [dif_pos h, v9_at, e]
  · by_cases h2 : b.val - 1 < 8
    · have e : cond x0 x1 b = fun k => x1 (ix2 ⟨b.val - 1, h2⟩ k) := funext fun k => (dif_neg h).trans (dif_pos h2)
      rw [dif_neg h, dif_pos h2, v18_at, e]
    · have e : cond x0 x1 b = fun k => 0 := funext fun k => (dif_neg h).trans (dif_neg h2)
      rw [dif_neg h, dif_neg h2, v27_at, e]

/-- The second layer's rows. -/
theorem v56_at (b : Fin 16) (n : Fin 6144) :
    val_main_v56 (F := Ideal) x0 x1 x2 x3 (ix2 b n) = lin (cond x0 x1 b) (fun k => x2 (ix3 1 k n)) (x3 (ix2 1 n)) := by
  unfold val_main_v56
  refine (join_at _ _ _ b n).trans ?_
  by_cases h : b.val < 1
  · have e : cond x0 x1 b = fun k => x0 (ix1 k) := funext fun k => dif_pos h
    rw [dif_pos h, v37_at, e]
  · by_cases h2 : b.val - 1 < 8
    · have e : cond x0 x1 b = fun k => x1 (ix2 ⟨b.val - 1, h2⟩ k) := funext fun k => (dif_neg h).trans (dif_pos h2)
      rw [dif_neg h, dif_pos h2, v46_at, e]
    · have e : cond x0 x1 b = fun k => 0 := funext fun k => (dif_neg h).trans (dif_neg h2)
      rw [dif_neg h, dif_neg h2, v55_at, e]

/-- The modulation's table. -/
theorem v59_at (l : Fin 2) (b : Fin 16) (n : Fin 6144) :
    val_main_v59 (F := Ideal) x0 x1 x2 x3 (ix3 l b n) = lin (cond x0 x1 b) (fun k => x2 (ix3 l k n)) (x3 (ix2 l n)) := by
  have h0 := v28_at x0 x1 x2 x3 b n
  have h1 := v56_at x0 x1 x2 x3 b n
  unfold val_main_v59 val_main_v57 val_main_v58
  generalize val_main_v28 (F := Ideal) x0 x1 x2 x3 = X at h0
  generalize val_main_v56 (F := Ideal) x0 x1 x2 x3 = Y at h1
  by_cases hl : l.val < 1
  · obtain rfl : l = 0 := Fin.ext (by show l.val = 0; omega)
    rw [← h0]
    pointwise
  · obtain rfl : l = 1 := Fin.ext (by show l.val = 1; omega)
    rw [← h1]
    pointwise

end Cert.Reference6Ideal.Mod
-- ==== Proof.ModBlocks.lean ====
module

public import proofs.«01_k».proof.Proof.ModRef
public import proofs.«01_k».proof.Proof.Gen.Kernel6Ideal.Value
public import Idealize.ShloMosaic.Lib.Pipeline.ValueKit
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem

namespace Cert.Kernel6Ideal.Mod

open Cert.Kernel6Ideal Cert.Kernel6Ideal.Gen Cert.Reference6Ideal.Mod

/-- A column of the modulation as the kernel sums it: the high parts' product, the condition's remainder, the weights' remainder. -/
def splitLin (a w : Fin 1024 → EReal) (z : EReal) : EReal :=
  ∑ k, silu (a k) * w k + ∑ k, (silu (a k) - silu (a k)) * w k + ∑ k, silu (a k) * (w k - w k) + z

/-- For finite conditions and weights the remainders are zero. -/
theorem split_lin (a w : Fin 1024 → EReal) (z : EReal) (ha : ∀ k, ∃ y : ℝ, a k = y) (hw : ∀ k, ∃ y : ℝ, w k = y) : splitLin a w z = lin a w z := by
  have zero : ∀ x : EReal, (∃ y : ℝ, x = y) → x - x = 0 := by
    rintro x ⟨y, rfl⟩
    exact EReal.sub_self (EReal.coe_ne_top y) (EReal.coe_ne_bot y)
  have hs : ∀ k, ∃ y : ℝ, silu (a k) = y := by
    intro k
    obtain ⟨y, hy⟩ := ha k
    exact ⟨y * (1 + Real.exp (-y))⁻¹, by rw [hy, silu, Ideal.logistic_coe, EReal.coe_mul]⟩
  unfold splitLin lin
  simp only [fun k => zero _ (hs k), fun k => zero _ (hw k), zero_mul, mul_zero, Finset.sum_const_zero, add_zero]

/-- What a grid point writes, from its blocks. -/
theorem out_at (x0 : FVec Ideal S16x1024 .f32) (x1 : FVec Ideal S1x1024x1536 .f32) (x2 : FVec Ideal S1x1x1536 .f32) (b : Fin 16) (n : Fin 1536) :
    out0_3 (F := Ideal) x0 x1 x2 (ix3 0 b n)
      = splitLin (fun k => x0 (ix2 b k)) (fun k => x1 (ix3 0 k n)) (x2 (ix3 0 0 n)) := by
  have h : k0_pay1 (F := Ideal) x0 x1 x2 (ix3 0 b n) = splitLin (fun k => x0 (ix2 b k)) (fun k => x1 (ix3 0 k n)) (x2 (ix3 0 0 n)) := by
    pointwise [k0_pay1]
    rfl
  refine Eq.trans ?_ h
  unfold out0_3
  frame_out

variable (m : (ℓ : Loc nD τ sig) → Buf (Elt Ideal) ℓ) (c : Dev nD)

/-- The prompt's condition. -/
abbrev cp := (m ((c : Thread nD τ).loc main_arg0) : FVec Ideal S1024 .f32)
/-- The samples' conditions. -/
abbrev cs := (m ((c : Thread nD τ).loc main_arg1) : FVec Ideal S8x1024 .f32)
/-- The weights. -/
abbrev ws := (m ((c : Thread nD τ).loc main_arg2) : FVec Ideal S2x1024x6144 .f32)
/-- The biases. -/
abbrev bs := (m ((c : Thread nD τ).loc main_arg3) : FVec Ideal S2x6144 .f32)

/-- The conditions the region finds. -/
theorem v2_at (b : Fin 16) (k : Fin 1024) : (V m c main_v2 : FVec Ideal S16x1024 .f32) (ix2 b k) = cond (cp m c) (cs m c) b k := by
  have e : (V m c main_v2 : FVec Ideal S16x1024 .f32)
      = concatenate S16x1024 0 [⟨S1x1024, broadcastInDim S1x1024 ![1] bcast_S1024_S1x1024_1 (cp m c)⟩, ⟨S8x1024, cs m c⟩,
          ⟨S7x1024, broadcastInDim S7x1024 ![] bcast_S_S7x1024 (constant (F := Ideal) S_ .f32 0x00000000#32)⟩]
          concatenates_S1x1024_S8x1024_S7x1024_S16x1024_d0 := by
    unfold V
    after_reads_simp
    rfl
  rw [e]
  have h : ∀ (X : FVec Ideal S1024 .f32) (Y : FVec Ideal S8x1024 .f32),
      concatenate S16x1024 0 [⟨S1x1024, broadcastInDim S1x1024 ![1] bcast_S1024_S1x1024_1 X⟩, ⟨S8x1024, Y⟩,
          ⟨S7x1024, broadcastInDim S7x1024 ![] bcast_S_S7x1024 (constant (F := Ideal) S_ .f32 0x00000000#32)⟩]
          concatenates_S1x1024_S8x1024_S7x1024_S16x1024_d0 (ix2 b k) = cond X Y b k := by
    intro X Y
    unfold Cert.Reference6Ideal.Mod.cond
    pointwise
  exact h _ _

/-- The weights the region finds. -/
theorem arg2_eq : (V m c main_arg2 : FVec Ideal S2x1024x6144 .f32) = ws m c := by
  unfold V
  after_reads_simp

/-- The biases the region finds. -/
theorem v3_at (l : Fin 2) (n : Fin 6144) : (V m c main_v3 : FVec Ideal S2x1x6144 .f32) (ix3 l 0 n) = bs m c (ix2 l n) := by
  have e : (V m c main_v3 : FVec Ideal S2x1x6144 .f32) = shapeCast S2x1x6144 (bs m c) shapeCasts_S2x6144_S2x1x6144 := by
    unfold V
    after_reads_simp
    rfl
  rw [e]
  have h : ∀ X : FVec Ideal S2x6144 .f32, shapeCast S2x1x6144 X shapeCasts_S2x6144_S2x1x6144 (ix3 l 0 n) = X (ix2 l n) := by
    intro X
    pointwise
  exact h _

/-- The windows' block indices. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ t.val < 8 :=
  (by decide +kernel : ∀ t : Fin grid0.N, _)

/-- The conditions' block. -/
theorem blk0 (t : Fin cfg0.N) (b : Fin 16) (k : Fin 1024) : (iblk m c 0 t : FVec Ideal S16x1024 .f32) (ix2 b k) = cond (cp m c) (cs m c) b k := by
  refine Eq.trans ?_ (v2_at m c b k)
  blk_ext [iblk, idx t]

/-- The weights' block. -/
theorem blk1 (t : Fin cfg0.N) (k : Fin 1024) (n : Fin 1536) :
    (iblk m c 1 t : FVec Ideal S1x1024x1536 .f32) (ix3 0 k n)
      = ws m c (ix3 ⟨t.val / 4, by have := (idx t).2.2.2.2; omega⟩ k ⟨1536 * (t.val % 4) + n.val, by omega⟩) := by
  have hN := (idx t).2.2.2.2
  refine Eq.trans ?_ (congrFun (arg2_eq m c) (ix3 ⟨t.val / 4, by omega⟩ k ⟨1536 * (t.val % 4) + n.val, by omega⟩))
  blk_ext [iblk, idx t]

/-- The biases' block. -/
theorem blk2 (t : Fin cfg0.N) (n : Fin 1536) :
    (iblk m c 2 t : FVec Ideal S1x1x1536 .f32) (ix3 0 0 n)
      = bs m c (ix2 ⟨t.val / 4, by have := (idx t).2.2.2.2; omega⟩ ⟨1536 * (t.val % 4) + n.val, by omega⟩) := by
  have hN := (idx t).2.2.2.2
  refine Eq.trans ?_ (v3_at m c ⟨t.val / 4, by omega⟩ ⟨1536 * (t.val % 4) + n.val, by omega⟩)
  blk_ext [iblk, idx t]

/-- The conditions and the weights are finite numbers. -/
def FinCond (x0 : FVec Ideal S1024 .f32) (x1 : FVec Ideal S8x1024 .f32) (x2 : FVec Ideal S2x1024x6144 .f32) : Prop :=
  (∀ i, ∃ y : ℝ, x0 i = y) ∧ (∀ i, ∃ y : ℝ, x1 i = y) ∧ ∀ i, ∃ y : ℝ, x2 i = y

/-- Every sequence's condition is finite, the unused ones' being zero. -/
theorem cond_real (x0 : FVec Ideal S1024 .f32) (x1 : FVec Ideal S8x1024 .f32) (h0 : ∀ i, ∃ y : ℝ, x0 i = y) (h1 : ∀ i, ∃ y : ℝ, x1 i = y)
    (b : Fin 16) (k : Fin 1024) : ∃ y : ℝ, cond x0 x1 b k = y := by
  unfold Cert.Reference6Ideal.Mod.cond
  split
  · exact h0 _
  · split
    · exact h1 _
    · exact ⟨0, rfl⟩

/-- The table the kernel leaves is the reference's. -/
theorem final3 (hx : FinCond (cp m c) (cs m c) (ws m c)) : (dats m 0 c).arrAt 3 cfg0.N
    = Reference6Ideal.Read.val_main_v59 (F := Ideal) (cp m c) (cs m c) (ws m c) (bs m c) := by
  refine (dats m 0 c).arrAt_eq_of_covers 3 _ (by decide +kernel) fun t _ y => ?_
  blk_simp
  rw [after0_3]
  idx_vars y
  have hN := (idx t).2.2.2.2
  obtain rfl : y0 = 0 := Subsingleton.elim _ _
  refine Eq.trans ?_ ((v59_at (cp m c) (cs m c) (ws m c) (bs m c) ⟨t.val / 4, by omega⟩ y1 ⟨1536 * (t.val % 4) + y2.val, by omega⟩).symm.trans
    (congrArg (Reference6Ideal.Read.val_main_v59 (F := Ideal) (cp m c) (cs m c) (ws m c) (bs m c)) ?_))
  · refine (out_at _ _ _ y1 y2).trans ?_
    rw [show (fun k => (iblk m c 0 t : FVec Ideal S16x1024 .f32) (ix2 y1 k)) = _ from funext (blk0 m c t y1),
      show (fun k => (iblk m c 1 t : FVec Ideal S1x1024x1536 .f32) (ix3 0 k y2)) = _ from funext fun k => blk1 m c t k y2, blk2 m c t y2]
    exact split_lin _ _ _ (cond_real _ _ hx.1 hx.2.1 y1) fun k => hx.2.2 _
  · blk_ext [idx t]

end Cert.Kernel6Ideal.Mod
-- ==== Proof.Mod.lean ====
module

public import proofs.«01_k».proof.Proof.ModBlocks
public import proofs.«01_k».proof.Proof.Finite
public import proofs.«01_k».proof.Defs
public import proofs.«01_k».proof.Proof.Gen.Reference6Ideal.Run
public import proofs.«01_k».proof.Proof.Gen.Pre_finite_cond

@[expose] public section

set_option maxRecDepth 16384

noncomputable section

open Idealize.ShloMosaic Idealize.ShloMosaic.TcCoe Idealize.SL.Sem

namespace Cert.Mod

open Cert.Kernel6Ideal Cert.Kernel6Ideal.Gen Cert.Kernel6Ideal.Mod

/-- The precondition says that the conditions and the weights are finite. -/
theorem finite (x0 : FVec Ideal S1024 .f32) (x1 : FVec Ideal S8x1024 .f32) (x2 : FVec Ideal S2x1024x6144 .f32) (x3 : FVec Ideal S2x6144 .f32)
    (h : Cert.Pre_finite_cond.fn (F := Ideal) x0 x1 x2 x3 = fun _ => 1#1) : FinCond x0 x1 x2 := by
  have h' := congrFun h (fun a => a.elim0)
  obtain ⟨h12, h3⟩ := Finite.and_one _ _ h'
  obtain ⟨h1, h2⟩ := Finite.and_one _ _ h12
  have real : ∀ x : EReal, x ≠ ⊤ ∧ x ≠ ⊥ → ∃ y : ℝ, x = y := fun x k => ⟨x.toReal, (EReal.coe_toReal k.1 k.2).symm⟩
  exact ⟨fun i => real _ (Finite.ne_of_abs_lt _ (Finite.reduce_and _ _ _ _ _ h1 i)),
    fun i => real _ (Finite.ne_of_abs_lt _ (Finite.reduce_and _ _ _ _ _ h2 i)),
    fun i => real _ (Finite.ne_of_abs_lt _ (Finite.reduce_and _ _ _ _ _ h3 i))⟩

/-- Over the extended reals the modulation's kernel and its reference end with the same table, from equal arguments whose
    conditions and weights are finite. -/
theorem algebraic : algebraic_Kernel6Ideal_Reference6Ideal_pre_finite_cond
    (hKernel6Ideal := Kernel6Ideal.Gen.facts) (hReference6Ideal := Reference6Ideal.Gen.facts) (hPre_finite_cond := Pre_finite_cond.Gen.facts) := by
  intro m g m' g' hp ha
  refine ⟨fun c => (dats m 0 c).arrAt 3 cfg0.N, ?_, ?_⟩
  · exact (θ_run _ _ _).mono (fun r h c => h c) (Kernel6Ideal.Value.run_blocks m g)
  · refine (θ_run _ _ _).mono (fun r h c => ⟨(h c).1.trans ?_, (h c).2⟩) (Reference6Ideal.Value.run m' g')
    rw [Reference6Ideal.Read.val_main_v59_eq]
    obtain ⟨e0, e1, e2, e3⟩ := ha c
    refine (congr (congr (congrArg₂ (Reference6Ideal.Read.val_main_v59 (F := Ideal)) e0 e1) e2) e3).trans ?_
    exact (final3 m c (finite _ _ _ _ (hp c))).symm

end Cert.Mod
-- ==== Proof.lean ====
/- The certificate's proof: the programs' runs (generated), the value claims (Proof/Attn.lean, Proof/Ffn.lean,
   Proof/Proj.lean, Proof/Ret.lean, Proof/Router.lean, Proof/Mod.lean), and the claim that joins them. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_rows
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_cond
public import proofs.«01_k».proof.Proof.Gen.Pre_finite_router
public import proofs.«01_k».proof.Proof.Gen.Pre_finite_gains
public import proofs.«01_k».proof.Proof.Gen.Pre_finite_gates
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ffn
public import proofs.«01_k».proof.Proof.Proj
public import proofs.«01_k».proof.Proof.Attn
public import proofs.«01_k».proof.Proof.Ret
public import proofs.«01_k».proof.Proof.Router
public import proofs.«01_k».proof.Proof.Mod
public import Idealize.ShloMosaic.Adequacy
public import Idealize.ShloMosaic.Init

@[expose] public section

noncomputable section

namespace Cert.Proof

open Idealize.ShloMosaic Idealize.SL.Sem

/-- The attention's reference runs to its end with its arguments unchanged; it declares no semaphore. -/
theorem frame_ref : quiescent_ReferenceIdeal (hReferenceIdeal := ReferenceIdeal.Gen.facts) := fun m ρ _ =>
  (θ_run ReferenceIdeal.defs _ _).mono (fun r h => ⟨fun c => (h c).2.2.2, sem_eq_zero_of_no_sems (by decide) r.2⟩)
    (ReferenceIdeal.Value.run (F := Ideal) m ρ)

/-- The expert networks' reference runs to its end with its arguments unchanged; it declares no semaphore. -/
theorem frame_ref2 : quiescent_Reference2Ideal (hReference2Ideal := Reference2Ideal.Gen.facts) := fun m ρ _ =>
  (θ_run Reference2Ideal.defs _ _).mono (fun r h => ⟨fun c => (h c).2, sem_eq_zero_of_no_sems (by decide) r.2⟩)
    (Reference2Ideal.Value.run (F := Ideal) m ρ)

/-- The projection's reference runs to its end with its arguments unchanged; it declares no semaphore. -/
theorem frame_ref3 : quiescent_Reference3Ideal (hReference3Ideal := Reference3Ideal.Gen.facts) := fun m ρ _ =>
  (θ_run Reference3Ideal.defs _ _).mono (fun r h => ⟨fun c => (h c).2, sem_eq_zero_of_no_sems (by decide) r.2⟩)
    (Reference3Ideal.Value.run (F := Ideal) m ρ)

/-- The retention's reference runs to its end with its arguments unchanged; it declares no semaphore. -/
theorem frame_ref4 : quiescent_Reference4Ideal (hReference4Ideal := Reference4Ideal.Gen.facts) := fun m ρ _ =>
  (θ_run Reference4Ideal.defs _ _).mono (fun r h => ⟨fun c => (h c).2.2.2, sem_eq_zero_of_no_sems (by decide) r.2⟩)
    (Reference4Ideal.Value.run (F := Ideal) m ρ)

/-- The router's reference runs to its end with its arguments unchanged; it declares no semaphore. -/
theorem frame_ref5 : quiescent_Reference5Ideal (hReference5Ideal := Reference5Ideal.Gen.facts) := fun m ρ _ =>
  (θ_run Reference5Ideal.defs _ _).mono (fun r h => ⟨fun c => (h c).2.2.2.2, sem_eq_zero_of_no_sems (by decide) r.2⟩)
    (Reference5Ideal.Value.run (F := Ideal) m ρ)

/-- The modulation's reference runs to its end with its arguments unchanged; it declares no semaphore. -/
theorem frame_ref6 : quiescent_Reference6Ideal (hReference6Ideal := Reference6Ideal.Gen.facts) := fun m ρ _ =>
  (θ_run Reference6Ideal.defs _ _).mono (fun r h => ⟨fun c => (h c).2, sem_eq_zero_of_no_sems (by decide) r.2⟩)
    (Reference6Ideal.Value.run (F := Ideal) m ρ)

/-- Everything the certificate claims. -/
theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Pre_finite_gains.Gen.facts, Pre_finite_gates.Gen.facts, Pre_finite_rows.Gen.facts, Pre_finite_router.Gen.facts,
    Pre_finite_cond.Gen.facts,
    fun m ρ _ => Kernel.Gen.frame m ρ,
    fun m ρ _ => KernelIdeal.Gen.frame m ρ,
    fun m ρ _ => KernelIdeal.Gen.frame m ρ,
    frame_ref,
    fun m ρ _ => frame_ref m ρ trivial,
    fun m ρ _ => Kernel2.Gen.frame m ρ,
    fun m ρ _ => Kernel2Ideal.Gen.frame m ρ,
    fun m ρ _ => Kernel2Ideal.Gen.frame m ρ,
    frame_ref2,
    fun m ρ _ => frame_ref2 m ρ trivial,
    fun m ρ _ => Kernel3.Gen.frame m ρ,
    fun m ρ _ => Kernel3Ideal.Gen.frame m ρ,
    frame_ref3,
    fun m ρ _ => Kernel4.Gen.frame m ρ,
    fun m ρ _ => Kernel4Ideal.Gen.frame m ρ,
    fun m ρ _ => Kernel4Ideal.Gen.frame m ρ,
    frame_ref4,
    fun m ρ _ => frame_ref4 m ρ trivial,
    fun m ρ _ => Kernel5.Gen.frame m ρ,
    fun m ρ _ => Kernel5Ideal.Gen.frame m ρ,
    fun m ρ _ => Kernel5Ideal.Gen.frame m ρ,
    frame_ref5,
    fun m ρ _ => frame_ref5 m ρ trivial,
    fun m ρ _ => Kernel6.Gen.frame m ρ,
    fun m ρ _ => Kernel6Ideal.Gen.frame m ρ,
    fun m ρ _ => Kernel6Ideal.Gen.frame m ρ,
    frame_ref6,
    fun m ρ _ => frame_ref6 m ρ trivial,
    trivial,
    Attn.algebraic,
    trivial,
    Ffn.algebraic,
    trivial,
    Proj.algebraic,
    trivial,
    Ret.algebraic,
    trivial,
    Router.algebraic,
    trivial,
    Mod.algebraic⟩

end Cert.Proof

end
